-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Refine (m : (ℓ : Loc Cert.Refine.nD Cert.Refine.τ Cert.Refine.sig) → Buf (Elt Bits) ℓ) : Prop :=
  True

def Pre_RefineIdeal (m : (ℓ : Loc Cert.RefineIdeal.nD Cert.RefineIdeal.τ Cert.RefineIdeal.sig) → Buf (Elt Ideal) ℓ) : Prop :=
  True

def Pre_RefineIdeal_images_exist [hPre_images_exist : Cert.Pre_images_exist.Facts] (m : (ℓ : Loc Cert.RefineIdeal.nD Cert.RefineIdeal.τ Cert.RefineIdeal.sig) → Buf (Elt Ideal) ℓ) : Prop :=
  ∀ c : Dev Cert.RefineIdeal.nD,
    (Cert.Pre_images_exist.fn (F := Ideal) (m ((c.tc : Thread Cert.RefineIdeal.nD Cert.RefineIdeal.τ).loc Cert.RefineIdeal.main_arg0)) (m ((c.tc : Thread Cert.RefineIdeal.nD Cert.RefineIdeal.τ).loc Cert.RefineIdeal.main_arg1)) (m ((c.tc : Thread Cert.RefineIdeal.nD Cert.RefineIdeal.τ).loc Cert.RefineIdeal.main_arg2)) (m ((c.tc : Thread Cert.RefineIdeal.nD Cert.RefineIdeal.τ).loc Cert.RefineIdeal.main_arg3)) (m ((c.tc : Thread Cert.RefineIdeal.nD Cert.RefineIdeal.τ).loc Cert.RefineIdeal.main_arg4)) (m ((c.tc : Thread Cert.RefineIdeal.nD Cert.RefineIdeal.τ).loc Cert.RefineIdeal.main_arg5)) (m ((c.tc : Thread Cert.RefineIdeal.nD Cert.RefineIdeal.τ).loc Cert.RefineIdeal.main_arg6)) (m ((c.tc : Thread Cert.RefineIdeal.nD Cert.RefineIdeal.τ).loc Cert.RefineIdeal.main_arg7)) (m ((c.tc : Thread Cert.RefineIdeal.nD Cert.RefineIdeal.τ).loc Cert.RefineIdeal.main_arg8)) (m ((c.tc : Thread Cert.RefineIdeal.nD Cert.RefineIdeal.τ).loc Cert.RefineIdeal.main_arg9)) (m ((c.tc : Thread Cert.RefineIdeal.nD Cert.RefineIdeal.τ).loc Cert.RefineIdeal.main_arg10)) (m ((c.tc : Thread Cert.RefineIdeal.nD Cert.RefineIdeal.τ).loc Cert.RefineIdeal.main_arg11)) (m ((c.tc : Thread Cert.RefineIdeal.nD Cert.RefineIdeal.τ).loc Cert.RefineIdeal.main_arg12))) = (fun _ => 1#1)

def Pre_RefineRefIdeal (m : (ℓ : Loc Cert.RefineRefIdeal.nD Cert.RefineRefIdeal.τ Cert.RefineRefIdeal.sig) → Buf (Elt Ideal) ℓ) : Prop :=
  True

def Pre_RefineRefIdeal_images_exist [hPre_images_exist : Cert.Pre_images_exist.Facts] (m : (ℓ : Loc Cert.RefineRefIdeal.nD Cert.RefineRefIdeal.τ Cert.RefineRefIdeal.sig) → Buf (Elt Ideal) ℓ) : Prop :=
  ∀ c : Dev Cert.RefineRefIdeal.nD,
    (Cert.Pre_images_exist.fn (F := Ideal) (m ((c.tc : Thread Cert.RefineRefIdeal.nD Cert.RefineRefIdeal.τ).loc Cert.RefineRefIdeal.main_arg0)) (m ((c.tc : Thread Cert.RefineRefIdeal.nD Cert.RefineRefIdeal.τ).loc Cert.RefineRefIdeal.main_arg1)) (m ((c.tc : Thread Cert.RefineRefIdeal.nD Cert.RefineRefIdeal.τ).loc Cert.RefineRefIdeal.main_arg2)) (m ((c.tc : Thread Cert.RefineRefIdeal.nD Cert.RefineRefIdeal.τ).loc Cert.RefineRefIdeal.main_arg3)) (m ((c.tc : Thread Cert.RefineRefIdeal.nD Cert.RefineRefIdeal.τ).loc Cert.RefineRefIdeal.main_arg4)) (m ((c.tc : Thread Cert.RefineRefIdeal.nD Cert.RefineRefIdeal.τ).loc Cert.RefineRefIdeal.main_arg5)) (m ((c.tc : Thread Cert.RefineRefIdeal.nD Cert.RefineRefIdeal.τ).loc Cert.RefineRefIdeal.main_arg6)) (m ((c.tc : Thread Cert.RefineRefIdeal.nD Cert.RefineRefIdeal.τ).loc Cert.RefineRefIdeal.main_arg7)) (m ((c.tc : Thread Cert.RefineRefIdeal.nD Cert.RefineRefIdeal.τ).loc Cert.RefineRefIdeal.main_arg8)) (m ((c.tc : Thread Cert.RefineRefIdeal.nD Cert.RefineRefIdeal.τ).loc Cert.RefineRefIdeal.main_arg9)) (m ((c.tc : Thread Cert.RefineRefIdeal.nD Cert.RefineRefIdeal.τ).loc Cert.RefineRefIdeal.main_arg10)) (m ((c.tc : Thread Cert.RefineRefIdeal.nD Cert.RefineRefIdeal.τ).loc Cert.RefineRefIdeal.main_arg11)) (m ((c.tc : Thread Cert.RefineRefIdeal.nD Cert.RefineRefIdeal.τ).loc Cert.RefineRefIdeal.main_arg12))) = (fun _ => 1#1)

def Pre_Upsample (m : (ℓ : Loc Cert.Upsample.nD Cert.Upsample.τ Cert.Upsample.sig) → Buf (Elt Bits) ℓ) : Prop :=
  True

def Pre_UpsampleIdeal (m : (ℓ : Loc Cert.UpsampleIdeal.nD Cert.UpsampleIdeal.τ Cert.UpsampleIdeal.sig) → Buf (Elt Ideal) ℓ) : Prop :=
  True

def Pre_UpsampleRefIdeal (m : (ℓ : Loc Cert.UpsampleRefIdeal.nD Cert.UpsampleRefIdeal.τ Cert.UpsampleRefIdeal.sig) → Buf (Elt Ideal) ℓ) : Prop :=
  True

def Pre_Middle (m : (ℓ : Loc Cert.Middle.nD Cert.Middle.τ Cert.Middle.sig) → Buf (Elt Bits) ℓ) : Prop :=
  True

def Pre_MiddleIdeal (m : (ℓ : Loc Cert.MiddleIdeal.nD Cert.MiddleIdeal.τ Cert.MiddleIdeal.sig) → Buf (Elt Ideal) ℓ) : Prop :=
  True

def Pre_MiddleRefIdeal (m : (ℓ : Loc Cert.MiddleRefIdeal.nD Cert.MiddleRefIdeal.τ Cert.MiddleRefIdeal.sig) → Buf (Elt Ideal) ℓ) : Prop :=
  True

def Pre_Finish (m : (ℓ : Loc Cert.Finish.nD Cert.Finish.τ Cert.Finish.sig) → Buf (Elt Bits) ℓ) : Prop :=
  True

def Pre_FinishIdeal (m : (ℓ : Loc Cert.FinishIdeal.nD Cert.FinishIdeal.τ Cert.FinishIdeal.sig) → Buf (Elt Ideal) ℓ) : Prop :=
  True

def Pre_FinishRefIdeal (m : (ℓ : Loc Cert.FinishRefIdeal.nD Cert.FinishRefIdeal.τ Cert.FinishRefIdeal.sig) → Buf (Elt Ideal) ℓ) : Prop :=
  True

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8)
      ∧ r.2.mem ((c.tc : Thread Cert.Mlp.nD Cert.Mlp.τ).loc Cert.Mlp.main_arg9) = m ((c.tc : Thread Cert.Mlp.nD Cert.Mlp.τ).loc Cert.Mlp.main_arg9))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8)
      ∧ r.2.mem ((c.tc : Thread Cert.MlpRefIdeal.nD Cert.MlpRefIdeal.τ).loc Cert.MlpRefIdeal.main_arg9) = m ((c.tc : Thread Cert.MlpRefIdeal.nD Cert.MlpRefIdeal.τ).loc Cert.MlpRefIdeal.main_arg9))
      ∧ r.2.sem = fun _ => 0)

def quiescent_Refine [hRefine : Cert.Refine.Facts] : Prop :=
  ∀ (m : (ℓ : Loc Cert.Refine.nD Cert.Refine.τ Cert.Refine.sig) → Buf (Elt Bits) ℓ) (g : Dev Cert.Refine.nD → PrngReg), Pre_Refine m →
    θ_run (Cert.Refine.defs (F := Bits)) (onTc (τ := Cert.Refine.τ) (Cert.Refine.main (F := Bits))) ⟨m, fun _ => 0, g⟩ (fun r => (∀ c : Dev Cert.Refine.nD,
      r.2.mem ((c.tc : Thread Cert.Refine.nD Cert.Refine.τ).loc Cert.Refine.main_arg0) = m ((c.tc : Thread Cert.Refine.nD Cert.Refine.τ).loc Cert.Refine.main_arg0)
      ∧ r.2.mem ((c.tc : Thread Cert.Refine.nD Cert.Refine.τ).loc Cert.Refine.main_arg1) = m ((c.tc : Thread Cert.Refine.nD Cert.Refine.τ).loc Cert.Refine.main_arg1)
      ∧ r.2.mem ((c.tc : Thread Cert.Refine.nD Cert.Refine.τ).loc Cert.Refine.main_arg2) = m ((c.tc : Thread Cert.Refine.nD Cert.Refine.τ).loc Cert.Refine.main_arg2)
      ∧ r.2.mem ((c.tc : Thread Cert.Refine.nD Cert.Refine.τ).loc Cert.Refine.main_arg3) = m ((c.tc : Thread Cert.Refine.nD Cert.Refine.τ).loc Cert.Refine.main_arg3)
      ∧ r.2.mem ((c.tc : Thread Cert.Refine.nD Cert.Refine.τ).loc Cert.Refine.main_arg4) = m ((c.tc : Thread Cert.Refine.nD Cert.Refine.τ).loc Cert.Refine.main_arg4)
      ∧ r.2.mem ((c.tc : Thread Cert.Refine.nD Cert.Refine.τ).loc Cert.Refine.main_arg5) = m ((c.tc : Thread Cert.Refine.nD Cert.Refine.τ).loc Cert.Refine.main_arg5)
      ∧ r.2.mem ((c.tc : Thread Cert.Refine.nD Cert.Refine.τ).loc Cert.Refine.main_arg6) = m ((c.tc : Thread Cert.Refine.nD Cert.Refine.τ).loc Cert.Refine.main_arg6)
      ∧ r.2.mem ((c.tc : Thread Cert.Refine.nD Cert.Refine.τ).loc Cert.Refine.main_arg7) = m ((c.tc : Thread Cert.Refine.nD Cert.Refine.τ).loc Cert.Refine.main_arg7)
      ∧ r.2.mem ((c.tc : Thread Cert.Refine.nD Cert.Refine.τ).loc Cert.Refine.main_arg8) = m ((c.tc : Thread Cert.Refine.nD Cert.Refine.τ).loc Cert.Refine.main_arg8)
      ∧ r.2.mem ((c.tc : Thread Cert.Refine.nD Cert.Refine.τ).loc Cert.Refine.main_arg9) = m ((c.tc : Thread Cert.Refine.nD Cert.Refine.τ).loc Cert.Refine.main_arg9)
      ∧ r.2.mem ((c.tc : Thread Cert.Refine.nD Cert.Refine.τ).loc Cert.Refine.main_arg10) = m ((c.tc : Thread Cert.Refine.nD Cert.Refine.τ).loc Cert.Refine.main_arg10)
      ∧ r.2.mem ((c.tc : Thread Cert.Refine.nD Cert.Refine.τ).loc Cert.Refine.main_arg11) = m ((c.tc : Thread Cert.Refine.nD Cert.Refine.τ).loc Cert.Refine.main_arg11)
      ∧ r.2.mem ((c.tc : Thread Cert.Refine.nD Cert.Refine.τ).loc Cert.Refine.main_arg12) = m ((c.tc : Thread Cert.Refine.nD Cert.Refine.τ).loc Cert.Refine.main_arg12))
      ∧ r.2.sem = fun _ => 0)

def quiescent_RefineIdeal [hRefineIdeal : Cert.RefineIdeal.Facts] : Prop :=
  ∀ (m : (ℓ : Loc Cert.RefineIdeal.nD Cert.RefineIdeal.τ Cert.RefineIdeal.sig) → Buf (Elt Ideal) ℓ) (g : Dev Cert.RefineIdeal.nD → PrngReg), Pre_RefineIdeal m →
    θ_run (Cert.RefineIdeal.defs (F := Ideal)) (onTc (τ := Cert.RefineIdeal.τ) (Cert.RefineIdeal.main (F := Ideal))) ⟨m, fun _ => 0, g⟩ (fun r => (∀ c : Dev Cert.RefineIdeal.nD,
      r.2.mem ((c.tc : Thread Cert.RefineIdeal.nD Cert.RefineIdeal.τ).loc Cert.RefineIdeal.main_arg0) = m ((c.tc : Thread Cert.RefineIdeal.nD Cert.RefineIdeal.τ).loc Cert.RefineIdeal.main_arg0)
      ∧ r.2.mem ((c.tc : Thread Cert.RefineIdeal.nD Cert.RefineIdeal.τ).loc Cert.RefineIdeal.main_arg1) = m ((c.tc : Thread Cert.RefineIdeal.nD Cert.RefineIdeal.τ).loc Cert.RefineIdeal.main_arg1)
      ∧ r.2.mem ((c.tc : Thread Cert.RefineIdeal.nD Cert.RefineIdeal.τ).loc Cert.RefineIdeal.main_arg2) = m ((c.tc : Thread Cert.RefineIdeal.nD Cert.RefineIdeal.τ).loc Cert.RefineIdeal.main_arg2)
      ∧ r.2.mem ((c.tc : Thread Cert.RefineIdeal.nD Cert.RefineIdeal.τ).loc Cert.RefineIdeal.main_arg3) = m ((c.tc : Thread Cert.RefineIdeal.nD Cert.RefineIdeal.τ).loc Cert.RefineIdeal.main_arg3)
      ∧ r.2.mem ((c.tc : Thread Cert.RefineIdeal.nD Cert.RefineIdeal.τ).loc Cert.RefineIdeal.main_arg4) = m ((c.tc : Thread Cert.RefineIdeal.nD Cert.RefineIdeal.τ).loc Cert.RefineIdeal.main_arg4)
      ∧ r.2.mem ((c.tc : Thread Cert.RefineIdeal.nD Cert.RefineIdeal.τ).loc Cert.RefineIdeal.main_arg5) = m ((c.tc : Thread Cert.RefineIdeal.nD Cert.RefineIdeal.τ).loc Cert.RefineIdeal.main_arg5)
      ∧ r.2.mem ((c.tc : Thread Cert.RefineIdeal.nD Cert.RefineIdeal.τ).loc Cert.RefineIdeal.main_arg6) = m ((c.tc : Thread Cert.RefineIdeal.nD Cert.RefineIdeal.τ).loc Cert.RefineIdeal.main_arg6)
      ∧ r.2.mem ((c.tc : Thread Cert.RefineIdeal.nD Cert.RefineIdeal.τ).loc Cert.RefineIdeal.main_arg7) = m ((c.tc : Thread Cert.RefineIdeal.nD Cert.RefineIdeal.τ).loc Cert.RefineIdeal.main_arg7)
      ∧ r.2.mem ((c.tc : Thread Cert.RefineIdeal.nD Cert.RefineIdeal.τ).loc Cert.RefineIdeal.main_arg8) = m ((c.tc : Thread Cert.RefineIdeal.nD Cert.RefineIdeal.τ).loc Cert.RefineIdeal.main_arg8)
      ∧ r.2.mem ((c.tc : Thread Cert.RefineIdeal.nD Cert.RefineIdeal.τ).loc Cert.RefineIdeal.main_arg9) = m ((c.tc : Thread Cert.RefineIdeal.nD Cert.RefineIdeal.τ).loc Cert.RefineIdeal.main_arg9)
      ∧ r.2.mem ((c.tc : Thread Cert.RefineIdeal.nD Cert.RefineIdeal.τ).loc Cert.RefineIdeal.main_arg10) = m ((c.tc : Thread Cert.RefineIdeal.nD Cert.RefineIdeal.τ).loc Cert.RefineIdeal.main_arg10)
      ∧ r.2.mem ((c.tc : Thread Cert.RefineIdeal.nD Cert.RefineIdeal.τ).loc Cert.RefineIdeal.main_arg11) = m ((c.tc : Thread Cert.RefineIdeal.nD Cert.RefineIdeal.τ).loc Cert.RefineIdeal.main_arg11)
      ∧ r.2.mem ((c.tc : Thread Cert.RefineIdeal.nD Cert.RefineIdeal.τ).loc Cert.RefineIdeal.main_arg12) = m ((c.tc : Thread Cert.RefineIdeal.nD Cert.RefineIdeal.τ).loc Cert.RefineIdeal.main_arg12))
      ∧ r.2.sem = fun _ => 0)

def quiescent_RefineIdeal_pre_images_exist [hRefineIdeal : Cert.RefineIdeal.Facts] [hPre_images_exist : Cert.Pre_images_exist.Facts] : Prop :=
  ∀ (m : (ℓ : Loc Cert.RefineIdeal.nD Cert.RefineIdeal.τ Cert.RefineIdeal.sig) → Buf (Elt Ideal) ℓ) (g : Dev Cert.RefineIdeal.nD → PrngReg), Pre_RefineIdeal_images_exist m →
    θ_run (Cert.RefineIdeal.defs (F := Ideal)) (onTc (τ := Cert.RefineIdeal.τ) (Cert.RefineIdeal.main (F := Ideal))) ⟨m, fun _ => 0, g⟩ (fun r => (∀ c : Dev Cert.RefineIdeal.nD,
      r.2.mem ((c.tc : Thread Cert.RefineIdeal.nD Cert.RefineIdeal.τ).loc Cert.RefineIdeal.main_arg0) = m ((c.tc : Thread Cert.RefineIdeal.nD Cert.RefineIdeal.τ).loc Cert.RefineIdeal.main_arg0)
      ∧ r.2.mem ((c.tc : Thread Cert.RefineIdeal.nD Cert.RefineIdeal.τ).loc Cert.RefineIdeal.main_arg1) = m ((c.tc : Thread Cert.RefineIdeal.nD Cert.RefineIdeal.τ).loc Cert.RefineIdeal.main_arg1)
      ∧ r.2.mem ((c.tc : Thread Cert.RefineIdeal.nD Cert.RefineIdeal.τ).loc Cert.RefineIdeal.main_arg2) = m ((c.tc : Thread Cert.RefineIdeal.nD Cert.RefineIdeal.τ).loc Cert.RefineIdeal.main_arg2)
      ∧ r.2.mem ((c.tc : Thread Cert.RefineIdeal.nD Cert.RefineIdeal.τ).loc Cert.RefineIdeal.main_arg3) = m ((c.tc : Thread Cert.RefineIdeal.nD Cert.RefineIdeal.τ).loc Cert.RefineIdeal.main_arg3)
      ∧ r.2.mem ((c.tc : Thread Cert.RefineIdeal.nD Cert.RefineIdeal.τ).loc Cert.RefineIdeal.main_arg4) = m ((c.tc : Thread Cert.RefineIdeal.nD Cert.RefineIdeal.τ).loc Cert.RefineIdeal.main_arg4)
      ∧ r.2.mem ((c.tc : Thread Cert.RefineIdeal.nD Cert.RefineIdeal.τ).loc Cert.RefineIdeal.main_arg5) = m ((c.tc : Thread Cert.RefineIdeal.nD Cert.RefineIdeal.τ).loc Cert.RefineIdeal.main_arg5)
      ∧ r.2.mem ((c.tc : Thread Cert.RefineIdeal.nD Cert.RefineIdeal.τ).loc Cert.RefineIdeal.main_arg6) = m ((c.tc : Thread Cert.RefineIdeal.nD Cert.RefineIdeal.τ).loc Cert.RefineIdeal.main_arg6)
      ∧ r.2.mem ((c.tc : Thread Cert.RefineIdeal.nD Cert.RefineIdeal.τ).loc Cert.RefineIdeal.main_arg7) = m ((c.tc : Thread Cert.RefineIdeal.nD Cert.RefineIdeal.τ).loc Cert.RefineIdeal.main_arg7)
      ∧ r.2.mem ((c.tc : Thread Cert.RefineIdeal.nD Cert.RefineIdeal.τ).loc Cert.RefineIdeal.main_arg8) = m ((c.tc : Thread Cert.RefineIdeal.nD Cert.RefineIdeal.τ).loc Cert.RefineIdeal.main_arg8)
      ∧ r.2.mem ((c.tc : Thread Cert.RefineIdeal.nD Cert.RefineIdeal.τ).loc Cert.RefineIdeal.main_arg9) = m ((c.tc : Thread Cert.RefineIdeal.nD Cert.RefineIdeal.τ).loc Cert.RefineIdeal.main_arg9)
      ∧ r.2.mem ((c.tc : Thread Cert.RefineIdeal.nD Cert.RefineIdeal.τ).loc Cert.RefineIdeal.main_arg10) = m ((c.tc : Thread Cert.RefineIdeal.nD Cert.RefineIdeal.τ).loc Cert.RefineIdeal.main_arg10)
      ∧ r.2.mem ((c.tc : Thread Cert.RefineIdeal.nD Cert.RefineIdeal.τ).loc Cert.RefineIdeal.main_arg11) = m ((c.tc : Thread Cert.RefineIdeal.nD Cert.RefineIdeal.τ).loc Cert.RefineIdeal.main_arg11)
      ∧ r.2.mem ((c.tc : Thread Cert.RefineIdeal.nD Cert.RefineIdeal.τ).loc Cert.RefineIdeal.main_arg12) = m ((c.tc : Thread Cert.RefineIdeal.nD Cert.RefineIdeal.τ).loc Cert.RefineIdeal.main_arg12))
      ∧ r.2.sem = fun _ => 0)

def quiescent_RefineRefIdeal [hRefineRefIdeal : Cert.RefineRefIdeal.Facts] : Prop :=
  ∀ (m : (ℓ : Loc Cert.RefineRefIdeal.nD Cert.RefineRefIdeal.τ Cert.RefineRefIdeal.sig) → Buf (Elt Ideal) ℓ) (g : Dev Cert.RefineRefIdeal.nD → PrngReg), Pre_RefineRefIdeal m →
    θ_run (Cert.RefineRefIdeal.defs (F := Ideal)) (onTc (τ := Cert.RefineRefIdeal.τ) (Cert.RefineRefIdeal.main (F := Ideal))) ⟨m, fun _ => 0, g⟩ (fun r => (∀ c : Dev Cert.RefineRefIdeal.nD,
      r.2.mem ((c.tc : Thread Cert.RefineRefIdeal.nD Cert.RefineRefIdeal.τ).loc Cert.RefineRefIdeal.main_arg0) = m ((c.tc : Thread Cert.RefineRefIdeal.nD Cert.RefineRefIdeal.τ).loc Cert.RefineRefIdeal.main_arg0)
      ∧ r.2.mem ((c.tc : Thread Cert.RefineRefIdeal.nD Cert.RefineRefIdeal.τ).loc Cert.RefineRefIdeal.main_arg1) = m ((c.tc : Thread Cert.RefineRefIdeal.nD Cert.RefineRefIdeal.τ).loc Cert.RefineRefIdeal.main_arg1)
      ∧ r.2.mem ((c.tc : Thread Cert.RefineRefIdeal.nD Cert.RefineRefIdeal.τ).loc Cert.RefineRefIdeal.main_arg2) = m ((c.tc : Thread Cert.RefineRefIdeal.nD Cert.RefineRefIdeal.τ).loc Cert.RefineRefIdeal.main_arg2)
      ∧ r.2.mem ((c.tc : Thread Cert.RefineRefIdeal.nD Cert.RefineRefIdeal.τ).loc Cert.RefineRefIdeal.main_arg3) = m ((c.tc : Thread Cert.RefineRefIdeal.nD Cert.RefineRefIdeal.τ).loc Cert.RefineRefIdeal.main_arg3)
      ∧ r.2.mem ((c.tc : Thread Cert.RefineRefIdeal.nD Cert.RefineRefIdeal.τ).loc Cert.RefineRefIdeal.main_arg4) = m ((c.tc : Thread Cert.RefineRefIdeal.nD Cert.RefineRefIdeal.τ).loc Cert.RefineRefIdeal.main_arg4)
      ∧ r.2.mem ((c.tc : Thread Cert.RefineRefIdeal.nD Cert.RefineRefIdeal.τ).loc Cert.RefineRefIdeal.main_arg5) = m ((c.tc : Thread Cert.RefineRefIdeal.nD Cert.RefineRefIdeal.τ).loc Cert.RefineRefIdeal.main_arg5)
      ∧ r.2.mem ((c.tc : Thread Cert.RefineRefIdeal.nD Cert.RefineRefIdeal.τ).loc Cert.RefineRefIdeal.main_arg6) = m ((c.tc : Thread Cert.RefineRefIdeal.nD Cert.RefineRefIdeal.τ).loc Cert.RefineRefIdeal.main_arg6)
      ∧ r.2.mem ((c.tc : Thread Cert.RefineRefIdeal.nD Cert.RefineRefIdeal.τ).loc Cert.RefineRefIdeal.main_arg7) = m ((c.tc : Thread Cert.RefineRefIdeal.nD Cert.RefineRefIdeal.τ).loc Cert.RefineRefIdeal.main_arg7)
      ∧ r.2.mem ((c.tc : Thread Cert.RefineRefIdeal.nD Cert.RefineRefIdeal.τ).loc Cert.RefineRefIdeal.main_arg8) = m ((c.tc : Thread Cert.RefineRefIdeal.nD Cert.RefineRefIdeal.τ).loc Cert.RefineRefIdeal.main_arg8)
      ∧ r.2.mem ((c.tc : Thread Cert.RefineRefIdeal.nD Cert.RefineRefIdeal.τ).loc Cert.RefineRefIdeal.main_arg9) = m ((c.tc : Thread Cert.RefineRefIdeal.nD Cert.RefineRefIdeal.τ).loc Cert.RefineRefIdeal.main_arg9)
      ∧ r.2.mem ((c.tc : Thread Cert.RefineRefIdeal.nD Cert.RefineRefIdeal.τ).loc Cert.RefineRefIdeal.main_arg10) = m ((c.tc : Thread Cert.RefineRefIdeal.nD Cert.RefineRefIdeal.τ).loc Cert.RefineRefIdeal.main_arg10)
      ∧ r.2.mem ((c.tc : Thread Cert.RefineRefIdeal.nD Cert.RefineRefIdeal.τ).loc Cert.RefineRefIdeal.main_arg11) = m ((c.tc : Thread Cert.RefineRefIdeal.nD Cert.RefineRefIdeal.τ).loc Cert.RefineRefIdeal.main_arg11)
      ∧ r.2.mem ((c.tc : Thread Cert.RefineRefIdeal.nD Cert.RefineRefIdeal.τ).loc Cert.RefineRefIdeal.main_arg12) = m ((c.tc : Thread Cert.RefineRefIdeal.nD Cert.RefineRefIdeal.τ).loc Cert.RefineRefIdeal.main_arg12))
      ∧ r.2.sem = fun _ => 0)

def quiescent_RefineRefIdeal_pre_images_exist [hRefineRefIdeal : Cert.RefineRefIdeal.Facts] [hPre_images_exist : Cert.Pre_images_exist.Facts] : Prop :=
  ∀ (m : (ℓ : Loc Cert.RefineRefIdeal.nD Cert.RefineRefIdeal.τ Cert.RefineRefIdeal.sig) → Buf (Elt Ideal) ℓ) (g : Dev Cert.RefineRefIdeal.nD → PrngReg), Pre_RefineRefIdeal_images_exist m →
    θ_run (Cert.RefineRefIdeal.defs (F := Ideal)) (onTc (τ := Cert.RefineRefIdeal.τ) (Cert.RefineRefIdeal.main (F := Ideal))) ⟨m, fun _ => 0, g⟩ (fun r => (∀ c : Dev Cert.RefineRefIdeal.nD,
      r.2.mem ((c.tc : Thread Cert.RefineRefIdeal.nD Cert.RefineRefIdeal.τ).loc Cert.RefineRefIdeal.main_arg0) = m ((c.tc : Thread Cert.RefineRefIdeal.nD Cert.RefineRefIdeal.τ).loc Cert.RefineRefIdeal.main_arg0)
      ∧ r.2.mem ((c.tc : Thread Cert.RefineRefIdeal.nD Cert.RefineRefIdeal.τ).loc Cert.RefineRefIdeal.main_arg1) = m ((c.tc : Thread Cert.RefineRefIdeal.nD Cert.RefineRefIdeal.τ).loc Cert.RefineRefIdeal.main_arg1)
      ∧ r.2.mem ((c.tc : Thread Cert.RefineRefIdeal.nD Cert.RefineRefIdeal.τ).loc Cert.RefineRefIdeal.main_arg2) = m ((c.tc : Thread Cert.RefineRefIdeal.nD Cert.RefineRefIdeal.τ).loc Cert.RefineRefIdeal.main_arg2)
      ∧ r.2.mem ((c.tc : Thread Cert.RefineRefIdeal.nD Cert.RefineRefIdeal.τ).loc Cert.RefineRefIdeal.main_arg3) = m ((c.tc : Thread Cert.RefineRefIdeal.nD Cert.RefineRefIdeal.τ).loc Cert.RefineRefIdeal.main_arg3)
      ∧ r.2.mem ((c.tc : Thread Cert.RefineRefIdeal.nD Cert.RefineRefIdeal.τ).loc Cert.RefineRefIdeal.main_arg4) = m ((c.tc : Thread Cert.RefineRefIdeal.nD Cert.RefineRefIdeal.τ).loc Cert.RefineRefIdeal.main_arg4)
      ∧ r.2.mem ((c.tc : Thread Cert.RefineRefIdeal.nD Cert.RefineRefIdeal.τ).loc Cert.RefineRefIdeal.main_arg5) = m ((c.tc : Thread Cert.RefineRefIdeal.nD Cert.RefineRefIdeal.τ).loc Cert.RefineRefIdeal.main_arg5)
      ∧ r.2.mem ((c.tc : Thread Cert.RefineRefIdeal.nD Cert.RefineRefIdeal.τ).loc Cert.RefineRefIdeal.main_arg6) = m ((c.tc : Thread Cert.RefineRefIdeal.nD Cert.RefineRefIdeal.τ).loc Cert.RefineRefIdeal.main_arg6)
      ∧ r.2.mem ((c.tc : Thread Cert.RefineRefIdeal.nD Cert.RefineRefIdeal.τ).loc Cert.RefineRefIdeal.main_arg7) = m ((c.tc : Thread Cert.RefineRefIdeal.nD Cert.RefineRefIdeal.τ).loc Cert.RefineRefIdeal.main_arg7)
      ∧ r.2.mem ((c.tc : Thread Cert.RefineRefIdeal.nD Cert.RefineRefIdeal.τ).loc Cert.RefineRefIdeal.main_arg8) = m ((c.tc : Thread Cert.RefineRefIdeal.nD Cert.RefineRefIdeal.τ).loc Cert.RefineRefIdeal.main_arg8)
      ∧ r.2.mem ((c.tc : Thread Cert.RefineRefIdeal.nD Cert.RefineRefIdeal.τ).loc Cert.RefineRefIdeal.main_arg9) = m ((c.tc : Thread Cert.RefineRefIdeal.nD Cert.RefineRefIdeal.τ).loc Cert.RefineRefIdeal.main_arg9)
      ∧ r.2.mem ((c.tc : Thread Cert.RefineRefIdeal.nD Cert.RefineRefIdeal.τ).loc Cert.RefineRefIdeal.main_arg10) = m ((c.tc : Thread Cert.RefineRefIdeal.nD Cert.RefineRefIdeal.τ).loc Cert.RefineRefIdeal.main_arg10)
      ∧ r.2.mem ((c.tc : Thread Cert.RefineRefIdeal.nD Cert.RefineRefIdeal.τ).loc Cert.RefineRefIdeal.main_arg11) = m ((c.tc : Thread Cert.RefineRefIdeal.nD Cert.RefineRefIdeal.τ).loc Cert.RefineRefIdeal.main_arg11)
      ∧ r.2.mem ((c.tc : Thread Cert.RefineRefIdeal.nD Cert.RefineRefIdeal.τ).loc Cert.RefineRefIdeal.main_arg12) = m ((c.tc : Thread Cert.RefineRefIdeal.nD Cert.RefineRefIdeal.τ).loc Cert.RefineRefIdeal.main_arg12))
      ∧ r.2.sem = fun _ => 0)

def quiescent_Upsample [hUpsample : Cert.Upsample.Facts] : Prop :=
  ∀ (m : (ℓ : Loc Cert.Upsample.nD Cert.Upsample.τ Cert.Upsample.sig) → Buf (Elt Bits) ℓ) (g : Dev Cert.Upsample.nD → PrngReg), Pre_Upsample m →
    θ_run (Cert.Upsample.defs (F := Bits)) (onTc (τ := Cert.Upsample.τ) (Cert.Upsample.main (F := Bits))) ⟨m, fun _ => 0, g⟩ (fun r => (∀ c : Dev Cert.Upsample.nD,
      r.2.mem ((c.tc : Thread Cert.Upsample.nD Cert.Upsample.τ).loc Cert.Upsample.main_arg0) = m ((c.tc : Thread Cert.Upsample.nD Cert.Upsample.τ).loc Cert.Upsample.main_arg0))
      ∧ r.2.sem = fun _ => 0)

def quiescent_UpsampleIdeal [hUpsampleIdeal : Cert.UpsampleIdeal.Facts] : Prop :=
  ∀ (m : (ℓ : Loc Cert.UpsampleIdeal.nD Cert.UpsampleIdeal.τ Cert.UpsampleIdeal.sig) → Buf (Elt Ideal) ℓ) (g : Dev Cert.UpsampleIdeal.nD → PrngReg), Pre_UpsampleIdeal m →
    θ_run (Cert.UpsampleIdeal.defs (F := Ideal)) (onTc (τ := Cert.UpsampleIdeal.τ) (Cert.UpsampleIdeal.main (F := Ideal))) ⟨m, fun _ => 0, g⟩ (fun r => (∀ c : Dev Cert.UpsampleIdeal.nD,
      r.2.mem ((c.tc : Thread Cert.UpsampleIdeal.nD Cert.UpsampleIdeal.τ).loc Cert.UpsampleIdeal.main_arg0) = m ((c.tc : Thread Cert.UpsampleIdeal.nD Cert.UpsampleIdeal.τ).loc Cert.UpsampleIdeal.main_arg0))
      ∧ r.2.sem = fun _ => 0)

def quiescent_UpsampleRefIdeal [hUpsampleRefIdeal : Cert.UpsampleRefIdeal.Facts] : Prop :=
  ∀ (m : (ℓ : Loc Cert.UpsampleRefIdeal.nD Cert.UpsampleRefIdeal.τ Cert.UpsampleRefIdeal.sig) → Buf (Elt Ideal) ℓ) (g : Dev Cert.UpsampleRefIdeal.nD → PrngReg), Pre_UpsampleRefIdeal m →
    θ_run (Cert.UpsampleRefIdeal.defs (F := Ideal)) (onTc (τ := Cert.UpsampleRefIdeal.τ) (Cert.UpsampleRefIdeal.main (F := Ideal))) ⟨m, fun _ => 0, g⟩ (fun r => (∀ c : Dev Cert.UpsampleRefIdeal.nD,
      r.2.mem ((c.tc : Thread Cert.UpsampleRefIdeal.nD Cert.UpsampleRefIdeal.τ).loc Cert.UpsampleRefIdeal.main_arg0) = m ((c.tc : Thread Cert.UpsampleRefIdeal.nD Cert.UpsampleRefIdeal.τ).loc Cert.UpsampleRefIdeal.main_arg0))
      ∧ r.2.sem = fun _ => 0)

def quiescent_Middle [hMiddle : Cert.Middle.Facts] : Prop :=
  ∀ (m : (ℓ : Loc Cert.Middle.nD Cert.Middle.τ Cert.Middle.sig) → Buf (Elt Bits) ℓ) (g : Dev Cert.Middle.nD → PrngReg), Pre_Middle m →
    θ_run (Cert.Middle.defs (F := Bits)) (onTc (τ := Cert.Middle.τ) (Cert.Middle.main (F := Bits))) ⟨m, fun _ => 0, g⟩ (fun r => (∀ c : Dev Cert.Middle.nD,
      r.2.mem ((c.tc : Thread Cert.Middle.nD Cert.Middle.τ).loc Cert.Middle.main_arg0) = m ((c.tc : Thread Cert.Middle.nD Cert.Middle.τ).loc Cert.Middle.main_arg0))
      ∧ r.2.sem = fun _ => 0)

def quiescent_MiddleIdeal [hMiddleIdeal : Cert.MiddleIdeal.Facts] : Prop :=
  ∀ (m : (ℓ : Loc Cert.MiddleIdeal.nD Cert.MiddleIdeal.τ Cert.MiddleIdeal.sig) → Buf (Elt Ideal) ℓ) (g : Dev Cert.MiddleIdeal.nD → PrngReg), Pre_MiddleIdeal m →
    θ_run (Cert.MiddleIdeal.defs (F := Ideal)) (onTc (τ := Cert.MiddleIdeal.τ) (Cert.MiddleIdeal.main (F := Ideal))) ⟨m, fun _ => 0, g⟩ (fun r => (∀ c : Dev Cert.MiddleIdeal.nD,
      r.2.mem ((c.tc : Thread Cert.MiddleIdeal.nD Cert.MiddleIdeal.τ).loc Cert.MiddleIdeal.main_arg0) = m ((c.tc : Thread Cert.MiddleIdeal.nD Cert.MiddleIdeal.τ).loc Cert.MiddleIdeal.main_arg0))
      ∧ r.2.sem = fun _ => 0)

def quiescent_MiddleRefIdeal [hMiddleRefIdeal : Cert.MiddleRefIdeal.Facts] : Prop :=
  ∀ (m : (ℓ : Loc Cert.MiddleRefIdeal.nD Cert.MiddleRefIdeal.τ Cert.MiddleRefIdeal.sig) → Buf (Elt Ideal) ℓ) (g : Dev Cert.MiddleRefIdeal.nD → PrngReg), Pre_MiddleRefIdeal m →
    θ_run (Cert.MiddleRefIdeal.defs (F := Ideal)) (onTc (τ := Cert.MiddleRefIdeal.τ) (Cert.MiddleRefIdeal.main (F := Ideal))) ⟨m, fun _ => 0, g⟩ (fun r => (∀ c : Dev Cert.MiddleRefIdeal.nD,
      r.2.mem ((c.tc : Thread Cert.MiddleRefIdeal.nD Cert.MiddleRefIdeal.τ).loc Cert.MiddleRefIdeal.main_arg0) = m ((c.tc : Thread Cert.MiddleRefIdeal.nD Cert.MiddleRefIdeal.τ).loc Cert.MiddleRefIdeal.main_arg0))
      ∧ r.2.sem = fun _ => 0)

def quiescent_Finish [hFinish : Cert.Finish.Facts] : Prop :=
  ∀ (m : (ℓ : Loc Cert.Finish.nD Cert.Finish.τ Cert.Finish.sig) → Buf (Elt Bits) ℓ) (g : Dev Cert.Finish.nD → PrngReg), Pre_Finish m →
    θ_run (Cert.Finish.defs (F := Bits)) (onTc (τ := Cert.Finish.τ) (Cert.Finish.main (F := Bits))) ⟨m, fun _ => 0, g⟩ (fun r => (∀ c : Dev Cert.Finish.nD,
      r.2.mem ((c.tc : Thread Cert.Finish.nD Cert.Finish.τ).loc Cert.Finish.main_arg0) = m ((c.tc : Thread Cert.Finish.nD Cert.Finish.τ).loc Cert.Finish.main_arg0)
      ∧ r.2.mem ((c.tc : Thread Cert.Finish.nD Cert.Finish.τ).loc Cert.Finish.main_arg1) = m ((c.tc : Thread Cert.Finish.nD Cert.Finish.τ).loc Cert.Finish.main_arg1)
      ∧ r.2.mem ((c.tc : Thread Cert.Finish.nD Cert.Finish.τ).loc Cert.Finish.main_arg2) = m ((c.tc : Thread Cert.Finish.nD Cert.Finish.τ).loc Cert.Finish.main_arg2))
      ∧ r.2.sem = fun _ => 0)

def quiescent_FinishIdeal [hFinishIdeal : Cert.FinishIdeal.Facts] : Prop :=
  ∀ (m : (ℓ : Loc Cert.FinishIdeal.nD Cert.FinishIdeal.τ Cert.FinishIdeal.sig) → Buf (Elt Ideal) ℓ) (g : Dev Cert.FinishIdeal.nD → PrngReg), Pre_FinishIdeal m →
    θ_run (Cert.FinishIdeal.defs (F := Ideal)) (onTc (τ := Cert.FinishIdeal.τ) (Cert.FinishIdeal.main (F := Ideal))) ⟨m, fun _ => 0, g⟩ (fun r => (∀ c : Dev Cert.FinishIdeal.nD,
      r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
      ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
      ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2))
      ∧ r.2.sem = fun _ => 0)

def quiescent_FinishRefIdeal [hFinishRefIdeal : Cert.FinishRefIdeal.Facts] : Prop :=
  ∀ (m : (ℓ : Loc Cert.FinishRefIdeal.nD Cert.FinishRefIdeal.τ Cert.FinishRefIdeal.sig) → Buf (Elt Ideal) ℓ) (g : Dev Cert.FinishRefIdeal.nD → PrngReg), Pre_FinishRefIdeal m →
    θ_run (Cert.FinishRefIdeal.defs (F := Ideal)) (onTc (τ := Cert.FinishRefIdeal.τ) (Cert.FinishRefIdeal.main (F := Ideal))) ⟨m, fun _ => 0, g⟩ (fun r => (∀ c : Dev Cert.FinishRefIdeal.nD,
      r.2.mem ((c.tc : Thread Cert.FinishRefIdeal.nD Cert.FinishRefIdeal.τ).loc Cert.FinishRefIdeal.main_arg0) = m ((c.tc : Thread Cert.FinishRefIdeal.nD Cert.FinishRefIdeal.τ).loc Cert.FinishRefIdeal.main_arg0)
      ∧ r.2.mem ((c.tc : Thread Cert.FinishRefIdeal.nD Cert.FinishRefIdeal.τ).loc Cert.FinishRefIdeal.main_arg1) = m ((c.tc : Thread Cert.FinishRefIdeal.nD Cert.FinishRefIdeal.τ).loc Cert.FinishRefIdeal.main_arg1)
      ∧ r.2.mem ((c.tc : Thread Cert.FinishRefIdeal.nD Cert.FinishRefIdeal.τ).loc Cert.FinishRefIdeal.main_arg2) = m ((c.tc : Thread Cert.FinishRefIdeal.nD Cert.FinishRefIdeal.τ).loc Cert.FinishRefIdeal.main_arg2))
      ∧ r.2.sem = fun _ => 0)

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)
      ∧ m' ((c.tc : Thread Cert.MlpRefIdeal.nD Cert.MlpRefIdeal.τ).loc Cert.MlpRefIdeal.main_arg8) = m ((c.tc : Thread Cert.MlpIdeal.nD Cert.MlpIdeal.τ).loc Cert.MlpIdeal.main_arg8)
      ∧ m' ((c.tc : Thread Cert.MlpRefIdeal.nD Cert.MlpRefIdeal.τ).loc Cert.MlpRefIdeal.main_arg9) = m ((c.tc : Thread Cert.MlpIdeal.nD Cert.MlpIdeal.τ).loc Cert.MlpIdeal.main_arg9)) →
    ∃ (v0 : (c : Dev Cert.MlpIdeal.nD) → Buf (Elt Ideal) ((c.tc : Thread Cert.MlpIdeal.nD Cert.MlpIdeal.τ).loc Cert.MlpIdeal.main_v4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v4) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
          ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v32) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7)
          ∧ r.2.mem ((c.tc : Thread Cert.MlpRefIdeal.nD Cert.MlpRefIdeal.τ).loc Cert.MlpRefIdeal.main_arg8) = m' ((c.tc : Thread Cert.MlpRefIdeal.nD Cert.MlpRefIdeal.τ).loc Cert.MlpRefIdeal.main_arg8)
          ∧ r.2.mem ((c.tc : Thread Cert.MlpRefIdeal.nD Cert.MlpRefIdeal.τ).loc Cert.MlpRefIdeal.main_arg9) = m' ((c.tc : Thread Cert.MlpRefIdeal.nD Cert.MlpRefIdeal.τ).loc Cert.MlpRefIdeal.main_arg9))

def preserves_Refine_RefineIdeal : Prop :=
  True

def algebraic_RefineIdeal_RefineRefIdeal_pre_images_exist [hRefineIdeal : Cert.RefineIdeal.Facts] [hRefineRefIdeal : Cert.RefineRefIdeal.Facts] [hPre_images_exist : Cert.Pre_images_exist.Facts] : Prop :=
  ∀ (m : (ℓ : Loc Cert.RefineIdeal.nD Cert.RefineIdeal.τ Cert.RefineIdeal.sig) → Buf (Elt Ideal) ℓ) (g : Dev Cert.RefineIdeal.nD → PrngReg)
    (m' : (ℓ : Loc Cert.RefineRefIdeal.nD Cert.RefineRefIdeal.τ Cert.RefineRefIdeal.sig) → Buf (Elt Ideal) ℓ) (g' : Dev Cert.RefineRefIdeal.nD → PrngReg), Pre_RefineIdeal_images_exist m →
    (∀ c : Dev Cert.RefineIdeal.nD,
      m' ((c.tc : Thread Cert.RefineRefIdeal.nD Cert.RefineRefIdeal.τ).loc Cert.RefineRefIdeal.main_arg0) = m ((c.tc : Thread Cert.RefineIdeal.nD Cert.RefineIdeal.τ).loc Cert.RefineIdeal.main_arg0)
      ∧ m' ((c.tc : Thread Cert.RefineRefIdeal.nD Cert.RefineRefIdeal.τ).loc Cert.RefineRefIdeal.main_arg1) = m ((c.tc : Thread Cert.RefineIdeal.nD Cert.RefineIdeal.τ).loc Cert.RefineIdeal.main_arg1)
      ∧ m' ((c.tc : Thread Cert.RefineRefIdeal.nD Cert.RefineRefIdeal.τ).loc Cert.RefineRefIdeal.main_arg2) = m ((c.tc : Thread Cert.RefineIdeal.nD Cert.RefineIdeal.τ).loc Cert.RefineIdeal.main_arg2)
      ∧ m' ((c.tc : Thread Cert.RefineRefIdeal.nD Cert.RefineRefIdeal.τ).loc Cert.RefineRefIdeal.main_arg3) = m ((c.tc : Thread Cert.RefineIdeal.nD Cert.RefineIdeal.τ).loc Cert.RefineIdeal.main_arg3)
      ∧ m' ((c.tc : Thread Cert.RefineRefIdeal.nD Cert.RefineRefIdeal.τ).loc Cert.RefineRefIdeal.main_arg4) = m ((c.tc : Thread Cert.RefineIdeal.nD Cert.RefineIdeal.τ).loc Cert.RefineIdeal.main_arg4)
      ∧ m' ((c.tc : Thread Cert.RefineRefIdeal.nD Cert.RefineRefIdeal.τ).loc Cert.RefineRefIdeal.main_arg5) = m ((c.tc : Thread Cert.RefineIdeal.nD Cert.RefineIdeal.τ).loc Cert.RefineIdeal.main_arg5)
      ∧ m' ((c.tc : Thread Cert.RefineRefIdeal.nD Cert.RefineRefIdeal.τ).loc Cert.RefineRefIdeal.main_arg6) = m ((c.tc : Thread Cert.RefineIdeal.nD Cert.RefineIdeal.τ).loc Cert.RefineIdeal.main_arg6)
      ∧ m' ((c.tc : Thread Cert.RefineRefIdeal.nD Cert.RefineRefIdeal.τ).loc Cert.RefineRefIdeal.main_arg7) = m ((c.tc : Thread Cert.RefineIdeal.nD Cert.RefineIdeal.τ).loc Cert.RefineIdeal.main_arg7)
      ∧ m' ((c.tc : Thread Cert.RefineRefIdeal.nD Cert.RefineRefIdeal.τ).loc Cert.RefineRefIdeal.main_arg8) = m ((c.tc : Thread Cert.RefineIdeal.nD Cert.RefineIdeal.τ).loc Cert.RefineIdeal.main_arg8)
      ∧ m' ((c.tc : Thread Cert.RefineRefIdeal.nD Cert.RefineRefIdeal.τ).loc Cert.RefineRefIdeal.main_arg9) = m ((c.tc : Thread Cert.RefineIdeal.nD Cert.RefineIdeal.τ).loc Cert.RefineIdeal.main_arg9)
      ∧ m' ((c.tc : Thread Cert.RefineRefIdeal.nD Cert.RefineRefIdeal.τ).loc Cert.RefineRefIdeal.main_arg10) = m ((c.tc : Thread Cert.RefineIdeal.nD Cert.RefineIdeal.τ).loc Cert.RefineIdeal.main_arg10)
      ∧ m' ((c.tc : Thread Cert.RefineRefIdeal.nD Cert.RefineRefIdeal.τ).loc Cert.RefineRefIdeal.main_arg11) = m ((c.tc : Thread Cert.RefineIdeal.nD Cert.RefineIdeal.τ).loc Cert.RefineIdeal.main_arg11)
      ∧ m' ((c.tc : Thread Cert.RefineRefIdeal.nD Cert.RefineRefIdeal.τ).loc Cert.RefineRefIdeal.main_arg12) = m ((c.tc : Thread Cert.RefineIdeal.nD Cert.RefineIdeal.τ).loc Cert.RefineIdeal.main_arg12)) →
    ∃ (v0 : (c : Dev Cert.RefineIdeal.nD) → Buf (Elt Ideal) ((c.tc : Thread Cert.RefineIdeal.nD Cert.RefineIdeal.τ).loc Cert.RefineIdeal.main_v365)),
      θ_run (Cert.RefineIdeal.defs (F := Ideal)) (onTc (τ := Cert.RefineIdeal.τ) (Cert.RefineIdeal.main (F := Ideal))) ⟨m, fun _ => 0, g⟩ (fun r => ∀ c : Dev Cert.RefineIdeal.nD,
          r.2.mem ((c.tc : Thread Cert.RefineIdeal.nD Cert.RefineIdeal.τ).loc Cert.RefineIdeal.main_v365) = v0 c
          ∧ r.2.mem ((c.tc : Thread Cert.RefineIdeal.nD Cert.RefineIdeal.τ).loc Cert.RefineIdeal.main_arg0) = m ((c.tc : Thread Cert.RefineIdeal.nD Cert.RefineIdeal.τ).loc Cert.RefineIdeal.main_arg0)
          ∧ r.2.mem ((c.tc : Thread Cert.RefineIdeal.nD Cert.RefineIdeal.τ).loc Cert.RefineIdeal.main_arg1) = m ((c.tc : Thread Cert.RefineIdeal.nD Cert.RefineIdeal.τ).loc Cert.RefineIdeal.main_arg1)
          ∧ r.2.mem ((c.tc : Thread Cert.RefineIdeal.nD Cert.RefineIdeal.τ).loc Cert.RefineIdeal.main_arg2) = m ((c.tc : Thread Cert.RefineIdeal.nD Cert.RefineIdeal.τ).loc Cert.RefineIdeal.main_arg2)
          ∧ r.2.mem ((c.tc : Thread Cert.RefineIdeal.nD Cert.RefineIdeal.τ).loc Cert.RefineIdeal.main_arg3) = m ((c.tc : Thread Cert.RefineIdeal.nD Cert.RefineIdeal.τ).loc Cert.RefineIdeal.main_arg3)
          ∧ r.2.mem ((c.tc : Thread Cert.RefineIdeal.nD Cert.RefineIdeal.τ).loc Cert.RefineIdeal.main_arg4) = m ((c.tc : Thread Cert.RefineIdeal.nD Cert.RefineIdeal.τ).loc Cert.RefineIdeal.main_arg4)
          ∧ r.2.mem ((c.tc : Thread Cert.RefineIdeal.nD Cert.RefineIdeal.τ).loc Cert.RefineIdeal.main_arg5) = m ((c.tc : Thread Cert.RefineIdeal.nD Cert.RefineIdeal.τ).loc Cert.RefineIdeal.main_arg5)
          ∧ r.2.mem ((c.tc : Thread Cert.RefineIdeal.nD Cert.RefineIdeal.τ).loc Cert.RefineIdeal.main_arg6) = m ((c.tc : Thread Cert.RefineIdeal.nD Cert.RefineIdeal.τ).loc Cert.RefineIdeal.main_arg6)
          ∧ r.2.mem ((c.tc : Thread Cert.RefineIdeal.nD Cert.RefineIdeal.τ).loc Cert.RefineIdeal.main_arg7) = m ((c.tc : Thread Cert.RefineIdeal.nD Cert.RefineIdeal.τ).loc Cert.RefineIdeal.main_arg7)
          ∧ r.2.mem ((c.tc : Thread Cert.RefineIdeal.nD Cert.RefineIdeal.τ).loc Cert.RefineIdeal.main_arg8) = m ((c.tc : Thread Cert.RefineIdeal.nD Cert.RefineIdeal.τ).loc Cert.RefineIdeal.main_arg8)
          ∧ r.2.mem ((c.tc : Thread Cert.RefineIdeal.nD Cert.RefineIdeal.τ).loc Cert.RefineIdeal.main_arg9) = m ((c.tc : Thread Cert.RefineIdeal.nD Cert.RefineIdeal.τ).loc Cert.RefineIdeal.main_arg9)
          ∧ r.2.mem ((c.tc : Thread Cert.RefineIdeal.nD Cert.RefineIdeal.τ).loc Cert.RefineIdeal.main_arg10) = m ((c.tc : Thread Cert.RefineIdeal.nD Cert.RefineIdeal.τ).loc Cert.RefineIdeal.main_arg10)
          ∧ r.2.mem ((c.tc : Thread Cert.RefineIdeal.nD Cert.RefineIdeal.τ).loc Cert.RefineIdeal.main_arg11) = m ((c.tc : Thread Cert.RefineIdeal.nD Cert.RefineIdeal.τ).loc Cert.RefineIdeal.main_arg11)
          ∧ r.2.mem ((c.tc : Thread Cert.RefineIdeal.nD Cert.RefineIdeal.τ).loc Cert.RefineIdeal.main_arg12) = m ((c.tc : Thread Cert.RefineIdeal.nD Cert.RefineIdeal.τ).loc Cert.RefineIdeal.main_arg12))
      ∧ θ_run (Cert.RefineRefIdeal.defs (F := Ideal)) (onTc (τ := Cert.RefineRefIdeal.τ) (Cert.RefineRefIdeal.main (F := Ideal))) ⟨m', fun _ => 0, g'⟩ (fun r => ∀ c : Dev Cert.RefineRefIdeal.nD,
          r.2.mem ((c.tc : Thread Cert.RefineRefIdeal.nD Cert.RefineRefIdeal.τ).loc Cert.RefineRefIdeal.main_v448) = v0 c
          ∧ r.2.mem ((c.tc : Thread Cert.RefineRefIdeal.nD Cert.RefineRefIdeal.τ).loc Cert.RefineRefIdeal.main_arg0) = m' ((c.tc : Thread Cert.RefineRefIdeal.nD Cert.RefineRefIdeal.τ).loc Cert.RefineRefIdeal.main_arg0)
          ∧ r.2.mem ((c.tc : Thread Cert.RefineRefIdeal.nD Cert.RefineRefIdeal.τ).loc Cert.RefineRefIdeal.main_arg1) = m' ((c.tc : Thread Cert.RefineRefIdeal.nD Cert.RefineRefIdeal.τ).loc Cert.RefineRefIdeal.main_arg1)
          ∧ r.2.mem ((c.tc : Thread Cert.RefineRefIdeal.nD Cert.RefineRefIdeal.τ).loc Cert.RefineRefIdeal.main_arg2) = m' ((c.tc : Thread Cert.RefineRefIdeal.nD Cert.RefineRefIdeal.τ).loc Cert.RefineRefIdeal.main_arg2)
          ∧ r.2.mem ((c.tc : Thread Cert.RefineRefIdeal.nD Cert.RefineRefIdeal.τ).loc Cert.RefineRefIdeal.main_arg3) = m' ((c.tc : Thread Cert.RefineRefIdeal.nD Cert.RefineRefIdeal.τ).loc Cert.RefineRefIdeal.main_arg3)
          ∧ r.2.mem ((c.tc : Thread Cert.RefineRefIdeal.nD Cert.RefineRefIdeal.τ).loc Cert.RefineRefIdeal.main_arg4) = m' ((c.tc : Thread Cert.RefineRefIdeal.nD Cert.RefineRefIdeal.τ).loc Cert.RefineRefIdeal.main_arg4)
          ∧ r.2.mem ((c.tc : Thread Cert.RefineRefIdeal.nD Cert.RefineRefIdeal.τ).loc Cert.RefineRefIdeal.main_arg5) = m' ((c.tc : Thread Cert.RefineRefIdeal.nD Cert.RefineRefIdeal.τ).loc Cert.RefineRefIdeal.main_arg5)
          ∧ r.2.mem ((c.tc : Thread Cert.RefineRefIdeal.nD Cert.RefineRefIdeal.τ).loc Cert.RefineRefIdeal.main_arg6) = m' ((c.tc : Thread Cert.RefineRefIdeal.nD Cert.RefineRefIdeal.τ).loc Cert.RefineRefIdeal.main_arg6)
          ∧ r.2.mem ((c.tc : Thread Cert.RefineRefIdeal.nD Cert.RefineRefIdeal.τ).loc Cert.RefineRefIdeal.main_arg7) = m' ((c.tc : Thread Cert.RefineRefIdeal.nD Cert.RefineRefIdeal.τ).loc Cert.RefineRefIdeal.main_arg7)
          ∧ r.2.mem ((c.tc : Thread Cert.RefineRefIdeal.nD Cert.RefineRefIdeal.τ).loc Cert.RefineRefIdeal.main_arg8) = m' ((c.tc : Thread Cert.RefineRefIdeal.nD Cert.RefineRefIdeal.τ).loc Cert.RefineRefIdeal.main_arg8)
          ∧ r.2.mem ((c.tc : Thread Cert.RefineRefIdeal.nD Cert.RefineRefIdeal.τ).loc Cert.RefineRefIdeal.main_arg9) = m' ((c.tc : Thread Cert.RefineRefIdeal.nD Cert.RefineRefIdeal.τ).loc Cert.RefineRefIdeal.main_arg9)
          ∧ r.2.mem ((c.tc : Thread Cert.RefineRefIdeal.nD Cert.RefineRefIdeal.τ).loc Cert.RefineRefIdeal.main_arg10) = m' ((c.tc : Thread Cert.RefineRefIdeal.nD Cert.RefineRefIdeal.τ).loc Cert.RefineRefIdeal.main_arg10)
          ∧ r.2.mem ((c.tc : Thread Cert.RefineRefIdeal.nD Cert.RefineRefIdeal.τ).loc Cert.RefineRefIdeal.main_arg11) = m' ((c.tc : Thread Cert.RefineRefIdeal.nD Cert.RefineRefIdeal.τ).loc Cert.RefineRefIdeal.main_arg11)
          ∧ r.2.mem ((c.tc : Thread Cert.RefineRefIdeal.nD Cert.RefineRefIdeal.τ).loc Cert.RefineRefIdeal.main_arg12) = m' ((c.tc : Thread Cert.RefineRefIdeal.nD Cert.RefineRefIdeal.τ).loc Cert.RefineRefIdeal.main_arg12))

def preserves_Upsample_UpsampleIdeal : Prop :=
  True

def algebraic_UpsampleIdeal_UpsampleRefIdeal [hUpsampleIdeal : Cert.UpsampleIdeal.Facts] [hUpsampleRefIdeal : Cert.UpsampleRefIdeal.Facts] : Prop :=
  ∀ (m : (ℓ : Loc Cert.UpsampleIdeal.nD Cert.UpsampleIdeal.τ Cert.UpsampleIdeal.sig) → Buf (Elt Ideal) ℓ) (g : Dev Cert.UpsampleIdeal.nD → PrngReg)
    (m' : (ℓ : Loc Cert.UpsampleRefIdeal.nD Cert.UpsampleRefIdeal.τ Cert.UpsampleRefIdeal.sig) → Buf (Elt Ideal) ℓ) (g' : Dev Cert.UpsampleRefIdeal.nD → PrngReg), Pre_UpsampleIdeal m →
    (∀ c : Dev Cert.UpsampleIdeal.nD,
      m' ((c.tc : Thread Cert.UpsampleRefIdeal.nD Cert.UpsampleRefIdeal.τ).loc Cert.UpsampleRefIdeal.main_arg0) = m ((c.tc : Thread Cert.UpsampleIdeal.nD Cert.UpsampleIdeal.τ).loc Cert.UpsampleIdeal.main_arg0)) →
    ∃ (v0 : (c : Dev Cert.UpsampleIdeal.nD) → Buf (Elt Ideal) ((c.tc : Thread Cert.UpsampleIdeal.nD Cert.UpsampleIdeal.τ).loc Cert.UpsampleIdeal.main_v3)),
      θ_run (Cert.UpsampleIdeal.defs (F := Ideal)) (onTc (τ := Cert.UpsampleIdeal.τ) (Cert.UpsampleIdeal.main (F := Ideal))) ⟨m, fun _ => 0, g⟩ (fun r => ∀ c : Dev Cert.UpsampleIdeal.nD,
          r.2.mem ((c.tc : Thread Cert.UpsampleIdeal.nD Cert.UpsampleIdeal.τ).loc Cert.UpsampleIdeal.main_v3) = v0 c
          ∧ r.2.mem ((c.tc : Thread Cert.UpsampleIdeal.nD Cert.UpsampleIdeal.τ).loc Cert.UpsampleIdeal.main_arg0) = m ((c.tc : Thread Cert.UpsampleIdeal.nD Cert.UpsampleIdeal.τ).loc Cert.UpsampleIdeal.main_arg0))
      ∧ θ_run (Cert.UpsampleRefIdeal.defs (F := Ideal)) (onTc (τ := Cert.UpsampleRefIdeal.τ) (Cert.UpsampleRefIdeal.main (F := Ideal))) ⟨m', fun _ => 0, g'⟩ (fun r => ∀ c : Dev Cert.UpsampleRefIdeal.nD,
          r.2.mem ((c.tc : Thread Cert.UpsampleRefIdeal.nD Cert.UpsampleRefIdeal.τ).loc Cert.UpsampleRefIdeal.main_v100) = v0 c
          ∧ r.2.mem ((c.tc : Thread Cert.UpsampleRefIdeal.nD Cert.UpsampleRefIdeal.τ).loc Cert.UpsampleRefIdeal.main_arg0) = m' ((c.tc : Thread Cert.UpsampleRefIdeal.nD Cert.UpsampleRefIdeal.τ).loc Cert.UpsampleRefIdeal.main_arg0))

def preserves_Middle_MiddleIdeal : Prop :=
  True

def algebraic_MiddleIdeal_MiddleRefIdeal [hMiddleIdeal : Cert.MiddleIdeal.Facts] [hMiddleRefIdeal : Cert.MiddleRefIdeal.Facts] : Prop :=
  ∀ (m : (ℓ : Loc Cert.MiddleIdeal.nD Cert.MiddleIdeal.τ Cert.MiddleIdeal.sig) → Buf (Elt Ideal) ℓ) (g : Dev Cert.MiddleIdeal.nD → PrngReg)
    (m' : (ℓ : Loc Cert.MiddleRefIdeal.nD Cert.MiddleRefIdeal.τ Cert.MiddleRefIdeal.sig) → Buf (Elt Ideal) ℓ) (g' : Dev Cert.MiddleRefIdeal.nD → PrngReg), Pre_MiddleIdeal m →
    (∀ c : Dev Cert.MiddleIdeal.nD,
      m' ((c.tc : Thread Cert.MiddleRefIdeal.nD Cert.MiddleRefIdeal.τ).loc Cert.MiddleRefIdeal.main_arg0) = m ((c.tc : Thread Cert.MiddleIdeal.nD Cert.MiddleIdeal.τ).loc Cert.MiddleIdeal.main_arg0)) →
    ∃ (v0 : (c : Dev Cert.MiddleIdeal.nD) → Buf (Elt Ideal) ((c.tc : Thread Cert.MiddleIdeal.nD Cert.MiddleIdeal.τ).loc Cert.MiddleIdeal.main_v3)),
      θ_run (Cert.MiddleIdeal.defs (F := Ideal)) (onTc (τ := Cert.MiddleIdeal.τ) (Cert.MiddleIdeal.main (F := Ideal))) ⟨m, fun _ => 0, g⟩ (fun r => ∀ c : Dev Cert.MiddleIdeal.nD,
          r.2.mem ((c.tc : Thread Cert.MiddleIdeal.nD Cert.MiddleIdeal.τ).loc Cert.MiddleIdeal.main_v3) = v0 c
          ∧ r.2.mem ((c.tc : Thread Cert.MiddleIdeal.nD Cert.MiddleIdeal.τ).loc Cert.MiddleIdeal.main_arg0) = m ((c.tc : Thread Cert.MiddleIdeal.nD Cert.MiddleIdeal.τ).loc Cert.MiddleIdeal.main_arg0))
      ∧ θ_run (Cert.MiddleRefIdeal.defs (F := Ideal)) (onTc (τ := Cert.MiddleRefIdeal.τ) (Cert.MiddleRefIdeal.main (F := Ideal))) ⟨m', fun _ => 0, g'⟩ (fun r => ∀ c : Dev Cert.MiddleRefIdeal.nD,
          r.2.mem ((c.tc : Thread Cert.MiddleRefIdeal.nD Cert.MiddleRefIdeal.τ).loc Cert.MiddleRefIdeal.main_v100) = v0 c
          ∧ r.2.mem ((c.tc : Thread Cert.MiddleRefIdeal.nD Cert.MiddleRefIdeal.τ).loc Cert.MiddleRefIdeal.main_arg0) = m' ((c.tc : Thread Cert.MiddleRefIdeal.nD Cert.MiddleRefIdeal.τ).loc Cert.MiddleRefIdeal.main_arg0))

def preserves_Finish_FinishIdeal : Prop :=
  True

def algebraic_FinishIdeal_FinishRefIdeal [hFinishIdeal : Cert.FinishIdeal.Facts] [hFinishRefIdeal : Cert.FinishRefIdeal.Facts] : Prop :=
  ∀ (m : (ℓ : Loc Cert.FinishIdeal.nD Cert.FinishIdeal.τ Cert.FinishIdeal.sig) → Buf (Elt Ideal) ℓ) (g : Dev Cert.FinishIdeal.nD → PrngReg)
    (m' : (ℓ : Loc Cert.FinishRefIdeal.nD Cert.FinishRefIdeal.τ Cert.FinishRefIdeal.sig) → Buf (Elt Ideal) ℓ) (g' : Dev Cert.FinishRefIdeal.nD → PrngReg), Pre_FinishIdeal m →
    (∀ c : Dev Cert.FinishIdeal.nD,
      m' ((c.tc : Thread Cert.FinishRefIdeal.nD Cert.FinishRefIdeal.τ).loc Cert.FinishRefIdeal.main_arg0) = m ((c.tc : Thread Cert.FinishIdeal.nD Cert.FinishIdeal.τ).loc Cert.FinishIdeal.main_arg0)
      ∧ m' ((c.tc : Thread Cert.FinishRefIdeal.nD Cert.FinishRefIdeal.τ).loc Cert.FinishRefIdeal.main_arg1) = m ((c.tc : Thread Cert.FinishIdeal.nD Cert.FinishIdeal.τ).loc Cert.FinishIdeal.main_arg1)
      ∧ m' ((c.tc : Thread Cert.FinishRefIdeal.nD Cert.FinishRefIdeal.τ).loc Cert.FinishRefIdeal.main_arg2) = m ((c.tc : Thread Cert.FinishIdeal.nD Cert.FinishIdeal.τ).loc Cert.FinishIdeal.main_arg2)) →
    ∃ (v0 : (c : Dev Cert.FinishIdeal.nD) → Buf (Elt Ideal) ((c.tc : Thread Cert.FinishIdeal.nD Cert.FinishIdeal.τ).loc Cert.FinishIdeal.main_v19)),
      θ_run (Cert.FinishIdeal.defs (F := Ideal)) (onTc (τ := Cert.FinishIdeal.τ) (Cert.FinishIdeal.main (F := Ideal))) ⟨m, fun _ => 0, g⟩ (fun r => ∀ c : Dev Cert.FinishIdeal.nD,
          r.2.mem ((c.tc : Thread Cert.FinishIdeal.nD Cert.FinishIdeal.τ).loc Cert.FinishIdeal.main_v19) = v0 c
          ∧ r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
          ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
          ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2))
      ∧ θ_run (Cert.FinishRefIdeal.defs (F := Ideal)) (onTc (τ := Cert.FinishRefIdeal.τ) (Cert.FinishRefIdeal.main (F := Ideal))) ⟨m', fun _ => 0, g'⟩ (fun r => ∀ c : Dev Cert.FinishRefIdeal.nD,
          r.2.mem ((c.tc : Thread Cert.FinishRefIdeal.nD Cert.FinishRefIdeal.τ).loc Cert.FinishRefIdeal.main_v31) = v0 c
          ∧ r.2.mem ((c.tc : Thread Cert.FinishRefIdeal.nD Cert.FinishRefIdeal.τ).loc Cert.FinishRefIdeal.main_arg0) = m' ((c.tc : Thread Cert.FinishRefIdeal.nD Cert.FinishRefIdeal.τ).loc Cert.FinishRefIdeal.main_arg0)
          ∧ r.2.mem ((c.tc : Thread Cert.FinishRefIdeal.nD Cert.FinishRefIdeal.τ).loc Cert.FinishRefIdeal.main_arg1) = m' ((c.tc : Thread Cert.FinishRefIdeal.nD Cert.FinishRefIdeal.τ).loc Cert.FinishRefIdeal.main_arg1)
          ∧ r.2.mem ((c.tc : Thread Cert.FinishRefIdeal.nD Cert.FinishRefIdeal.τ).loc Cert.FinishRefIdeal.main_arg2) = m' ((c.tc : Thread Cert.FinishRefIdeal.nD Cert.FinishRefIdeal.τ).loc Cert.FinishRefIdeal.main_arg2))

def Claim : Prop :=
  ∃ (hMlp : Cert.Mlp.Facts) (hMlpIdeal : Cert.MlpIdeal.Facts) (hMlpRefIdeal : Cert.MlpRefIdeal.Facts) (hRefine : Cert.Refine.Facts) (hRefineIdeal : Cert.RefineIdeal.Facts) (hRefineRefIdeal : Cert.RefineRefIdeal.Facts) (hUpsample : Cert.Upsample.Facts) (hUpsampleIdeal : Cert.UpsampleIdeal.Facts) (hUpsampleRefIdeal : Cert.UpsampleRefIdeal.Facts) (hMiddle : Cert.Middle.Facts) (hMiddleIdeal : Cert.MiddleIdeal.Facts) (hMiddleRefIdeal : Cert.MiddleRefIdeal.Facts) (hFinish : Cert.Finish.Facts) (hFinishIdeal : Cert.FinishIdeal.Facts) (hFinishRefIdeal : Cert.FinishRefIdeal.Facts) (hPre_images_exist : Cert.Pre_images_exist.Facts),
    quiescent_Mlp (hMlp := hMlp)
    ∧ quiescent_MlpIdeal (hMlpIdeal := hMlpIdeal)
    ∧ quiescent_MlpRefIdeal (hMlpRefIdeal := hMlpRefIdeal)
    ∧ quiescent_Refine (hRefine := hRefine)
    ∧ quiescent_RefineIdeal (hRefineIdeal := hRefineIdeal)
    ∧ quiescent_RefineIdeal_pre_images_exist (hRefineIdeal := hRefineIdeal) (hPre_images_exist := hPre_images_exist)
    ∧ quiescent_RefineRefIdeal (hRefineRefIdeal := hRefineRefIdeal)
    ∧ quiescent_RefineRefIdeal_pre_images_exist (hRefineRefIdeal := hRefineRefIdeal) (hPre_images_exist := hPre_images_exist)
    ∧ quiescent_Upsample (hUpsample := hUpsample)
    ∧ quiescent_UpsampleIdeal (hUpsampleIdeal := hUpsampleIdeal)
    ∧ quiescent_UpsampleRefIdeal (hUpsampleRefIdeal := hUpsampleRefIdeal)
    ∧ quiescent_Middle (hMiddle := hMiddle)
    ∧ quiescent_MiddleIdeal (hMiddleIdeal := hMiddleIdeal)
    ∧ quiescent_MiddleRefIdeal (hMiddleRefIdeal := hMiddleRefIdeal)
    ∧ quiescent_Finish (hFinish := hFinish)
    ∧ quiescent_FinishIdeal (hFinishIdeal := hFinishIdeal)
    ∧ quiescent_FinishRefIdeal (hFinishRefIdeal := hFinishRefIdeal)
    ∧ preserves_Mlp_MlpIdeal
    ∧ algebraic_MlpIdeal_MlpRefIdeal (hMlpIdeal := hMlpIdeal) (hMlpRefIdeal := hMlpRefIdeal)
    ∧ preserves_Refine_RefineIdeal
    ∧ algebraic_RefineIdeal_RefineRefIdeal_pre_images_exist (hRefineIdeal := hRefineIdeal) (hRefineRefIdeal := hRefineRefIdeal) (hPre_images_exist := hPre_images_exist)
    ∧ preserves_Upsample_UpsampleIdeal
    ∧ algebraic_UpsampleIdeal_UpsampleRefIdeal (hUpsampleIdeal := hUpsampleIdeal) (hUpsampleRefIdeal := hUpsampleRefIdeal)
    ∧ preserves_Middle_MiddleIdeal
    ∧ algebraic_MiddleIdeal_MiddleRefIdeal (hMiddleIdeal := hMiddleIdeal) (hMiddleRefIdeal := hMiddleRefIdeal)
    ∧ preserves_Finish_FinishIdeal
    ∧ algebraic_FinishIdeal_FinishRefIdeal (hFinishIdeal := hFinishIdeal) (hFinishRefIdeal := hFinishRefIdeal)
-- ==== Pre_images_exist.lean ====
abbrev S4x784 : Shape := ⟨2, ![4, 784]⟩
abbrev S2x256x200x200 : Shape := ⟨4, ![2, 256, 200, 200]⟩
abbrev S4x80x7x7 : Shape := ⟨4, ![4, 80, 7, 7]⟩
abbrev S4x4 : Shape := ⟨2, ![4, 4]⟩
abbrev S4 : Shape := ⟨1, ![4]⟩
abbrev S256x336 : Shape := ⟨2, ![256, 336]⟩
abbrev S256 : Shape := ⟨1, ![256]⟩
abbrev S80x336 : Shape := ⟨2, ![80, 336]⟩
abbrev S80 : Shape := ⟨1, ![80]⟩
abbrev S_ : Shape := ⟨0, ![]⟩

class Facts : Prop where
  bcast_S_S4 : S_.BroadcastsInDim S4 (![] : Fin 0 → Fin S4.rank)

variable [Facts]

def fn {F : FTy → Type} [FloatOps F] (main_arg0 : IVec S4x784 32) (main_arg1 : FVec F S2x256x200x200 .f32) (main_arg2 : FVec F S4x80x7x7 .f32) (main_arg3 : FVec F S4x4 .f32) (main_arg4 : IVec S4 32) (main_arg5 : FVec F S256x336 .f32) (main_arg6 : FVec F S256 .f32) (main_arg7 : FVec F S256x336 .f32) (main_arg8 : FVec F S256 .f32) (main_arg9 : FVec F S256x336 .f32) (main_arg10 : FVec F S256 .f32) (main_arg11 : FVec F S80x336 .f32) (main_arg12 : FVec F S80 .f32) : IVec S4 1 :=
  let main_c : IVec S_ 32 := constantI S_ 32 0#32
  let main_v0 : IVec S4 32 := broadcastInDim S4 ![] bcast_S_S4 main_c
  let main_v1 : IVec S4 1 := cmpi .sge main_arg4 main_v0
  let main_c_0 : IVec S_ 32 := constantI S_ 32 2#32
  let main_v2 : IVec S4 32 := broadcastInDim S4 ![] bcast_S_S4 main_c_0
  let main_v3 : IVec S4 1 := cmpi .slt main_arg4 main_v2
  let main_v4 : IVec S4 1 := andi main_v1 main_v3
  main_v4
-- ==== Mlp.lean ====
abbrev S3136x256 : Shape := ⟨2, ![3136, 256]⟩
abbrev S3136x80 : Shape := ⟨2, ![3136, 80]⟩
abbrev S256x336 : Shape := ⟨2, ![256, 336]⟩
abbrev S256 : Shape := ⟨1, ![256]⟩
abbrev S80x336 : Shape := ⟨2, ![80, 336]⟩
abbrev S80 : Shape := ⟨1, ![80]⟩
abbrev S1x256 : Shape := ⟨2, ![1, 256]⟩
abbrev S1x80 : Shape := ⟨2, ![1, 80]⟩
abbrev S3136x336 : Shape := ⟨2, ![3136, 336]⟩

abbrev nBuf : Space → Nat
  | .hbm => 15
  | .vmem => 11
  | .smem => 0
  | _ => 0

abbrev bufTy : (tb : Table) → Fin (tcTables nBuf tb) → BufTy
  | .hbm, ⟨0, _⟩ => ⟨S3136x256, .f32⟩
  | .hbm, ⟨1, _⟩ => ⟨S3136x80, .f32⟩
  | .hbm, ⟨2, _⟩ => ⟨S256x336, .f32⟩
  | .hbm, ⟨3, _⟩ => ⟨S256, .f32⟩
  | .hbm, ⟨4, _⟩ => ⟨S256x336, .f32⟩
  | .hbm, ⟨5, _⟩ => ⟨S256, .f32⟩
  | .hbm, ⟨6, _⟩ => ⟨S256x336, .f32⟩
  | .hbm, ⟨7, _⟩ => ⟨S256, .f32⟩
  | .hbm, ⟨8, _⟩ => ⟨S80x336, .f32⟩
  | .hbm, ⟨9, _⟩ => ⟨S80, .f32⟩
  | .hbm, ⟨10, _⟩ => ⟨S1x256, .f32⟩
  | .hbm, ⟨11, _⟩ => ⟨S1x256, .f32⟩
  | .hbm, ⟨12, _⟩ => ⟨S1x256, .f32⟩
  | .hbm, ⟨13, _⟩ => ⟨S1x80, .f32⟩
  | .hbm, ⟨14, _⟩ => ⟨S3136x80, .f32⟩
  | .local _ .vmem, ⟨0, _⟩ => ⟨S3136x256, .f32⟩
  | .local _ .vmem, ⟨1, _⟩ => ⟨S3136x80, .f32⟩
  | .local _ .vmem, ⟨2, _⟩ => ⟨S256x336, .f32⟩
  | .local _ .vmem, ⟨3, _⟩ => ⟨S1x256, .f32⟩
  | .local _ .vmem, ⟨4, _⟩ => ⟨S256x336, .f32⟩
  | .local _ .vmem, ⟨5, _⟩ => ⟨S1x256, .f32⟩
  | .local _ .vmem, ⟨6, _⟩ => ⟨S256x336, .f32⟩
  | .local _ .vmem, ⟨7, _⟩ => ⟨S1x256, .f32⟩
  | .local _ .vmem, ⟨8, _⟩ => ⟨S80x336, .f32⟩
  | .local _ .vmem, ⟨9, _⟩ => ⟨S1x80, .f32⟩
  | .local _ .vmem, ⟨10, _⟩ => ⟨S3136x80, .f32⟩
  | _, _ => ⟨S3136x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S3136x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3136x80 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x336 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x336 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x336 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S80x336 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x80 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3136x80 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== MlpRefIdeal.lean ====
abbrev S3136x256 : Shape := ⟨2, ![3136, 256]⟩
abbrev S3136x80 : Shape := ⟨2, ![3136, 80]⟩
abbrev S256x336 : Shape := ⟨2, ![256, 336]⟩
abbrev S256 : Shape := ⟨1, ![256]⟩
abbrev S80x336 : Shape := ⟨2, ![80, 336]⟩
abbrev S80 : Shape := ⟨1, ![80]⟩
abbrev S4x784x256 : Shape := ⟨3, ![4, 784, 256]⟩
abbrev S4x256x784 : Shape := ⟨3, ![4, 256, 784]⟩
abbrev S4x784x80 : Shape := ⟨3, ![4, 784, 80]⟩
abbrev S4x80x784 : Shape := ⟨3, ![4, 80, 784]⟩
abbrev S4x336x784 : Shape := ⟨3, ![4, 336, 784]⟩
abbrev S1x256x1 : Shape := ⟨3, ![1, 256, 1]⟩
abbrev S_ : Shape := ⟨0, ![]⟩
abbrev S1x80x1 : Shape := ⟨3, ![1, 80, 1]⟩

abbrev nBuf : Space → Nat
  | .hbm => 49
  | .vmem => 0
  | .smem => 0
  | _ => 0

abbrev bufTy : (tb : Table) → Fin (tcTables nBuf tb) → BufTy
  | .hbm, ⟨0, _⟩ => ⟨S3136x256, .f32⟩
  | .hbm, ⟨1, _⟩ => ⟨S3136x80, .f32⟩
  | .hbm, ⟨2, _⟩ => ⟨S256x336, .f32⟩
  | .hbm, ⟨3, _⟩ => ⟨S256, .f32⟩
  | .hbm, ⟨4, _⟩ => ⟨S256x336, .f32⟩
  | .hbm, ⟨5, _⟩ => ⟨S256, .f32⟩
  | .hbm, ⟨6, _⟩ => ⟨S256x336, .f32⟩
  | .hbm, ⟨7, _⟩ => ⟨S256, .f32⟩
  | .hbm, ⟨8, _⟩ => ⟨S80x336, .f32⟩
  | .hbm, ⟨9, _⟩ => ⟨S80, .f32⟩
  | .hbm, ⟨10, _⟩ => ⟨S4x784x256, .f32⟩
  | .hbm, ⟨11, _⟩ => ⟨S4x256x784, .f32⟩
  | .hbm, ⟨12, _⟩ => ⟨S4x784x80, .f32⟩
  | .hbm, ⟨13, _⟩ => ⟨S4x80x784, .f32⟩
  | .hbm, ⟨14, _⟩ => ⟨S4x336x784, .f32⟩
  | .hbm, ⟨15, _⟩ => ⟨S4x784x256, .f32⟩
  | .hbm, ⟨16, _⟩ => ⟨S4x256x784, .f32⟩
  | .hbm, ⟨17, _⟩ => ⟨S1x256x1, .f32⟩
  | .hbm, ⟨18, _⟩ => ⟨S4x256x784, .f32⟩
  | .hbm, ⟨19, _⟩ => ⟨S4x256x784, .f32⟩
  | .hbm, ⟨20, _⟩ => ⟨S_, .f32⟩
  | .hbm, ⟨21, _⟩ => ⟨S4x256x784, .f32⟩
  | .hbm, ⟨22, _⟩ => ⟨S4x256x784, .f32⟩
  | .hbm, ⟨23, _⟩ => ⟨S4x336x784, .f32⟩
  | .hbm, ⟨24, _⟩ => ⟨S4x784x256, .f32⟩
  | .hbm, ⟨25, _⟩ => ⟨S4x256x784, .f32⟩
  | .hbm, ⟨26, _⟩ => ⟨S1x256x1, .f32⟩
  | .hbm, ⟨27, _⟩ => ⟨S4x256x784, .f32⟩
  | .hbm, ⟨28, _⟩ => ⟨S4x256x784, .f32⟩
  | .hbm, ⟨29, _⟩ => ⟨S_, .f32⟩
  | .hbm, ⟨30, _⟩ => ⟨S4x256x784, .f32⟩
  | .hbm, ⟨31, _⟩ => ⟨S4x256x784, .f32⟩
  | .hbm, ⟨32, _⟩ => ⟨S4x336x784, .f32⟩
  | .hbm, ⟨33, _⟩ => ⟨S4x784x256, .f32⟩
  | .hbm, ⟨34, _⟩ => ⟨S4x256x784, .f32⟩
  | .hbm, ⟨35, _⟩ => ⟨S1x256x1, .f32⟩
  | .hbm, ⟨36, _⟩ => ⟨S4x256x784, .f32⟩
  | .hbm, ⟨37, _⟩ => ⟨S4x256x784, .f32⟩
  | .hbm, ⟨38, _⟩ => ⟨S_, .f32⟩
  | .hbm, ⟨39, _⟩ => ⟨S4x256x784, .f32⟩
  | .hbm, ⟨40, _⟩ => ⟨S4x256x784, .f32⟩
  | .hbm, ⟨41, _⟩ => ⟨S4x336x784, .f32⟩
  | .hbm, ⟨42, _⟩ => ⟨S4x784x80, .f32⟩
  | .hbm, ⟨43, _⟩ => ⟨S4x80x784, .f32⟩
  | .hbm, ⟨44, _⟩ => ⟨S1x80x1, .f32⟩
  | .hbm, ⟨45, _⟩ => ⟨S4x80x784, .f32⟩
  | .hbm, ⟨46, _⟩ => ⟨S4x80x784, .f32⟩
  | .hbm, ⟨47, _⟩ => ⟨S4x784x80, .f32⟩
  | .hbm, ⟨48, _⟩ => ⟨S3136x80, .f32⟩
  | _, _ => ⟨S3136x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call0_cst : Ref sig .tc := ⟨.hbm, 20, rfl⟩
abbrev main_call0_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call1_cst : Ref sig .tc := ⟨.hbm, 29, rfl⟩
abbrev main_call1_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call2_cst : Ref sig .tc := ⟨.hbm, 38, rfl⟩
abbrev main_call2_v0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Refine.lean ====
abbrev S4x784 : Shape := ⟨2, ![4, 784]⟩
abbrev S2x256x200x200 : Shape := ⟨4, ![2, 256, 200, 200]⟩
abbrev S4x80x7x7 : Shape := ⟨4, ![4, 80, 7, 7]⟩
abbrev S4x4 : Shape := ⟨2, ![4, 4]⟩
abbrev S4 : Shape := ⟨1, ![4]⟩
abbrev S256x336 : Shape := ⟨2, ![256, 336]⟩
abbrev S256 : Shape := ⟨1, ![256]⟩
abbrev S80x336 : Shape := ⟨2, ![80, 336]⟩
abbrev S80 : Shape := ⟨1, ![80]⟩
abbrev S2x200x200x256 : Shape := ⟨4, ![2, 200, 200, 256]⟩
abbrev S1x256x8x200 : Shape := ⟨4, ![1, 256, 8, 200]⟩
abbrev S1x8x200x256 : Shape := ⟨4, ![1, 8, 200, 256]⟩
abbrev S256x8x200 : Shape := ⟨3, ![256, 8, 200]⟩
abbrev S256x1600 : Shape := ⟨2, ![256, 1600]⟩
abbrev S1600x256 : Shape := ⟨2, ![1600, 256]⟩
abbrev S8x200x256 : Shape := ⟨3, ![8, 200, 256]⟩
abbrev S80000x256 : Shape := ⟨2, ![80000, 256]⟩
abbrev S_ : Shape := ⟨0, ![]⟩
abbrev S4x7x7x80 : Shape := ⟨4, ![4, 7, 7, 80]⟩
abbrev S4x1 : Shape := ⟨2, ![4, 1]⟩
abbrev S4x784x256 : Shape := ⟨3, ![4, 784, 256]⟩
abbrev S4x784x1 : Shape := ⟨3, ![4, 784, 1]⟩
abbrev S4x784x80 : Shape := ⟨3, ![4, 784, 80]⟩
abbrev S4x49x80 : Shape := ⟨3, ![4, 49, 80]⟩
abbrev S1 : Shape := ⟨1, ![1]⟩
abbrev S1x1x1 : Shape := ⟨3, ![1, 1, 1]⟩
abbrev S3136x256 : Shape := ⟨2, ![3136, 256]⟩
abbrev S3136x80 : Shape := ⟨2, ![3136, 80]⟩
abbrev S1x256 : Shape := ⟨2, ![1, 256]⟩
abbrev S1x80 : Shape := ⟨2, ![1, 80]⟩
abbrev S3136x336 : Shape := ⟨2, ![3136, 336]⟩

abbrev nBuf : Space → Nat
  | .hbm => 702
  | .vmem => 15
  | .smem => 0
  | _ => 0

abbrev hbmTy0_0 (i : Nat) : BufTy := match i % 128 with
  | 0 => ⟨S4x784, .i32⟩
  | 1 => ⟨S2x256x200x200, .f32⟩
  | 2 => ⟨S4x80x7x7, .f32⟩
  | 3 => ⟨S4x4, .f32⟩
  | 4 => ⟨S4, .i32⟩
  | 5 => ⟨S256x336, .f32⟩
  | 6 => ⟨S256, .f32⟩
  | 7 => ⟨S256x336, .f32⟩
  | 8 => ⟨S256, .f32⟩
  | 9 => ⟨S256x336, .f32⟩
  | 10 => ⟨S256, .f32⟩
  | 11 => ⟨S80x336, .f32⟩
  | 12 => ⟨S80, .f32⟩
  | 13 => ⟨S2x200x200x256, .f32⟩
  | 14 => ⟨S80000x256, .f32⟩
  | 15 => ⟨S_, .i32⟩
  | 16 => ⟨S4, .i32⟩
  | 17 => ⟨S4, .i32⟩
  | 18 => ⟨S4x7x7x80, .f32⟩
  | 19 => ⟨S_, .i32⟩
  | 20 => ⟨S_, .i32⟩
  | 21 => ⟨S_, .i32⟩
  | 22 => ⟨S_, .i1⟩
  | 23 => ⟨S_, .i32⟩
  | 24 => ⟨S_, .i32⟩
  | 25 => ⟨S4x784, .i32⟩
  | 26 => ⟨S4x784, .i32⟩
  | 27 => ⟨S_, .i32⟩
  | 28 => ⟨S4x784, .i32⟩
  | 29 => ⟨S4x784, .i1⟩
  | 30 => ⟨S_, .i32⟩
  | 31 => ⟨S4x784, .i32⟩
  | 32 => ⟨S4x784, .i1⟩
  | 33 => ⟨S_, .i32⟩
  | 34 => ⟨S_, .i1⟩
  | 35 => ⟨S4x784, .i1⟩
  | 36 => ⟨S4x784, .i1⟩
  | 37 => ⟨S4x784, .i1⟩
  | 38 => ⟨S4x784, .i32⟩
  | 39 => ⟨S4x784, .i32⟩
  | 40 => ⟨S4x784, .i32⟩
  | 41 => ⟨S4x784, .f32⟩
  | 42 => ⟨S_, .f32⟩
  | 43 => ⟨S4x784, .f32⟩
  | 44 => ⟨S4x784, .f32⟩
  | 45 => ⟨S_, .f32⟩
  | 46 => ⟨S4x784, .f32⟩
  | 47 => ⟨S4x784, .f32⟩
  | 48 => ⟨S_, .i32⟩
  | 49 => ⟨S_, .i32⟩
  | 50 => ⟨S4x784, .i32⟩
  | 51 => ⟨S4x784, .i32⟩
  | 52 => ⟨S4x784, .i32⟩
  | 53 => ⟨S_, .i32⟩
  | 54 => ⟨S4x784, .i32⟩
  | 55 => ⟨S4x784, .i1⟩
  | 56 => ⟨S4x784, .i32⟩
  | 57 => ⟨S4x784, .i32⟩
  | 58 => ⟨S_, .i32⟩
  | 59 => ⟨S4x784, .i32⟩
  | 60 => ⟨S4x784, .i1⟩
  | 61 => ⟨S4x784, .i1⟩
  | 62 => ⟨S_, .i32⟩
  | 63 => ⟨S4x784, .i32⟩
  | 64 => ⟨S4x784, .i32⟩
  | 65 => ⟨S4x784, .i32⟩
  | 66 => ⟨S4x784, .f32⟩
  | 67 => ⟨S_, .f32⟩
  | 68 => ⟨S4x784, .f32⟩
  | 69 => ⟨S4x784, .f32⟩
  | 70 => ⟨S_, .f32⟩
  | 71 => ⟨S4x784, .f32⟩
  | 72 => ⟨S4x784, .f32⟩
  | 73 => ⟨S4x1, .f32⟩
  | 74 => ⟨S4x1, .f32⟩
  | 75 => ⟨S4x1, .f32⟩
  | 76 => ⟨S4x1, .f32⟩
  | 77 => ⟨S4x1, .f32⟩
  | 78 => ⟨S4x784, .f32⟩
  | 79 => ⟨S4x784, .f32⟩
  | 80 => ⟨S4x784, .f32⟩
  | 81 => ⟨S4x784, .f32⟩
  | 82 => ⟨S_, .f32⟩
  | 83 => ⟨S4x784, .f32⟩
  | 84 => ⟨S4x784, .f32⟩
  | 85 => ⟨S_, .f32⟩
  | 86 => ⟨S4x784, .f32⟩
  | 87 => ⟨S4x784, .f32⟩
  | 88 => ⟨S_, .f32⟩
  | 89 => ⟨S4x784, .f32⟩
  | 90 => ⟨S4x784, .f32⟩
  | 91 => ⟨S4x1, .f32⟩
  | 92 => ⟨S4x784, .f32⟩
  | 93 => ⟨S4x784, .f32⟩
  | 94 => ⟨S4x784, .f32⟩
  | 95 => ⟨S4x784, .f32⟩
  | 96 => ⟨S_, .f32⟩
  | 97 => ⟨S4x784, .f32⟩
  | 98 => ⟨S4x784, .f32⟩
  | 99 => ⟨S_, .f32⟩
  | 100 => ⟨S4x784, .f32⟩
  | 101 => ⟨S4x784, .f32⟩
  | 102 => ⟨S_, .f32⟩
  | 103 => ⟨S4x784, .f32⟩
  | 104 => ⟨S4x784, .f32⟩
  | 105 => ⟨S_, .f32⟩
  | 106 => ⟨S4x784x256, .f32⟩
  | 107 => ⟨S4x784, .f32⟩
  | 108 => ⟨S4x784, .f32⟩
  | 109 => ⟨S4x784, .f32⟩
  | 110 => ⟨S4x784, .f32⟩
  | 111 => ⟨S_, .f32⟩
  | 112 => ⟨S4x784, .f32⟩
  | 113 => ⟨S4x784, .f32⟩
  | 114 => ⟨S_, .f32⟩
  | 115 => ⟨S4x784, .f32⟩
  | 116 => ⟨S4x784, .f32⟩
  | 117 => ⟨S4x784, .f32⟩
  | 118 => ⟨S_, .f32⟩
  | 119 => ⟨S4x784, .f32⟩
  | 120 => ⟨S4x784, .f32⟩
  | 121 => ⟨S4x784, .f32⟩
  | 122 => ⟨S_, .f32⟩
  | 123 => ⟨S4x784, .f32⟩
  | 124 => ⟨S4x784, .f32⟩
  | 125 => ⟨S4x784, .f32⟩
  | 126 => ⟨S4x784, .f32⟩
  | 127 => ⟨S_, .f32⟩
  | _ => ⟨S4x784, .i32⟩

abbrev hbmTy0_1 (i : Nat) : BufTy := match i % 128 with
  | 0 => ⟨S4x784, .f32⟩
  | 1 => ⟨S4x784, .f32⟩
  | 2 => ⟨S_, .f32⟩
  | 3 => ⟨S4x784, .f32⟩
  | 4 => ⟨S4x784, .f32⟩
  | 5 => ⟨S_, .f32⟩
  | 6 => ⟨S4x784, .f32⟩
  | 7 => ⟨S4x784, .i1⟩
  | 8 => ⟨S_, .f32⟩
  | 9 => ⟨S4x784, .f32⟩
  | 10 => ⟨S4x784, .i1⟩
  | 11 => ⟨S4x784, .i1⟩
  | 12 => ⟨S_, .f32⟩
  | 13 => ⟨S4x784, .f32⟩
  | 14 => ⟨S4x784, .i1⟩
  | 15 => ⟨S4x784, .i1⟩
  | 16 => ⟨S_, .f32⟩
  | 17 => ⟨S4x784, .f32⟩
  | 18 => ⟨S4x784, .i1⟩
  | 19 => ⟨S4x784, .i1⟩
  | 20 => ⟨S_, .i32⟩
  | 21 => ⟨S_, .i32⟩
  | 22 => ⟨S_, .f32⟩
  | 23 => ⟨S4x784, .f32⟩
  | 24 => ⟨S4x784, .f32⟩
  | 25 => ⟨S_, .f32⟩
  | 26 => ⟨S4x784, .f32⟩
  | 27 => ⟨S4x784, .f32⟩
  | 28 => ⟨S4x784, .i32⟩
  | 29 => ⟨S_, .i32⟩
  | 30 => ⟨S_, .i32⟩
  | 31 => ⟨S_, .f32⟩
  | 32 => ⟨S4x784, .f32⟩
  | 33 => ⟨S4x784, .f32⟩
  | 34 => ⟨S_, .f32⟩
  | 35 => ⟨S4x784, .f32⟩
  | 36 => ⟨S4x784, .f32⟩
  | 37 => ⟨S4x784, .i32⟩
  | 38 => ⟨S4x784, .f32⟩
  | 39 => ⟨S4x784, .f32⟩
  | 40 => ⟨S_, .f32⟩
  | 41 => ⟨S4x784, .f32⟩
  | 42 => ⟨S4x784, .f32⟩
  | 43 => ⟨S_, .f32⟩
  | 44 => ⟨S4x784, .f32⟩
  | 45 => ⟨S4x784, .f32⟩
  | 46 => ⟨S_, .f32⟩
  | 47 => ⟨S4x784, .f32⟩
  | 48 => ⟨S4x784, .i1⟩
  | 49 => ⟨S_, .f32⟩
  | 50 => ⟨S4x784, .f32⟩
  | 51 => ⟨S4x784, .i1⟩
  | 52 => ⟨S4x784, .i1⟩
  | 53 => ⟨S_, .f32⟩
  | 54 => ⟨S4x784, .f32⟩
  | 55 => ⟨S4x784, .i1⟩
  | 56 => ⟨S4x784, .i1⟩
  | 57 => ⟨S_, .f32⟩
  | 58 => ⟨S4x784, .f32⟩
  | 59 => ⟨S4x784, .i1⟩
  | 60 => ⟨S4x784, .i1⟩
  | 61 => ⟨S_, .i32⟩
  | 62 => ⟨S_, .i32⟩
  | 63 => ⟨S_, .f32⟩
  | 64 => ⟨S4x784, .f32⟩
  | 65 => ⟨S4x784, .f32⟩
  | 66 => ⟨S_, .f32⟩
  | 67 => ⟨S4x784, .f32⟩
  | 68 => ⟨S4x784, .f32⟩
  | 69 => ⟨S4x784, .i32⟩
  | 70 => ⟨S_, .i32⟩
  | 71 => ⟨S_, .i32⟩
  | 72 => ⟨S_, .f32⟩
  | 73 => ⟨S4x784, .f32⟩
  | 74 => ⟨S4x784, .f32⟩
  | 75 => ⟨S_, .f32⟩
  | 76 => ⟨S4x784, .f32⟩
  | 77 => ⟨S4x784, .f32⟩
  | 78 => ⟨S4x784, .i32⟩
  | 79 => ⟨S4x784, .f32⟩
  | 80 => ⟨S4x784, .f32⟩
  | 81 => ⟨S_, .f32⟩
  | 82 => ⟨S4x784, .f32⟩
  | 83 => ⟨S4x784, .f32⟩
  | 84 => ⟨S_, .f32⟩
  | 85 => ⟨S4x784, .f32⟩
  | 86 => ⟨S4x784, .f32⟩
  | 87 => ⟨S_, .f32⟩
  | 88 => ⟨S4x784, .f32⟩
  | 89 => ⟨S4x784, .i1⟩
  | 90 => ⟨S_, .f32⟩
  | 91 => ⟨S4x784, .f32⟩
  | 92 => ⟨S4x784, .i1⟩
  | 93 => ⟨S4x784, .i1⟩
  | 94 => ⟨S_, .f32⟩
  | 95 => ⟨S4x784, .f32⟩
  | 96 => ⟨S4x784, .i1⟩
  | 97 => ⟨S4x784, .i1⟩
  | 98 => ⟨S_, .f32⟩
  | 99 => ⟨S4x784, .f32⟩
  | 100 => ⟨S4x784, .i1⟩
  | 101 => ⟨S4x784, .i1⟩
  | 102 => ⟨S_, .i32⟩
  | 103 => ⟨S_, .i32⟩
  | 104 => ⟨S_, .f32⟩
  | 105 => ⟨S4x784, .f32⟩
  | 106 => ⟨S4x784, .f32⟩
  | 107 => ⟨S_, .f32⟩
  | 108 => ⟨S4x784, .f32⟩
  | 109 => ⟨S4x784, .f32⟩
  | 110 => ⟨S4x784, .i32⟩
  | 111 => ⟨S_, .i32⟩
  | 112 => ⟨S_, .i32⟩
  | 113 => ⟨S_, .f32⟩
  | 114 => ⟨S4x784, .f32⟩
  | 115 => ⟨S4x784, .f32⟩
  | 116 => ⟨S_, .f32⟩
  | 117 => ⟨S4x784, .f32⟩
  | 118 => ⟨S4x784, .f32⟩
  | 119 => ⟨S4x784, .i32⟩
  | 120 => ⟨S4x784, .f32⟩
  | 121 => ⟨S4x784, .f32⟩
  | 122 => ⟨S_, .f32⟩
  | 123 => ⟨S4x784, .f32⟩
  | 124 => ⟨S4x784, .f32⟩
  | 125 => ⟨S_, .f32⟩
  | 126 => ⟨S4x784, .f32⟩
  | 127 => ⟨S4x784, .f32⟩
  | _ => ⟨S4x784, .i32⟩

abbrev hbmTy0_2 (i : Nat) : BufTy := match i % 128 with
  | 0 => ⟨S_, .f32⟩
  | 1 => ⟨S4x784, .f32⟩
  | 2 => ⟨S4x784, .i1⟩
  | 3 => ⟨S_, .f32⟩
  | 4 => ⟨S4x784, .f32⟩
  | 5 => ⟨S4x784, .i1⟩
  | 6 => ⟨S4x784, .i1⟩
  | 7 => ⟨S_, .f32⟩
  | 8 => ⟨S4x784, .f32⟩
  | 9 => ⟨S4x784, .i1⟩
  | 10 => ⟨S4x784, .i1⟩
  | 11 => ⟨S_, .f32⟩
  | 12 => ⟨S4x784, .f32⟩
  | 13 => ⟨S4x784, .i1⟩
  | 14 => ⟨S4x784, .i1⟩
  | 15 => ⟨S_, .i32⟩
  | 16 => ⟨S_, .i32⟩
  | 17 => ⟨S_, .f32⟩
  | 18 => ⟨S4x784, .f32⟩
  | 19 => ⟨S4x784, .f32⟩
  | 20 => ⟨S_, .f32⟩
  | 21 => ⟨S4x784, .f32⟩
  | 22 => ⟨S4x784, .f32⟩
  | 23 => ⟨S4x784, .i32⟩
  | 24 => ⟨S_, .i32⟩
  | 25 => ⟨S_, .i32⟩
  | 26 => ⟨S_, .f32⟩
  | 27 => ⟨S4x784, .f32⟩
  | 28 => ⟨S4x784, .f32⟩
  | 29 => ⟨S_, .f32⟩
  | 30 => ⟨S4x784, .f32⟩
  | 31 => ⟨S4x784, .f32⟩
  | 32 => ⟨S4x784, .i32⟩
  | 33 => ⟨S4x784, .f32⟩
  | 34 => ⟨S4x784, .f32⟩
  | 35 => ⟨S4x1, .i32⟩
  | 36 => ⟨S_, .i32⟩
  | 37 => ⟨S4x784, .i32⟩
  | 38 => ⟨S4x784, .i32⟩
  | 39 => ⟨S4x784, .i32⟩
  | 40 => ⟨S4x784, .i32⟩
  | 41 => ⟨S4x784, .i32⟩
  | 42 => ⟨S_, .i32⟩
  | 43 => ⟨S4x784, .i32⟩
  | 44 => ⟨S4x784, .i1⟩
  | 45 => ⟨S_, .i32⟩
  | 46 => ⟨S4x784, .i32⟩
  | 47 => ⟨S4x784, .i32⟩
  | 48 => ⟨S4x784, .i32⟩
  | 49 => ⟨S4x784x1, .i32⟩
  | 50 => ⟨S4x784x256, .f32⟩
  | 51 => ⟨S4x784x1, .f32⟩
  | 52 => ⟨S4x784x256, .f32⟩
  | 53 => ⟨S4x784x256, .f32⟩
  | 54 => ⟨S4x784x256, .f32⟩
  | 55 => ⟨S4x1, .i32⟩
  | 56 => ⟨S_, .i32⟩
  | 57 => ⟨S4x784, .i32⟩
  | 58 => ⟨S4x784, .i32⟩
  | 59 => ⟨S4x784, .i32⟩
  | 60 => ⟨S4x784, .i32⟩
  | 61 => ⟨S4x784, .i32⟩
  | 62 => ⟨S_, .i32⟩
  | 63 => ⟨S4x784, .i32⟩
  | 64 => ⟨S4x784, .i1⟩
  | 65 => ⟨S_, .i32⟩
  | 66 => ⟨S4x784, .i32⟩
  | 67 => ⟨S4x784, .i32⟩
  | 68 => ⟨S4x784, .i32⟩
  | 69 => ⟨S4x784x1, .i32⟩
  | 70 => ⟨S4x784x256, .f32⟩
  | 71 => ⟨S4x784x1, .f32⟩
  | 72 => ⟨S4x784x256, .f32⟩
  | 73 => ⟨S4x784x256, .f32⟩
  | 74 => ⟨S4x784x256, .f32⟩
  | 75 => ⟨S4x1, .i32⟩
  | 76 => ⟨S_, .i32⟩
  | 77 => ⟨S4x784, .i32⟩
  | 78 => ⟨S4x784, .i32⟩
  | 79 => ⟨S4x784, .i32⟩
  | 80 => ⟨S4x784, .i32⟩
  | 81 => ⟨S4x784, .i32⟩
  | 82 => ⟨S_, .i32⟩
  | 83 => ⟨S4x784, .i32⟩
  | 84 => ⟨S4x784, .i1⟩
  | 85 => ⟨S_, .i32⟩
  | 86 => ⟨S4x784, .i32⟩
  | 87 => ⟨S4x784, .i32⟩
  | 88 => ⟨S4x784, .i32⟩
  | 89 => ⟨S4x784x1, .i32⟩
  | 90 => ⟨S4x784x256, .f32⟩
  | 91 => ⟨S4x784x1, .f32⟩
  | 92 => ⟨S4x784x256, .f32⟩
  | 93 => ⟨S4x784x256, .f32⟩
  | 94 => ⟨S4x784x256, .f32⟩
  | 95 => ⟨S4x1, .i32⟩
  | 96 => ⟨S_, .i32⟩
  | 97 => ⟨S4x784, .i32⟩
  | 98 => ⟨S4x784, .i32⟩
  | 99 => ⟨S4x784, .i32⟩
  | 100 => ⟨S4x784, .i32⟩
  | 101 => ⟨S4x784, .i32⟩
  | 102 => ⟨S_, .i32⟩
  | 103 => ⟨S4x784, .i32⟩
  | 104 => ⟨S4x784, .i1⟩
  | 105 => ⟨S_, .i32⟩
  | 106 => ⟨S4x784, .i32⟩
  | 107 => ⟨S4x784, .i32⟩
  | 108 => ⟨S4x784, .i32⟩
  | 109 => ⟨S4x784x1, .i32⟩
  | 110 => ⟨S4x784x256, .f32⟩
  | 111 => ⟨S4x784x1, .f32⟩
  | 112 => ⟨S4x784x256, .f32⟩
  | 113 => ⟨S4x784x256, .f32⟩
  | 114 => ⟨S4x784x256, .f32⟩
  | 115 => ⟨S_, .f32⟩
  | 116 => ⟨S4x784, .f32⟩
  | 117 => ⟨S4x784, .f32⟩
  | 118 => ⟨S_, .f32⟩
  | 119 => ⟨S4x784, .f32⟩
  | 120 => ⟨S4x784, .f32⟩
  | 121 => ⟨S_, .f32⟩
  | 122 => ⟨S4x784, .f32⟩
  | 123 => ⟨S4x784, .f32⟩
  | 124 => ⟨S_, .f32⟩
  | 125 => ⟨S4x784, .f32⟩
  | 126 => ⟨S4x784, .f32⟩
  | 127 => ⟨S_, .f32⟩
  | _ => ⟨S4x784, .i32⟩

abbrev hbmTy0_3 (i : Nat) : BufTy := match i % 128 with
  | 0 => ⟨S4x784x80, .f32⟩
  | 1 => ⟨S4x49x80, .f32⟩
  | 2 => ⟨S4x784, .f32⟩
  | 3 => ⟨S4x784, .f32⟩
  | 4 => ⟨S4x784, .f32⟩
  | 5 => ⟨S4x784, .f32⟩
  | 6 => ⟨S_, .f32⟩
  | 7 => ⟨S4x784, .f32⟩
  | 8 => ⟨S4x784, .f32⟩
  | 9 => ⟨S_, .f32⟩
  | 10 => ⟨S4x784, .f32⟩
  | 11 => ⟨S4x784, .f32⟩
  | 12 => ⟨S4x784, .f32⟩
  | 13 => ⟨S_, .f32⟩
  | 14 => ⟨S4x784, .f32⟩
  | 15 => ⟨S4x784, .f32⟩
  | 16 => ⟨S4x784, .f32⟩
  | 17 => ⟨S_, .f32⟩
  | 18 => ⟨S4x784, .f32⟩
  | 19 => ⟨S4x784, .f32⟩
  | 20 => ⟨S4x784, .f32⟩
  | 21 => ⟨S4x784, .f32⟩
  | 22 => ⟨S_, .f32⟩
  | 23 => ⟨S4x784, .f32⟩
  | 24 => ⟨S4x784, .f32⟩
  | 25 => ⟨S_, .f32⟩
  | 26 => ⟨S4x784, .f32⟩
  | 27 => ⟨S4x784, .f32⟩
  | 28 => ⟨S_, .f32⟩
  | 29 => ⟨S4x784, .f32⟩
  | 30 => ⟨S4x784, .i1⟩
  | 31 => ⟨S_, .f32⟩
  | 32 => ⟨S4x784, .f32⟩
  | 33 => ⟨S4x784, .i1⟩
  | 34 => ⟨S4x784, .i1⟩
  | 35 => ⟨S_, .f32⟩
  | 36 => ⟨S4x784, .f32⟩
  | 37 => ⟨S4x784, .i1⟩
  | 38 => ⟨S4x784, .i1⟩
  | 39 => ⟨S_, .f32⟩
  | 40 => ⟨S4x784, .f32⟩
  | 41 => ⟨S4x784, .i1⟩
  | 42 => ⟨S4x784, .i1⟩
  | 43 => ⟨S_, .i32⟩
  | 44 => ⟨S_, .i32⟩
  | 45 => ⟨S_, .f32⟩
  | 46 => ⟨S4x784, .f32⟩
  | 47 => ⟨S4x784, .f32⟩
  | 48 => ⟨S_, .f32⟩
  | 49 => ⟨S4x784, .f32⟩
  | 50 => ⟨S4x784, .f32⟩
  | 51 => ⟨S4x784, .i32⟩
  | 52 => ⟨S_, .i32⟩
  | 53 => ⟨S_, .i32⟩
  | 54 => ⟨S_, .f32⟩
  | 55 => ⟨S4x784, .f32⟩
  | 56 => ⟨S4x784, .f32⟩
  | 57 => ⟨S_, .f32⟩
  | 58 => ⟨S4x784, .f32⟩
  | 59 => ⟨S4x784, .f32⟩
  | 60 => ⟨S4x784, .i32⟩
  | 61 => ⟨S4x784, .f32⟩
  | 62 => ⟨S4x784, .f32⟩
  | 63 => ⟨S_, .f32⟩
  | 64 => ⟨S4x784, .f32⟩
  | 65 => ⟨S4x784, .f32⟩
  | 66 => ⟨S_, .f32⟩
  | 67 => ⟨S4x784, .f32⟩
  | 68 => ⟨S4x784, .f32⟩
  | 69 => ⟨S_, .f32⟩
  | 70 => ⟨S4x784, .f32⟩
  | 71 => ⟨S4x784, .i1⟩
  | 72 => ⟨S_, .f32⟩
  | 73 => ⟨S4x784, .f32⟩
  | 74 => ⟨S4x784, .i1⟩
  | 75 => ⟨S4x784, .i1⟩
  | 76 => ⟨S_, .f32⟩
  | 77 => ⟨S4x784, .f32⟩
  | 78 => ⟨S4x784, .i1⟩
  | 79 => ⟨S4x784, .i1⟩
  | 80 => ⟨S_, .f32⟩
  | 81 => ⟨S4x784, .f32⟩
  | 82 => ⟨S4x784, .i1⟩
  | 83 => ⟨S4x784, .i1⟩
  | 84 => ⟨S_, .i32⟩
  | 85 => ⟨S_, .i32⟩
  | 86 => ⟨S_, .f32⟩
  | 87 => ⟨S4x784, .f32⟩
  | 88 => ⟨S4x784, .f32⟩
  | 89 => ⟨S_, .f32⟩
  | 90 => ⟨S4x784, .f32⟩
  | 91 => ⟨S4x784, .f32⟩
  | 92 => ⟨S4x784, .i32⟩
  | 93 => ⟨S_, .i32⟩
  | 94 => ⟨S_, .i32⟩
  | 95 => ⟨S_, .f32⟩
  | 96 => ⟨S4x784, .f32⟩
  | 97 => ⟨S4x784, .f32⟩
  | 98 => ⟨S_, .f32⟩
  | 99 => ⟨S4x784, .f32⟩
  | 100 => ⟨S4x784, .f32⟩
  | 101 => ⟨S4x784, .i32⟩
  | 102 => ⟨S4x784, .f32⟩
  | 103 => ⟨S4x784, .f32⟩
  | 104 => ⟨S_, .f32⟩
  | 105 => ⟨S4x784, .f32⟩
  | 106 => ⟨S4x784, .f32⟩
  | 107 => ⟨S_, .f32⟩
  | 108 => ⟨S4x784, .f32⟩
  | 109 => ⟨S4x784, .f32⟩
  | 110 => ⟨S_, .f32⟩
  | 111 => ⟨S4x784, .f32⟩
  | 112 => ⟨S4x784, .i1⟩
  | 113 => ⟨S_, .f32⟩
  | 114 => ⟨S4x784, .f32⟩
  | 115 => ⟨S4x784, .i1⟩
  | 116 => ⟨S4x784, .i1⟩
  | 117 => ⟨S_, .f32⟩
  | 118 => ⟨S4x784, .f32⟩
  | 119 => ⟨S4x784, .i1⟩
  | 120 => ⟨S4x784, .i1⟩
  | 121 => ⟨S_, .f32⟩
  | 122 => ⟨S4x784, .f32⟩
  | 123 => ⟨S4x784, .i1⟩
  | 124 => ⟨S4x784, .i1⟩
  | 125 => ⟨S_, .i32⟩
  | 126 => ⟨S_, .i32⟩
  | 127 => ⟨S_, .f32⟩
  | _ => ⟨S4x784, .i32⟩

abbrev hbmTy0_4 (i : Nat) : BufTy := match i % 128 with
  | 0 => ⟨S4x784, .f32⟩
  | 1 => ⟨S4x784, .f32⟩
  | 2 => ⟨S_, .f32⟩
  | 3 => ⟨S4x784, .f32⟩
  | 4 => ⟨S4x784, .f32⟩
  | 5 => ⟨S4x784, .i32⟩
  | 6 => ⟨S_, .i32⟩
  | 7 => ⟨S_, .i32⟩
  | 8 => ⟨S_, .f32⟩
  | 9 => ⟨S4x784, .f32⟩
  | 10 => ⟨S4x784, .f32⟩
  | 11 => ⟨S_, .f32⟩
  | 12 => ⟨S4x784, .f32⟩
  | 13 => ⟨S4x784, .f32⟩
  | 14 => ⟨S4x784, .i32⟩
  | 15 => ⟨S4x784, .f32⟩
  | 16 => ⟨S4x784, .f32⟩
  | 17 => ⟨S_, .f32⟩
  | 18 => ⟨S4x784, .f32⟩
  | 19 => ⟨S4x784, .f32⟩
  | 20 => ⟨S_, .f32⟩
  | 21 => ⟨S4x784, .f32⟩
  | 22 => ⟨S4x784, .f32⟩
  | 23 => ⟨S_, .f32⟩
  | 24 => ⟨S4x784, .f32⟩
  | 25 => ⟨S4x784, .i1⟩
  | 26 => ⟨S_, .f32⟩
  | 27 => ⟨S4x784, .f32⟩
  | 28 => ⟨S4x784, .i1⟩
  | 29 => ⟨S4x784, .i1⟩
  | 30 => ⟨S_, .f32⟩
  | 31 => ⟨S4x784, .f32⟩
  | 32 => ⟨S4x784, .i1⟩
  | 33 => ⟨S4x784, .i1⟩
  | 34 => ⟨S_, .f32⟩
  | 35 => ⟨S4x784, .f32⟩
  | 36 => ⟨S4x784, .i1⟩
  | 37 => ⟨S4x784, .i1⟩
  | 38 => ⟨S_, .i32⟩
  | 39 => ⟨S_, .i32⟩
  | 40 => ⟨S_, .f32⟩
  | 41 => ⟨S4x784, .f32⟩
  | 42 => ⟨S4x784, .f32⟩
  | 43 => ⟨S_, .f32⟩
  | 44 => ⟨S4x784, .f32⟩
  | 45 => ⟨S4x784, .f32⟩
  | 46 => ⟨S4x784, .i32⟩
  | 47 => ⟨S_, .i32⟩
  | 48 => ⟨S_, .i32⟩
  | 49 => ⟨S_, .f32⟩
  | 50 => ⟨S4x784, .f32⟩
  | 51 => ⟨S4x784, .f32⟩
  | 52 => ⟨S_, .f32⟩
  | 53 => ⟨S4x784, .f32⟩
  | 54 => ⟨S4x784, .f32⟩
  | 55 => ⟨S4x784, .i32⟩
  | 56 => ⟨S4x784, .f32⟩
  | 57 => ⟨S4x784, .f32⟩
  | 58 => ⟨S_, .i32⟩
  | 59 => ⟨S4x784, .i32⟩
  | 60 => ⟨S4x784, .i32⟩
  | 61 => ⟨S4x784, .i32⟩
  | 62 => ⟨S4x784x1, .i32⟩
  | 63 => ⟨S_, .i32⟩
  | 64 => ⟨S4x784x1, .i32⟩
  | 65 => ⟨S4x784x1, .i1⟩
  | 66 => ⟨S_, .i32⟩
  | 67 => ⟨S4x784x1, .i32⟩
  | 68 => ⟨S4x784x1, .i32⟩
  | 69 => ⟨S4x784x1, .i32⟩
  | 70 => ⟨S1, .i32⟩
  | 71 => ⟨S_, .i32⟩
  | 72 => ⟨S4x784x1, .i32⟩
  | 73 => ⟨S4x784x1, .i1⟩
  | 74 => ⟨S1x1x1, .i32⟩
  | 75 => ⟨S4x784x1, .i32⟩
  | 76 => ⟨S4x784x1, .i1⟩
  | 77 => ⟨S4x784x1, .i1⟩
  | 78 => ⟨S_, .i1⟩
  | 79 => ⟨S4x784, .i1⟩
  | 80 => ⟨S4x784x80, .f32⟩
  | 81 => ⟨S4x784x80, .i1⟩
  | 82 => ⟨S_, .f32⟩
  | 83 => ⟨S4x784x80, .f32⟩
  | 84 => ⟨S4x784x80, .f32⟩
  | 85 => ⟨S4x784x1, .f32⟩
  | 86 => ⟨S4x784x80, .f32⟩
  | 87 => ⟨S4x784x80, .f32⟩
  | 88 => ⟨S4x784x80, .f32⟩
  | 89 => ⟨S_, .i32⟩
  | 90 => ⟨S4x784, .i32⟩
  | 91 => ⟨S4x784, .i32⟩
  | 92 => ⟨S4x784, .i32⟩
  | 93 => ⟨S4x784x1, .i32⟩
  | 94 => ⟨S_, .i32⟩
  | 95 => ⟨S4x784x1, .i32⟩
  | 96 => ⟨S4x784x1, .i1⟩
  | 97 => ⟨S_, .i32⟩
  | 98 => ⟨S4x784x1, .i32⟩
  | 99 => ⟨S4x784x1, .i32⟩
  | 100 => ⟨S4x784x1, .i32⟩
  | 101 => ⟨S1, .i32⟩
  | 102 => ⟨S_, .i32⟩
  | 103 => ⟨S4x784x1, .i32⟩
  | 104 => ⟨S4x784x1, .i1⟩
  | 105 => ⟨S1x1x1, .i32⟩
  | 106 => ⟨S4x784x1, .i32⟩
  | 107 => ⟨S4x784x1, .i1⟩
  | 108 => ⟨S4x784x1, .i1⟩
  | 109 => ⟨S_, .i1⟩
  | 110 => ⟨S4x784, .i1⟩
  | 111 => ⟨S4x784x80, .f32⟩
  | 112 => ⟨S4x784x80, .i1⟩
  | 113 => ⟨S_, .f32⟩
  | 114 => ⟨S4x784x80, .f32⟩
  | 115 => ⟨S4x784x80, .f32⟩
  | 116 => ⟨S4x784x1, .f32⟩
  | 117 => ⟨S4x784x80, .f32⟩
  | 118 => ⟨S4x784x80, .f32⟩
  | 119 => ⟨S4x784x80, .f32⟩
  | 120 => ⟨S_, .i32⟩
  | 121 => ⟨S4x784, .i32⟩
  | 122 => ⟨S4x784, .i32⟩
  | 123 => ⟨S4x784, .i32⟩
  | 124 => ⟨S4x784x1, .i32⟩
  | 125 => ⟨S_, .i32⟩
  | 126 => ⟨S4x784x1, .i32⟩
  | 127 => ⟨S4x784x1, .i1⟩
  | _ => ⟨S4x784, .i32⟩

abbrev hbmTy0_5 (i : Nat) : BufTy := match i % 128 with
  | 0 => ⟨S_, .i32⟩
  | 1 => ⟨S4x784x1, .i32⟩
  | 2 => ⟨S4x784x1, .i32⟩
  | 3 => ⟨S4x784x1, .i32⟩
  | 4 => ⟨S1, .i32⟩
  | 5 => ⟨S_, .i32⟩
  | 6 => ⟨S4x784x1, .i32⟩
  | 7 => ⟨S4x784x1, .i1⟩
  | 8 => ⟨S1x1x1, .i32⟩
  | 9 => ⟨S4x784x1, .i32⟩
  | 10 => ⟨S4x784x1, .i1⟩
  | 11 => ⟨S4x784x1, .i1⟩
  | 12 => ⟨S_, .i1⟩
  | 13 => ⟨S4x784, .i1⟩
  | 14 => ⟨S4x784x80, .f32⟩
  | 15 => ⟨S4x784x80, .i1⟩
  | 16 => ⟨S_, .f32⟩
  | 17 => ⟨S4x784x80, .f32⟩
  | 18 => ⟨S4x784x80, .f32⟩
  | 19 => ⟨S4x784x1, .f32⟩
  | 20 => ⟨S4x784x80, .f32⟩
  | 21 => ⟨S4x784x80, .f32⟩
  | 22 => ⟨S4x784x80, .f32⟩
  | 23 => ⟨S_, .i32⟩
  | 24 => ⟨S4x784, .i32⟩
  | 25 => ⟨S4x784, .i32⟩
  | 26 => ⟨S4x784, .i32⟩
  | 27 => ⟨S4x784x1, .i32⟩
  | 28 => ⟨S_, .i32⟩
  | 29 => ⟨S4x784x1, .i32⟩
  | 30 => ⟨S4x784x1, .i1⟩
  | 31 => ⟨S_, .i32⟩
  | 32 => ⟨S4x784x1, .i32⟩
  | 33 => ⟨S4x784x1, .i32⟩
  | 34 => ⟨S4x784x1, .i32⟩
  | 35 => ⟨S1, .i32⟩
  | 36 => ⟨S_, .i32⟩
  | 37 => ⟨S4x784x1, .i32⟩
  | 38 => ⟨S4x784x1, .i1⟩
  | 39 => ⟨S1x1x1, .i32⟩
  | 40 => ⟨S4x784x1, .i32⟩
  | 41 => ⟨S4x784x1, .i1⟩
  | 42 => ⟨S4x784x1, .i1⟩
  | 43 => ⟨S_, .i1⟩
  | 44 => ⟨S4x784, .i1⟩
  | 45 => ⟨S4x784x80, .f32⟩
  | 46 => ⟨S4x784x80, .i1⟩
  | 47 => ⟨S_, .f32⟩
  | 48 => ⟨S4x784x80, .f32⟩
  | 49 => ⟨S4x784x80, .f32⟩
  | 50 => ⟨S4x784x1, .f32⟩
  | 51 => ⟨S4x784x80, .f32⟩
  | 52 => ⟨S4x784x80, .f32⟩
  | 53 => ⟨S4x784x80, .f32⟩
  | 54 => ⟨S3136x256, .f32⟩
  | 55 => ⟨S3136x80, .f32⟩
  | 56 => ⟨S1x256, .f32⟩
  | 57 => ⟨S1x256, .f32⟩
  | 58 => ⟨S1x256, .f32⟩
  | 59 => ⟨S1x80, .f32⟩
  | 60 => ⟨S3136x80, .f32⟩
  | 61 => ⟨S4x784x80, .f32⟩
  | _ => ⟨S4x784, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4x784, .i32⟩

abbrev bufTy : (tb : Table) → Fin (tcTables nBuf tb) → BufTy
  | .hbm, ⟨i, _⟩ => hbmTy i
  | .local _ .vmem, ⟨0, _⟩ => ⟨S1x256x8x200, .f32⟩
  | .local _ .vmem, ⟨1, _⟩ => ⟨S1x256x8x200, .f32⟩
  | .local _ .vmem, ⟨2, _⟩ => ⟨S1x8x200x256, .f32⟩
  | .local _ .vmem, ⟨3, _⟩ => ⟨S1x8x200x256, .f32⟩
  | .local _ .vmem, ⟨4, _⟩ => ⟨S3136x256, .f32⟩
  | .local _ .vmem, ⟨5, _⟩ => ⟨S3136x80, .f32⟩
  | .local _ .vmem, ⟨6, _⟩ => ⟨S256x336, .f32⟩
  | .local _ .vmem, ⟨7, _⟩ => ⟨S1x256, .f32⟩
  | .local _ .vmem, ⟨8, _⟩ => ⟨S256x336, .f32⟩
  | .local _ .vmem, ⟨9, _⟩ => ⟨S1x256, .f32⟩
  | .local _ .vmem, ⟨10, _⟩ => ⟨S256x336, .f32⟩
  | .local _ .vmem, ⟨11, _⟩ => ⟨S1x256, .f32⟩
  | .local _ .vmem, ⟨12, _⟩ => ⟨S80x336, .f32⟩
  | .local _ .vmem, ⟨13, _⟩ => ⟨S1x80, .f32⟩
  | .local _ .vmem, ⟨14, _⟩ => ⟨S3136x80, .f32⟩
  | _, _ => ⟨S4x784, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c_0 : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c_1 : Ref sig .tc := ⟨.hbm, 27, rfl⟩
abbrev main_call0_v5 : Ref sig .tc := ⟨.hbm, 28, rfl⟩
abbrev main_call0_v6 : Ref sig .tc := ⟨.hbm, 29, rfl⟩
abbrev main_call0_c_2 : Ref sig .tc := ⟨.hbm, 30, rfl⟩
abbrev main_call0_v7 : Ref sig .tc := ⟨.hbm, 31, rfl⟩
abbrev main_call0_v8 : Ref sig .tc := ⟨.hbm, 32, rfl⟩
abbrev main_call0_c_3 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_v5 : Ref sig .tc := ⟨.hbm, 40, rfl⟩
abbrev main_v6 : Ref sig .tc := ⟨.hbm, 41, rfl⟩
abbrev main_cst : Ref sig .tc := ⟨.hbm, 42, rfl⟩
abbrev main_v7 : Ref sig .tc := ⟨.hbm, 43, rfl⟩
abbrev main_v8 : Ref sig .tc := ⟨.hbm, 44, rfl⟩
abbrev main_cst_1 : Ref sig .tc := ⟨.hbm, 45, rfl⟩
abbrev main_v9 : Ref sig .tc := ⟨.hbm, 46, rfl⟩
abbrev main_v10 : Ref sig .tc := ⟨.hbm, 47, rfl⟩
abbrev main_c_2 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_c : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_0 : Ref sig .tc := ⟨.hbm, 62, rfl⟩
abbrev main_call1_v12 : Ref sig .tc := ⟨.hbm, 63, rfl⟩
abbrev main_call1_v13 : Ref sig .tc := ⟨.hbm, 64, rfl⟩
abbrev main_v11 : Ref sig .tc := ⟨.hbm, 65, rfl⟩
abbrev main_v12 : Ref sig .tc := ⟨.hbm, 66, rfl⟩
abbrev main_cst_3 : Ref sig .tc := ⟨.hbm, 67, rfl⟩
abbrev main_v13 : Ref sig .tc := ⟨.hbm, 68, rfl⟩
abbrev main_v14 : Ref sig .tc := ⟨.hbm, 69, rfl⟩
abbrev main_cst_4 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_cst_5 : Ref sig .tc := ⟨.hbm, 82, rfl⟩
abbrev main_v26 : Ref sig .tc := ⟨.hbm, 83, rfl⟩
abbrev main_v27 : Ref sig .tc := ⟨.hbm, 84, rfl⟩
abbrev main_cst_6 : Ref sig .tc := ⟨.hbm, 85, rfl⟩
abbrev main_v28 : Ref sig .tc := ⟨.hbm, 86, rfl⟩
abbrev main_v29 : Ref sig .tc := ⟨.hbm, 87, rfl⟩
abbrev main_cst_7 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_cst_8 : Ref sig .tc := ⟨.hbm, 96, rfl⟩
abbrev main_v37 : Ref sig .tc := ⟨.hbm, 97, rfl⟩
abbrev main_v38 : Ref sig .tc := ⟨.hbm, 98, rfl⟩
abbrev main_cst_9 : Ref sig .tc := ⟨.hbm, 99, rfl⟩
abbrev main_v39 : Ref sig .tc := ⟨.hbm, 100, rfl⟩
abbrev main_v40 : Ref sig .tc := ⟨.hbm, 101, rfl⟩
abbrev main_cst_10 : Ref sig .tc := ⟨.hbm, 102, rfl⟩
abbrev main_v41 : Ref sig .tc := ⟨.hbm, 103, rfl⟩
abbrev main_v42 : Ref sig .tc := ⟨.hbm, 104, rfl⟩
abbrev main_cst_11 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_cst_12 : Ref sig .tc := ⟨.hbm, 111, rfl⟩
abbrev main_v48 : Ref sig .tc := ⟨.hbm, 112, rfl⟩
abbrev main_v49 : Ref sig .tc := ⟨.hbm, 113, rfl⟩
abbrev main_cst_13 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_cst_14 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_cst_15 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_cst_16 : Ref sig .tc := ⟨.hbm, 127, rfl⟩
abbrev main_v60 : Ref sig .tc := ⟨.hbm, 128, rfl⟩
abbrev main_v61 : Ref sig .tc := ⟨.hbm, 129, rfl⟩
abbrev main_cst_17 : Ref sig .tc := ⟨.hbm, 130, rfl⟩
abbrev main_v62 : Ref sig .tc := ⟨.hbm, 131, rfl⟩
abbrev main_v63 : Ref sig .tc := ⟨.hbm, 132, rfl⟩
abbrev main_cst_18 : Ref sig .tc := ⟨.hbm, 133, rfl⟩
abbrev main_v64 : Ref sig .tc := ⟨.hbm, 134, rfl⟩
abbrev main_v65 : Ref sig .tc := ⟨.hbm, 135, rfl⟩
abbrev main_cst_19 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_cst_20 : Ref sig .tc := ⟨.hbm, 140, rfl⟩
abbrev main_v69 : Ref sig .tc := ⟨.hbm, 141, rfl⟩
abbrev main_v70 : Ref sig .tc := ⟨.hbm, 142, rfl⟩
abbrev main_v71 : Ref sig .tc := ⟨.hbm, 143, rfl⟩
abbrev main_cst_21 : Ref sig .tc := ⟨.hbm, 144, rfl⟩
abbrev main_v72 : Ref sig .tc := ⟨.hbm, 145, rfl⟩
abbrev main_v73 : Ref sig .tc := ⟨.hbm, 146, rfl⟩
abbrev main_v74 : Ref sig .tc := ⟨.hbm, 147, rfl⟩
abbrev main_c_22 : Ref sig .tc := ⟨.hbm, 148, rfl⟩
abbrev main_c_23 : Ref sig .tc := ⟨.hbm, 149, rfl⟩
abbrev main_call2_v0 : Ref sig .tc := ⟨.hbm, 150, rfl⟩
abbrev main_call2_v1 : Ref sig .tc := ⟨.hbm, 151, rfl⟩
abbrev main_call2_v2 : Ref sig .tc := ⟨.hbm, 152, rfl⟩
abbrev main_call2_v3 : Ref sig .tc := ⟨.hbm, 153, rfl⟩
abbrev main_call2_v4 : Ref sig .tc := ⟨.hbm, 154, rfl⟩
abbrev main_v75 : Ref sig .tc := ⟨.hbm, 155, rfl⟩
abbrev main_v76 : Ref sig .tc := ⟨.hbm, 156, rfl⟩
abbrev main_c_24 : Ref sig .tc := ⟨.hbm, 157, rfl⟩
abbrev main_c_25 : Ref sig .tc := ⟨.hbm, 158, rfl⟩
abbrev main_call3_v0 : Ref sig .tc := ⟨.hbm, 159, rfl⟩
abbrev main_call3_v1 : Ref sig .tc := ⟨.hbm, 160, rfl⟩
abbrev main_call3_v2 : Ref sig .tc := ⟨.hbm, 161, rfl⟩
abbrev main_call3_v3 : Ref sig .tc := ⟨.hbm, 162, rfl⟩
abbrev main_call3_v4 : Ref sig .tc := ⟨.hbm, 163, rfl⟩
abbrev main_v77 : Ref sig .tc := ⟨.hbm, 164, rfl⟩
abbrev main_v78 : Ref sig .tc := ⟨.hbm, 165, rfl⟩
abbrev main_v79 : Ref sig .tc := ⟨.hbm, 166, rfl⟩
abbrev main_v80 : Ref sig .tc := ⟨.hbm, 167, rfl⟩
abbrev main_cst_26 : Ref sig .tc := ⟨.hbm, 168, rfl⟩
abbrev main_v81 : Ref sig .tc := ⟨.hbm, 169, rfl⟩
abbrev main_v82 : Ref sig .tc := ⟨.hbm, 170, rfl⟩
abbrev main_cst_27 : Ref sig .tc := ⟨.hbm, 171, rfl⟩
abbrev main_v83 : Ref sig .tc := ⟨.hbm, 172, rfl⟩
abbrev main_v84 : Ref sig .tc := ⟨.hbm, 173, rfl⟩
abbrev main_cst_28 : Ref sig .tc := ⟨.hbm, 174, rfl⟩
abbrev main_v85 : Ref sig .tc := ⟨.hbm, 175, rfl⟩
abbrev main_v86 : Ref sig .tc := ⟨.hbm, 176, rfl⟩
abbrev main_cst_29 : Ref sig .tc := ⟨.hbm, 177, rfl⟩
abbrev main_v87 : Ref sig .tc := ⟨.hbm, 178, rfl⟩
abbrev main_v88 : Ref sig .tc := ⟨.hbm, 179, rfl⟩
abbrev main_v89 : Ref sig .tc := ⟨.hbm, 180, rfl⟩
abbrev main_cst_30 : Ref sig .tc := ⟨.hbm, 181, rfl⟩
abbrev main_v90 : Ref sig .tc := ⟨.hbm, 182, rfl⟩
abbrev main_v91 : Ref sig .tc := ⟨.hbm, 183, rfl⟩
abbrev main_v92 : Ref sig .tc := ⟨.hbm, 184, rfl⟩
abbrev main_cst_31 : Ref sig .tc := ⟨.hbm, 185, rfl⟩
abbrev main_v93 : Ref sig .tc := ⟨.hbm, 186, rfl⟩
abbrev main_v94 : Ref sig .tc := ⟨.hbm, 187, rfl⟩
abbrev main_v95 : Ref sig .tc := ⟨.hbm, 188, rfl⟩
abbrev main_c_32 : Ref sig .tc := ⟨.hbm, 189, rfl⟩
abbrev main_c_33 : Ref sig .tc := ⟨.hbm, 190, rfl⟩
abbrev main_call4_v0 : Ref sig .tc := ⟨.hbm, 191, rfl⟩
abbrev main_call4_v1 : Ref sig .tc := ⟨.hbm, 192, rfl⟩
abbrev main_call4_v2 : Ref sig .tc := ⟨.hbm, 193, rfl⟩
abbrev main_call4_v3 : Ref sig .tc := ⟨.hbm, 194, rfl⟩
abbrev main_call4_v4 : Ref sig .tc := ⟨.hbm, 195, rfl⟩
abbrev main_v96 : Ref sig .tc := ⟨.hbm, 196, rfl⟩
abbrev main_v97 : Ref sig .tc := ⟨.hbm, 197, rfl⟩
abbrev main_c_34 : Ref sig .tc := ⟨.hbm, 198, rfl⟩
abbrev main_c_35 : Ref sig .tc := ⟨.hbm, 199, rfl⟩
abbrev main_call5_v0 : Ref sig .tc := ⟨.hbm, 200, rfl⟩
abbrev main_call5_v1 : Ref sig .tc := ⟨.hbm, 201, rfl⟩
abbrev main_call5_v2 : Ref sig .tc := ⟨.hbm, 202, rfl⟩
abbrev main_call5_v3 : Ref sig .tc := ⟨.hbm, 203, rfl⟩
abbrev main_call5_v4 : Ref sig .tc := ⟨.hbm, 204, rfl⟩
abbrev main_v98 : Ref sig .tc := ⟨.hbm, 205, rfl⟩
abbrev main_v99 : Ref sig .tc := ⟨.hbm, 206, rfl⟩
abbrev main_v100 : Ref sig .tc := ⟨.hbm, 207, rfl⟩
abbrev main_v101 : Ref sig .tc := ⟨.hbm, 208, rfl⟩
abbrev main_cst_36 : Ref sig .tc := ⟨.hbm, 209, rfl⟩
abbrev main_v102 : Ref sig .tc := ⟨.hbm, 210, rfl⟩
abbrev main_v103 : Ref sig .tc := ⟨.hbm, 211, rfl⟩
abbrev main_cst_37 : Ref sig .tc := ⟨.hbm, 212, rfl⟩
abbrev main_v104 : Ref sig .tc := ⟨.hbm, 213, rfl⟩
abbrev main_v105 : Ref sig .tc := ⟨.hbm, 214, rfl⟩
abbrev main_cst_38 : Ref sig .tc := ⟨.hbm, 215, rfl⟩
abbrev main_v106 : Ref sig .tc := ⟨.hbm, 216, rfl⟩
abbrev main_v107 : Ref sig .tc := ⟨.hbm, 217, rfl⟩
abbrev main_cst_39 : Ref sig .tc := ⟨.hbm, 218, rfl⟩
abbrev main_v108 : Ref sig .tc := ⟨.hbm, 219, rfl⟩
abbrev main_v109 : Ref sig .tc := ⟨.hbm, 220, rfl⟩
abbrev main_v110 : Ref sig .tc := ⟨.hbm, 221, rfl⟩
abbrev main_cst_40 : Ref sig .tc := ⟨.hbm, 222, rfl⟩
abbrev main_v111 : Ref sig .tc := ⟨.hbm, 223, rfl⟩
abbrev main_v112 : Ref sig .tc := ⟨.hbm, 224, rfl⟩
abbrev main_v113 : Ref sig .tc := ⟨.hbm, 225, rfl⟩
abbrev main_cst_41 : Ref sig .tc := ⟨.hbm, 226, rfl⟩
abbrev main_v114 : Ref sig .tc := ⟨.hbm, 227, rfl⟩
abbrev main_v115 : Ref sig .tc := ⟨.hbm, 228, rfl⟩
abbrev main_v116 : Ref sig .tc := ⟨.hbm, 229, rfl⟩
abbrev main_c_42 : Ref sig .tc := ⟨.hbm, 230, rfl⟩
abbrev main_c_43 : Ref sig .tc := ⟨.hbm, 231, rfl⟩
abbrev main_call6_v0 : Ref sig .tc := ⟨.hbm, 232, rfl⟩
abbrev main_call6_v1 : Ref sig .tc := ⟨.hbm, 233, rfl⟩
abbrev main_call6_v2 : Ref sig .tc := ⟨.hbm, 234, rfl⟩
abbrev main_call6_v3 : Ref sig .tc := ⟨.hbm, 235, rfl⟩
abbrev main_call6_v4 : Ref sig .tc := ⟨.hbm, 236, rfl⟩
abbrev main_v117 : Ref sig .tc := ⟨.hbm, 237, rfl⟩
abbrev main_v118 : Ref sig .tc := ⟨.hbm, 238, rfl⟩
abbrev main_c_44 : Ref sig .tc := ⟨.hbm, 239, rfl⟩
abbrev main_c_45 : Ref sig .tc := ⟨.hbm, 240, rfl⟩
abbrev main_call7_v0 : Ref sig .tc := ⟨.hbm, 241, rfl⟩
abbrev main_call7_v1 : Ref sig .tc := ⟨.hbm, 242, rfl⟩
abbrev main_call7_v2 : Ref sig .tc := ⟨.hbm, 243, rfl⟩
abbrev main_call7_v3 : Ref sig .tc := ⟨.hbm, 244, rfl⟩
abbrev main_call7_v4 : Ref sig .tc := ⟨.hbm, 245, rfl⟩
abbrev main_v119 : Ref sig .tc := ⟨.hbm, 246, rfl⟩
abbrev main_v120 : Ref sig .tc := ⟨.hbm, 247, rfl⟩
abbrev main_v121 : Ref sig .tc := ⟨.hbm, 248, rfl⟩
abbrev main_v122 : Ref sig .tc := ⟨.hbm, 249, rfl⟩
abbrev main_cst_46 : Ref sig .tc := ⟨.hbm, 250, rfl⟩
abbrev main_v123 : Ref sig .tc := ⟨.hbm, 251, rfl⟩
abbrev main_v124 : Ref sig .tc := ⟨.hbm, 252, rfl⟩
abbrev main_cst_47 : Ref sig .tc := ⟨.hbm, 253, rfl⟩
abbrev main_v125 : Ref sig .tc := ⟨.hbm, 254, rfl⟩
abbrev main_v126 : Ref sig .tc := ⟨.hbm, 255, rfl⟩
abbrev main_cst_48 : Ref sig .tc := ⟨.hbm, 256, rfl⟩
abbrev main_v127 : Ref sig .tc := ⟨.hbm, 257, rfl⟩
abbrev main_v128 : Ref sig .tc := ⟨.hbm, 258, rfl⟩
abbrev main_cst_49 : Ref sig .tc := ⟨.hbm, 259, rfl⟩
abbrev main_v129 : Ref sig .tc := ⟨.hbm, 260, rfl⟩
abbrev main_v130 : Ref sig .tc := ⟨.hbm, 261, rfl⟩
abbrev main_v131 : Ref sig .tc := ⟨.hbm, 262, rfl⟩
abbrev main_cst_50 : Ref sig .tc := ⟨.hbm, 263, rfl⟩
abbrev main_v132 : Ref sig .tc := ⟨.hbm, 264, rfl⟩
abbrev main_v133 : Ref sig .tc := ⟨.hbm, 265, rfl⟩
abbrev main_v134 : Ref sig .tc := ⟨.hbm, 266, rfl⟩
abbrev main_cst_51 : Ref sig .tc := ⟨.hbm, 267, rfl⟩
abbrev main_v135 : Ref sig .tc := ⟨.hbm, 268, rfl⟩
abbrev main_v136 : Ref sig .tc := ⟨.hbm, 269, rfl⟩
abbrev main_v137 : Ref sig .tc := ⟨.hbm, 270, rfl⟩
abbrev main_c_52 : Ref sig .tc := ⟨.hbm, 271, rfl⟩
abbrev main_c_53 : Ref sig .tc := ⟨.hbm, 272, rfl⟩
abbrev main_call8_v0 : Ref sig .tc := ⟨.hbm, 273, rfl⟩
abbrev main_call8_v1 : Ref sig .tc := ⟨.hbm, 274, rfl⟩
abbrev main_call8_v2 : Ref sig .tc := ⟨.hbm, 275, rfl⟩
abbrev main_call8_v3 : Ref sig .tc := ⟨.hbm, 276, rfl⟩
abbrev main_call8_v4 : Ref sig .tc := ⟨.hbm, 277, rfl⟩
abbrev main_v138 : Ref sig .tc := ⟨.hbm, 278, rfl⟩
abbrev main_v139 : Ref sig .tc := ⟨.hbm, 279, rfl⟩
abbrev main_c_54 : Ref sig .tc := ⟨.hbm, 280, rfl⟩
abbrev main_c_55 : Ref sig .tc := ⟨.hbm, 281, rfl⟩
abbrev main_call9_v0 : Ref sig .tc := ⟨.hbm, 282, rfl⟩
abbrev main_call9_v1 : Ref sig .tc := ⟨.hbm, 283, rfl⟩
abbrev main_call9_v2 : Ref sig .tc := ⟨.hbm, 284, rfl⟩
abbrev main_call9_v3 : Ref sig .tc := ⟨.hbm, 285, rfl⟩
abbrev main_call9_v4 : Ref sig .tc := ⟨.hbm, 286, rfl⟩
abbrev main_v140 : Ref sig .tc := ⟨.hbm, 287, rfl⟩
abbrev main_v141 : Ref sig .tc := ⟨.hbm, 288, rfl⟩
abbrev main_v142 : Ref sig .tc := ⟨.hbm, 289, rfl⟩
abbrev main_v143 : Ref sig .tc := ⟨.hbm, 290, rfl⟩
abbrev main_v144 : Ref sig .tc := ⟨.hbm, 291, rfl⟩
abbrev main_c_56 : Ref sig .tc := ⟨.hbm, 292, rfl⟩
abbrev main_v145 : Ref sig .tc := ⟨.hbm, 293, rfl⟩
abbrev main_v146 : Ref sig .tc := ⟨.hbm, 294, rfl⟩
abbrev main_v147 : Ref sig .tc := ⟨.hbm, 295, rfl⟩
abbrev main_v148 : Ref sig .tc := ⟨.hbm, 296, rfl⟩
abbrev main_v149 : Ref sig .tc := ⟨.hbm, 297, rfl⟩
abbrev main_c_57 : Ref sig .tc := ⟨.hbm, 298, rfl⟩
abbrev main_v150 : Ref sig .tc := ⟨.hbm, 299, rfl⟩
abbrev main_v151 : Ref sig .tc := ⟨.hbm, 300, rfl⟩
abbrev main_c_58 : Ref sig .tc := ⟨.hbm, 301, rfl⟩
abbrev main_v152 : Ref sig .tc := ⟨.hbm, 302, rfl⟩
abbrev main_v153 : Ref sig .tc := ⟨.hbm, 303, rfl⟩
abbrev main_v154 : Ref sig .tc := ⟨.hbm, 304, rfl⟩
abbrev main_v155 : Ref sig .tc := ⟨.hbm, 305, rfl⟩
abbrev main_v156 : Ref sig .tc := ⟨.hbm, 306, rfl⟩
abbrev main_v157 : Ref sig .tc := ⟨.hbm, 307, rfl⟩
abbrev main_v158 : Ref sig .tc := ⟨.hbm, 308, rfl⟩
abbrev main_v159 : Ref sig .tc := ⟨.hbm, 309, rfl⟩
abbrev main_v160 : Ref sig .tc := ⟨.hbm, 310, rfl⟩
abbrev main_v161 : Ref sig .tc := ⟨.hbm, 311, rfl⟩
abbrev main_c_59 : Ref sig .tc := ⟨.hbm, 312, rfl⟩
abbrev main_v162 : Ref sig .tc := ⟨.hbm, 313, rfl⟩
abbrev main_v163 : Ref sig .tc := ⟨.hbm, 314, rfl⟩
abbrev main_v164 : Ref sig .tc := ⟨.hbm, 315, rfl⟩
abbrev main_v165 : Ref sig .tc := ⟨.hbm, 316, rfl⟩
abbrev main_v166 : Ref sig .tc := ⟨.hbm, 317, rfl⟩
abbrev main_c_60 : Ref sig .tc := ⟨.hbm, 318, rfl⟩
abbrev main_v167 : Ref sig .tc := ⟨.hbm, 319, rfl⟩
abbrev main_v168 : Ref sig .tc := ⟨.hbm, 320, rfl⟩
abbrev main_c_61 : Ref sig .tc := ⟨.hbm, 321, rfl⟩
abbrev main_v169 : Ref sig .tc := ⟨.hbm, 322, rfl⟩
abbrev main_v170 : Ref sig .tc := ⟨.hbm, 323, rfl⟩
abbrev main_v171 : Ref sig .tc := ⟨.hbm, 324, rfl⟩
abbrev main_v172 : Ref sig .tc := ⟨.hbm, 325, rfl⟩
abbrev main_v173 : Ref sig .tc := ⟨.hbm, 326, rfl⟩
abbrev main_v174 : Ref sig .tc := ⟨.hbm, 327, rfl⟩
abbrev main_v175 : Ref sig .tc := ⟨.hbm, 328, rfl⟩
abbrev main_v176 : Ref sig .tc := ⟨.hbm, 329, rfl⟩
abbrev main_v177 : Ref sig .tc := ⟨.hbm, 330, rfl⟩
abbrev main_v178 : Ref sig .tc := ⟨.hbm, 331, rfl⟩
abbrev main_c_62 : Ref sig .tc := ⟨.hbm, 332, rfl⟩
abbrev main_v179 : Ref sig .tc := ⟨.hbm, 333, rfl⟩
abbrev main_v180 : Ref sig .tc := ⟨.hbm, 334, rfl⟩
abbrev main_v181 : Ref sig .tc := ⟨.hbm, 335, rfl⟩
abbrev main_v182 : Ref sig .tc := ⟨.hbm, 336, rfl⟩
abbrev main_v183 : Ref sig .tc := ⟨.hbm, 337, rfl⟩
abbrev main_c_63 : Ref sig .tc := ⟨.hbm, 338, rfl⟩
abbrev main_v184 : Ref sig .tc := ⟨.hbm, 339, rfl⟩
abbrev main_v185 : Ref sig .tc := ⟨.hbm, 340, rfl⟩
abbrev main_c_64 : Ref sig .tc := ⟨.hbm, 341, rfl⟩
abbrev main_v186 : Ref sig .tc := ⟨.hbm, 342, rfl⟩
abbrev main_v187 : Ref sig .tc := ⟨.hbm, 343, rfl⟩
abbrev main_v188 : Ref sig .tc := ⟨.hbm, 344, rfl⟩
abbrev main_v189 : Ref sig .tc := ⟨.hbm, 345, rfl⟩
abbrev main_v190 : Ref sig .tc := ⟨.hbm, 346, rfl⟩
abbrev main_v191 : Ref sig .tc := ⟨.hbm, 347, rfl⟩
abbrev main_v192 : Ref sig .tc := ⟨.hbm, 348, rfl⟩
abbrev main_v193 : Ref sig .tc := ⟨.hbm, 349, rfl⟩
abbrev main_v194 : Ref sig .tc := ⟨.hbm, 350, rfl⟩
abbrev main_v195 : Ref sig .tc := ⟨.hbm, 351, rfl⟩
abbrev main_c_65 : Ref sig .tc := ⟨.hbm, 352, rfl⟩
abbrev main_v196 : Ref sig .tc := ⟨.hbm, 353, rfl⟩
abbrev main_v197 : Ref sig .tc := ⟨.hbm, 354, rfl⟩
abbrev main_v198 : Ref sig .tc := ⟨.hbm, 355, rfl⟩
abbrev main_v199 : Ref sig .tc := ⟨.hbm, 356, rfl⟩
abbrev main_v200 : Ref sig .tc := ⟨.hbm, 357, rfl⟩
abbrev main_c_66 : Ref sig .tc := ⟨.hbm, 358, rfl⟩
abbrev main_v201 : Ref sig .tc := ⟨.hbm, 359, rfl⟩
abbrev main_v202 : Ref sig .tc := ⟨.hbm, 360, rfl⟩
abbrev main_c_67 : Ref sig .tc := ⟨.hbm, 361, rfl⟩
abbrev main_v203 : Ref sig .tc := ⟨.hbm, 362, rfl⟩
abbrev main_v204 : Ref sig .tc := ⟨.hbm, 363, rfl⟩
abbrev main_v205 : Ref sig .tc := ⟨.hbm, 364, rfl⟩
abbrev main_v206 : Ref sig .tc := ⟨.hbm, 365, rfl⟩
abbrev main_v207 : Ref sig .tc := ⟨.hbm, 366, rfl⟩
abbrev main_v208 : Ref sig .tc := ⟨.hbm, 367, rfl⟩
abbrev main_v209 : Ref sig .tc := ⟨.hbm, 368, rfl⟩
abbrev main_v210 : Ref sig .tc := ⟨.hbm, 369, rfl⟩
abbrev main_v211 : Ref sig .tc := ⟨.hbm, 370, rfl⟩
abbrev main_cst_68 : Ref sig .tc := ⟨.hbm, 371, rfl⟩
abbrev main_v212 : Ref sig .tc := ⟨.hbm, 372, rfl⟩
abbrev main_v213 : Ref sig .tc := ⟨.hbm, 373, rfl⟩
abbrev main_cst_69 : Ref sig .tc := ⟨.hbm, 374, rfl⟩
abbrev main_v214 : Ref sig .tc := ⟨.hbm, 375, rfl⟩
abbrev main_v215 : Ref sig .tc := ⟨.hbm, 376, rfl⟩
abbrev main_cst_70 : Ref sig .tc := ⟨.hbm, 377, rfl⟩
abbrev main_v216 : Ref sig .tc := ⟨.hbm, 378, rfl⟩
abbrev main_v217 : Ref sig .tc := ⟨.hbm, 379, rfl⟩
abbrev main_cst_71 : Ref sig .tc := ⟨.hbm, 380, rfl⟩
abbrev main_v218 : Ref sig .tc := ⟨.hbm, 381, rfl⟩
abbrev main_v219 : Ref sig .tc := ⟨.hbm, 382, rfl⟩
abbrev main_cst_72 : Ref sig .tc := ⟨.hbm, 383, rfl⟩
abbrev main_v220 : Ref sig .tc := ⟨.hbm, 384, rfl⟩
abbrev main_v221 : Ref sig .tc := ⟨.hbm, 385, rfl⟩
abbrev main_v222 : Ref sig .tc := ⟨.hbm, 386, rfl⟩
abbrev main_v223 : Ref sig .tc := ⟨.hbm, 387, rfl⟩
abbrev main_v224 : Ref sig .tc := ⟨.hbm, 388, rfl⟩
abbrev main_v225 : Ref sig .tc := ⟨.hbm, 389, rfl⟩
abbrev main_cst_73 : Ref sig .tc := ⟨.hbm, 390, rfl⟩
abbrev main_v226 : Ref sig .tc := ⟨.hbm, 391, rfl⟩
abbrev main_v227 : Ref sig .tc := ⟨.hbm, 392, rfl⟩
abbrev main_cst_74 : Ref sig .tc := ⟨.hbm, 393, rfl⟩
abbrev main_v228 : Ref sig .tc := ⟨.hbm, 394, rfl⟩
abbrev main_v229 : Ref sig .tc := ⟨.hbm, 395, rfl⟩
abbrev main_v230 : Ref sig .tc := ⟨.hbm, 396, rfl⟩
abbrev main_cst_75 : Ref sig .tc := ⟨.hbm, 397, rfl⟩
abbrev main_v231 : Ref sig .tc := ⟨.hbm, 398, rfl⟩
abbrev main_v232 : Ref sig .tc := ⟨.hbm, 399, rfl⟩
abbrev main_v233 : Ref sig .tc := ⟨.hbm, 400, rfl⟩
abbrev main_cst_76 : Ref sig .tc := ⟨.hbm, 401, rfl⟩
abbrev main_v234 : Ref sig .tc := ⟨.hbm, 402, rfl⟩
abbrev main_v235 : Ref sig .tc := ⟨.hbm, 403, rfl⟩
abbrev main_v236 : Ref sig .tc := ⟨.hbm, 404, rfl⟩
abbrev main_v237 : Ref sig .tc := ⟨.hbm, 405, rfl⟩
abbrev main_cst_77 : Ref sig .tc := ⟨.hbm, 406, rfl⟩
abbrev main_v238 : Ref sig .tc := ⟨.hbm, 407, rfl⟩
abbrev main_v239 : Ref sig .tc := ⟨.hbm, 408, rfl⟩
abbrev main_cst_78 : Ref sig .tc := ⟨.hbm, 409, rfl⟩
abbrev main_v240 : Ref sig .tc := ⟨.hbm, 410, rfl⟩
abbrev main_v241 : Ref sig .tc := ⟨.hbm, 411, rfl⟩
abbrev main_cst_79 : Ref sig .tc := ⟨.hbm, 412, rfl⟩
abbrev main_v242 : Ref sig .tc := ⟨.hbm, 413, rfl⟩
abbrev main_v243 : Ref sig .tc := ⟨.hbm, 414, rfl⟩
abbrev main_cst_80 : Ref sig .tc := ⟨.hbm, 415, rfl⟩
abbrev main_v244 : Ref sig .tc := ⟨.hbm, 416, rfl⟩
abbrev main_v245 : Ref sig .tc := ⟨.hbm, 417, rfl⟩
abbrev main_v246 : Ref sig .tc := ⟨.hbm, 418, rfl⟩
abbrev main_cst_81 : Ref sig .tc := ⟨.hbm, 419, rfl⟩
abbrev main_v247 : Ref sig .tc := ⟨.hbm, 420, rfl⟩
abbrev main_v248 : Ref sig .tc := ⟨.hbm, 421, rfl⟩
abbrev main_v249 : Ref sig .tc := ⟨.hbm, 422, rfl⟩
abbrev main_cst_82 : Ref sig .tc := ⟨.hbm, 423, rfl⟩
abbrev main_v250 : Ref sig .tc := ⟨.hbm, 424, rfl⟩
abbrev main_v251 : Ref sig .tc := ⟨.hbm, 425, rfl⟩
abbrev main_v252 : Ref sig .tc := ⟨.hbm, 426, rfl⟩
abbrev main_c_83 : Ref sig .tc := ⟨.hbm, 427, rfl⟩
abbrev main_c_84 : Ref sig .tc := ⟨.hbm, 428, rfl⟩
abbrev main_call10_v0 : Ref sig .tc := ⟨.hbm, 429, rfl⟩
abbrev main_call10_v1 : Ref sig .tc := ⟨.hbm, 430, rfl⟩
abbrev main_call10_v2 : Ref sig .tc := ⟨.hbm, 431, rfl⟩
abbrev main_call10_v3 : Ref sig .tc := ⟨.hbm, 432, rfl⟩
abbrev main_call10_v4 : Ref sig .tc := ⟨.hbm, 433, rfl⟩
abbrev main_v253 : Ref sig .tc := ⟨.hbm, 434, rfl⟩
abbrev main_v254 : Ref sig .tc := ⟨.hbm, 435, rfl⟩
abbrev main_c_85 : Ref sig .tc := ⟨.hbm, 436, rfl⟩
abbrev main_c_86 : Ref sig .tc := ⟨.hbm, 437, rfl⟩
abbrev main_call11_v0 : Ref sig .tc := ⟨.hbm, 438, rfl⟩
abbrev main_call11_v1 : Ref sig .tc := ⟨.hbm, 439, rfl⟩
abbrev main_call11_v2 : Ref sig .tc := ⟨.hbm, 440, rfl⟩
abbrev main_call11_v3 : Ref sig .tc := ⟨.hbm, 441, rfl⟩
abbrev main_call11_v4 : Ref sig .tc := ⟨.hbm, 442, rfl⟩
abbrev main_v255 : Ref sig .tc := ⟨.hbm, 443, rfl⟩
abbrev main_v256 : Ref sig .tc := ⟨.hbm, 444, rfl⟩
abbrev main_v257 : Ref sig .tc := ⟨.hbm, 445, rfl⟩
abbrev main_v258 : Ref sig .tc := ⟨.hbm, 446, rfl⟩
abbrev main_cst_87 : Ref sig .tc := ⟨.hbm, 447, rfl⟩
abbrev main_v259 : Ref sig .tc := ⟨.hbm, 448, rfl⟩
abbrev main_v260 : Ref sig .tc := ⟨.hbm, 449, rfl⟩
abbrev main_cst_88 : Ref sig .tc := ⟨.hbm, 450, rfl⟩
abbrev main_v261 : Ref sig .tc := ⟨.hbm, 451, rfl⟩
abbrev main_v262 : Ref sig .tc := ⟨.hbm, 452, rfl⟩
abbrev main_cst_89 : Ref sig .tc := ⟨.hbm, 453, rfl⟩
abbrev main_v263 : Ref sig .tc := ⟨.hbm, 454, rfl⟩
abbrev main_v264 : Ref sig .tc := ⟨.hbm, 455, rfl⟩
abbrev main_cst_90 : Ref sig .tc := ⟨.hbm, 456, rfl⟩
abbrev main_v265 : Ref sig .tc := ⟨.hbm, 457, rfl⟩
abbrev main_v266 : Ref sig .tc := ⟨.hbm, 458, rfl⟩
abbrev main_v267 : Ref sig .tc := ⟨.hbm, 459, rfl⟩
abbrev main_cst_91 : Ref sig .tc := ⟨.hbm, 460, rfl⟩
abbrev main_v268 : Ref sig .tc := ⟨.hbm, 461, rfl⟩
abbrev main_v269 : Ref sig .tc := ⟨.hbm, 462, rfl⟩
abbrev main_v270 : Ref sig .tc := ⟨.hbm, 463, rfl⟩
abbrev main_cst_92 : Ref sig .tc := ⟨.hbm, 464, rfl⟩
abbrev main_v271 : Ref sig .tc := ⟨.hbm, 465, rfl⟩
abbrev main_v272 : Ref sig .tc := ⟨.hbm, 466, rfl⟩
abbrev main_v273 : Ref sig .tc := ⟨.hbm, 467, rfl⟩
abbrev main_c_93 : Ref sig .tc := ⟨.hbm, 468, rfl⟩
abbrev main_c_94 : Ref sig .tc := ⟨.hbm, 469, rfl⟩
abbrev main_call12_v0 : Ref sig .tc := ⟨.hbm, 470, rfl⟩
abbrev main_call12_v1 : Ref sig .tc := ⟨.hbm, 471, rfl⟩
abbrev main_call12_v2 : Ref sig .tc := ⟨.hbm, 472, rfl⟩
abbrev main_call12_v3 : Ref sig .tc := ⟨.hbm, 473, rfl⟩
abbrev main_call12_v4 : Ref sig .tc := ⟨.hbm, 474, rfl⟩
abbrev main_v274 : Ref sig .tc := ⟨.hbm, 475, rfl⟩
abbrev main_v275 : Ref sig .tc := ⟨.hbm, 476, rfl⟩
abbrev main_c_95 : Ref sig .tc := ⟨.hbm, 477, rfl⟩
abbrev main_c_96 : Ref sig .tc := ⟨.hbm, 478, rfl⟩
abbrev main_call13_v0 : Ref sig .tc := ⟨.hbm, 479, rfl⟩
abbrev main_call13_v1 : Ref sig .tc := ⟨.hbm, 480, rfl⟩
abbrev main_call13_v2 : Ref sig .tc := ⟨.hbm, 481, rfl⟩
abbrev main_call13_v3 : Ref sig .tc := ⟨.hbm, 482, rfl⟩
abbrev main_call13_v4 : Ref sig .tc := ⟨.hbm, 483, rfl⟩
abbrev main_v276 : Ref sig .tc := ⟨.hbm, 484, rfl⟩
abbrev main_v277 : Ref sig .tc := ⟨.hbm, 485, rfl⟩
abbrev main_v278 : Ref sig .tc := ⟨.hbm, 486, rfl⟩
abbrev main_v279 : Ref sig .tc := ⟨.hbm, 487, rfl⟩
abbrev main_cst_97 : Ref sig .tc := ⟨.hbm, 488, rfl⟩
abbrev main_v280 : Ref sig .tc := ⟨.hbm, 489, rfl⟩
abbrev main_v281 : Ref sig .tc := ⟨.hbm, 490, rfl⟩
abbrev main_cst_98 : Ref sig .tc := ⟨.hbm, 491, rfl⟩
abbrev main_v282 : Ref sig .tc := ⟨.hbm, 492, rfl⟩
abbrev main_v283 : Ref sig .tc := ⟨.hbm, 493, rfl⟩
abbrev main_cst_99 : Ref sig .tc := ⟨.hbm, 494, rfl⟩
abbrev main_v284 : Ref sig .tc := ⟨.hbm, 495, rfl⟩
abbrev main_v285 : Ref sig .tc := ⟨.hbm, 496, rfl⟩
abbrev main_cst_100 : Ref sig .tc := ⟨.hbm, 497, rfl⟩
abbrev main_v286 : Ref sig .tc := ⟨.hbm, 498, rfl⟩
abbrev main_v287 : Ref sig .tc := ⟨.hbm, 499, rfl⟩
abbrev main_v288 : Ref sig .tc := ⟨.hbm, 500, rfl⟩
abbrev main_cst_101 : Ref sig .tc := ⟨.hbm, 501, rfl⟩
abbrev main_v289 : Ref sig .tc := ⟨.hbm, 502, rfl⟩
abbrev main_v290 : Ref sig .tc := ⟨.hbm, 503, rfl⟩
abbrev main_v291 : Ref sig .tc := ⟨.hbm, 504, rfl⟩
abbrev main_cst_102 : Ref sig .tc := ⟨.hbm, 505, rfl⟩
abbrev main_v292 : Ref sig .tc := ⟨.hbm, 506, rfl⟩
abbrev main_v293 : Ref sig .tc := ⟨.hbm, 507, rfl⟩
abbrev main_v294 : Ref sig .tc := ⟨.hbm, 508, rfl⟩
abbrev main_c_103 : Ref sig .tc := ⟨.hbm, 509, rfl⟩
abbrev main_c_104 : Ref sig .tc := ⟨.hbm, 510, rfl⟩
abbrev main_call14_v0 : Ref sig .tc := ⟨.hbm, 511, rfl⟩
abbrev main_call14_v1 : Ref sig .tc := ⟨.hbm, 512, rfl⟩
abbrev main_call14_v2 : Ref sig .tc := ⟨.hbm, 513, rfl⟩
abbrev main_call14_v3 : Ref sig .tc := ⟨.hbm, 514, rfl⟩
abbrev main_call14_v4 : Ref sig .tc := ⟨.hbm, 515, rfl⟩
abbrev main_v295 : Ref sig .tc := ⟨.hbm, 516, rfl⟩
abbrev main_v296 : Ref sig .tc := ⟨.hbm, 517, rfl⟩
abbrev main_c_105 : Ref sig .tc := ⟨.hbm, 518, rfl⟩
abbrev main_c_106 : Ref sig .tc := ⟨.hbm, 519, rfl⟩
abbrev main_call15_v0 : Ref sig .tc := ⟨.hbm, 520, rfl⟩
abbrev main_call15_v1 : Ref sig .tc := ⟨.hbm, 521, rfl⟩
abbrev main_call15_v2 : Ref sig .tc := ⟨.hbm, 522, rfl⟩
abbrev main_call15_v3 : Ref sig .tc := ⟨.hbm, 523, rfl⟩
abbrev main_call15_v4 : Ref sig .tc := ⟨.hbm, 524, rfl⟩
abbrev main_v297 : Ref sig .tc := ⟨.hbm, 525, rfl⟩
abbrev main_v298 : Ref sig .tc := ⟨.hbm, 526, rfl⟩
abbrev main_v299 : Ref sig .tc := ⟨.hbm, 527, rfl⟩
abbrev main_v300 : Ref sig .tc := ⟨.hbm, 528, rfl⟩
abbrev main_cst_107 : Ref sig .tc := ⟨.hbm, 529, rfl⟩
abbrev main_v301 : Ref sig .tc := ⟨.hbm, 530, rfl⟩
abbrev main_v302 : Ref sig .tc := ⟨.hbm, 531, rfl⟩
abbrev main_cst_108 : Ref sig .tc := ⟨.hbm, 532, rfl⟩
abbrev main_v303 : Ref sig .tc := ⟨.hbm, 533, rfl⟩
abbrev main_v304 : Ref sig .tc := ⟨.hbm, 534, rfl⟩
abbrev main_cst_109 : Ref sig .tc := ⟨.hbm, 535, rfl⟩
abbrev main_v305 : Ref sig .tc := ⟨.hbm, 536, rfl⟩
abbrev main_v306 : Ref sig .tc := ⟨.hbm, 537, rfl⟩
abbrev main_cst_110 : Ref sig .tc := ⟨.hbm, 538, rfl⟩
abbrev main_v307 : Ref sig .tc := ⟨.hbm, 539, rfl⟩
abbrev main_v308 : Ref sig .tc := ⟨.hbm, 540, rfl⟩
abbrev main_v309 : Ref sig .tc := ⟨.hbm, 541, rfl⟩
abbrev main_cst_111 : Ref sig .tc := ⟨.hbm, 542, rfl⟩
abbrev main_v310 : Ref sig .tc := ⟨.hbm, 543, rfl⟩
abbrev main_v311 : Ref sig .tc := ⟨.hbm, 544, rfl⟩
abbrev main_v312 : Ref sig .tc := ⟨.hbm, 545, rfl⟩
abbrev main_cst_112 : Ref sig .tc := ⟨.hbm, 546, rfl⟩
abbrev main_v313 : Ref sig .tc := ⟨.hbm, 547, rfl⟩
abbrev main_v314 : Ref sig .tc := ⟨.hbm, 548, rfl⟩
abbrev main_v315 : Ref sig .tc := ⟨.hbm, 549, rfl⟩
abbrev main_c_113 : Ref sig .tc := ⟨.hbm, 550, rfl⟩
abbrev main_c_114 : Ref sig .tc := ⟨.hbm, 551, rfl⟩
abbrev main_call16_v0 : Ref sig .tc := ⟨.hbm, 552, rfl⟩
abbrev main_call16_v1 : Ref sig .tc := ⟨.hbm, 553, rfl⟩
abbrev main_call16_v2 : Ref sig .tc := ⟨.hbm, 554, rfl⟩
abbrev main_call16_v3 : Ref sig .tc := ⟨.hbm, 555, rfl⟩
abbrev main_call16_v4 : Ref sig .tc := ⟨.hbm, 556, rfl⟩
abbrev main_v316 : Ref sig .tc := ⟨.hbm, 557, rfl⟩
abbrev main_v317 : Ref sig .tc := ⟨.hbm, 558, rfl⟩
abbrev main_c_115 : Ref sig .tc := ⟨.hbm, 559, rfl⟩
abbrev main_c_116 : Ref sig .tc := ⟨.hbm, 560, rfl⟩
abbrev main_call17_v0 : Ref sig .tc := ⟨.hbm, 561, rfl⟩
abbrev main_call17_v1 : Ref sig .tc := ⟨.hbm, 562, rfl⟩
abbrev main_call17_v2 : Ref sig .tc := ⟨.hbm, 563, rfl⟩
abbrev main_call17_v3 : Ref sig .tc := ⟨.hbm, 564, rfl⟩
abbrev main_call17_v4 : Ref sig .tc := ⟨.hbm, 565, rfl⟩
abbrev main_v318 : Ref sig .tc := ⟨.hbm, 566, rfl⟩
abbrev main_v319 : Ref sig .tc := ⟨.hbm, 567, rfl⟩
abbrev main_v320 : Ref sig .tc := ⟨.hbm, 568, rfl⟩
abbrev main_v321 : Ref sig .tc := ⟨.hbm, 569, rfl⟩
abbrev main_c_117 : Ref sig .tc := ⟨.hbm, 570, rfl⟩
abbrev main_v322 : Ref sig .tc := ⟨.hbm, 571, rfl⟩
abbrev main_v323 : Ref sig .tc := ⟨.hbm, 572, rfl⟩
abbrev main_v324 : Ref sig .tc := ⟨.hbm, 573, rfl⟩
abbrev main_v325 : Ref sig .tc := ⟨.hbm, 574, rfl⟩
abbrev main_call18_c : Ref sig .tc := ⟨.hbm, 575, rfl⟩
abbrev main_call18_v0 : Ref sig .tc := ⟨.hbm, 576, rfl⟩
abbrev main_call18_v1 : Ref sig .tc := ⟨.hbm, 577, rfl⟩
abbrev main_call18_c_0 : Ref sig .tc := ⟨.hbm, 578, rfl⟩
abbrev main_call18_v2 : Ref sig .tc := ⟨.hbm, 579, rfl⟩
abbrev main_call18_v3 : Ref sig .tc := ⟨.hbm, 580, rfl⟩
abbrev main_call18_v4 : Ref sig .tc := ⟨.hbm, 581, rfl⟩
abbrev main_call18_c_1 : Ref sig .tc := ⟨.hbm, 582, rfl⟩
abbrev main_call18_c_2 : Ref sig .tc := ⟨.hbm, 583, rfl⟩
abbrev main_call18_v5 : Ref sig .tc := ⟨.hbm, 584, rfl⟩
abbrev main_call18_v6 : Ref sig .tc := ⟨.hbm, 585, rfl⟩
abbrev main_call18_v7 : Ref sig .tc := ⟨.hbm, 586, rfl⟩
abbrev main_call18_v8 : Ref sig .tc := ⟨.hbm, 587, rfl⟩
abbrev main_call18_v9 : Ref sig .tc := ⟨.hbm, 588, rfl⟩
abbrev main_call18_v10 : Ref sig .tc := ⟨.hbm, 589, rfl⟩
abbrev main_call18_c_3 : Ref sig .tc := ⟨.hbm, 590, rfl⟩
abbrev main_call18_v11 : Ref sig .tc := ⟨.hbm, 591, rfl⟩
abbrev main_call18_v12 : Ref sig .tc := ⟨.hbm, 592, rfl⟩
abbrev main_call18_v13 : Ref sig .tc := ⟨.hbm, 593, rfl⟩
abbrev main_call18_cst : Ref sig .tc := ⟨.hbm, 594, rfl⟩
abbrev main_call18_v14 : Ref sig .tc := ⟨.hbm, 595, rfl⟩
abbrev main_v326 : Ref sig .tc := ⟨.hbm, 596, rfl⟩
abbrev main_v327 : Ref sig .tc := ⟨.hbm, 597, rfl⟩
abbrev main_v328 : Ref sig .tc := ⟨.hbm, 598, rfl⟩
abbrev main_v329 : Ref sig .tc := ⟨.hbm, 599, rfl⟩
abbrev main_v330 : Ref sig .tc := ⟨.hbm, 600, rfl⟩
abbrev main_c_118 : Ref sig .tc := ⟨.hbm, 601, rfl⟩
abbrev main_v331 : Ref sig .tc := ⟨.hbm, 602, rfl⟩
abbrev main_v332 : Ref sig .tc := ⟨.hbm, 603, rfl⟩
abbrev main_v333 : Ref sig .tc := ⟨.hbm, 604, rfl⟩
abbrev main_v334 : Ref sig .tc := ⟨.hbm, 605, rfl⟩
abbrev main_call19_c : Ref sig .tc := ⟨.hbm, 606, rfl⟩
abbrev main_call19_v0 : Ref sig .tc := ⟨.hbm, 607, rfl⟩
abbrev main_call19_v1 : Ref sig .tc := ⟨.hbm, 608, rfl⟩
abbrev main_call19_c_0 : Ref sig .tc := ⟨.hbm, 609, rfl⟩
abbrev main_call19_v2 : Ref sig .tc := ⟨.hbm, 610, rfl⟩
abbrev main_call19_v3 : Ref sig .tc := ⟨.hbm, 611, rfl⟩
abbrev main_call19_v4 : Ref sig .tc := ⟨.hbm, 612, rfl⟩
abbrev main_call19_c_1 : Ref sig .tc := ⟨.hbm, 613, rfl⟩
abbrev main_call19_c_2 : Ref sig .tc := ⟨.hbm, 614, rfl⟩
abbrev main_call19_v5 : Ref sig .tc := ⟨.hbm, 615, rfl⟩
abbrev main_call19_v6 : Ref sig .tc := ⟨.hbm, 616, rfl⟩
abbrev main_call19_v7 : Ref sig .tc := ⟨.hbm, 617, rfl⟩
abbrev main_call19_v8 : Ref sig .tc := ⟨.hbm, 618, rfl⟩
abbrev main_call19_v9 : Ref sig .tc := ⟨.hbm, 619, rfl⟩
abbrev main_call19_v10 : Ref sig .tc := ⟨.hbm, 620, rfl⟩
abbrev main_call19_c_3 : Ref sig .tc := ⟨.hbm, 621, rfl⟩
abbrev main_call19_v11 : Ref sig .tc := ⟨.hbm, 622, rfl⟩
abbrev main_call19_v12 : Ref sig .tc := ⟨.hbm, 623, rfl⟩
abbrev main_call19_v13 : Ref sig .tc := ⟨.hbm, 624, rfl⟩
abbrev main_call19_cst : Ref sig .tc := ⟨.hbm, 625, rfl⟩
abbrev main_call19_v14 : Ref sig .tc := ⟨.hbm, 626, rfl⟩
abbrev main_v335 : Ref sig .tc := ⟨.hbm, 627, rfl⟩
abbrev main_v336 : Ref sig .tc := ⟨.hbm, 628, rfl⟩
abbrev main_v337 : Ref sig .tc := ⟨.hbm, 629, rfl⟩
abbrev main_v338 : Ref sig .tc := ⟨.hbm, 630, rfl⟩
abbrev main_v339 : Ref sig .tc := ⟨.hbm, 631, rfl⟩
abbrev main_c_119 : Ref sig .tc := ⟨.hbm, 632, rfl⟩
abbrev main_v340 : Ref sig .tc := ⟨.hbm, 633, rfl⟩
abbrev main_v341 : Ref sig .tc := ⟨.hbm, 634, rfl⟩
abbrev main_v342 : Ref sig .tc := ⟨.hbm, 635, rfl⟩
abbrev main_v343 : Ref sig .tc := ⟨.hbm, 636, rfl⟩
abbrev main_call20_c : Ref sig .tc := ⟨.hbm, 637, rfl⟩
abbrev main_call20_v0 : Ref sig .tc := ⟨.hbm, 638, rfl⟩
abbrev main_call20_v1 : Ref sig .tc := ⟨.hbm, 639, rfl⟩
abbrev main_call20_c_0 : Ref sig .tc := ⟨.hbm, 640, rfl⟩
abbrev main_call20_v2 : Ref sig .tc := ⟨.hbm, 641, rfl⟩
abbrev main_call20_v3 : Ref sig .tc := ⟨.hbm, 642, rfl⟩
abbrev main_call20_v4 : Ref sig .tc := ⟨.hbm, 643, rfl⟩
abbrev main_call20_c_1 : Ref sig .tc := ⟨.hbm, 644, rfl⟩
abbrev main_call20_c_2 : Ref sig .tc := ⟨.hbm, 645, rfl⟩
abbrev main_call20_v5 : Ref sig .tc := ⟨.hbm, 646, rfl⟩
abbrev main_call20_v6 : Ref sig .tc := ⟨.hbm, 647, rfl⟩
abbrev main_call20_v7 : Ref sig .tc := ⟨.hbm, 648, rfl⟩
abbrev main_call20_v8 : Ref sig .tc := ⟨.hbm, 649, rfl⟩
abbrev main_call20_v9 : Ref sig .tc := ⟨.hbm, 650, rfl⟩
abbrev main_call20_v10 : Ref sig .tc := ⟨.hbm, 651, rfl⟩
abbrev main_call20_c_3 : Ref sig .tc := ⟨.hbm, 652, rfl⟩
abbrev main_call20_v11 : Ref sig .tc := ⟨.hbm, 653, rfl⟩
abbrev main_call20_v12 : Ref sig .tc := ⟨.hbm, 654, rfl⟩
abbrev main_call20_v13 : Ref sig .tc := ⟨.hbm, 655, rfl⟩
abbrev main_call20_cst : Ref sig .tc := ⟨.hbm, 656, rfl⟩
abbrev main_call20_v14 : Ref sig .tc := ⟨.hbm, 657, rfl⟩
abbrev main_v344 : Ref sig .tc := ⟨.hbm, 658, rfl⟩
abbrev main_v345 : Ref sig .tc := ⟨.hbm, 659, rfl⟩
abbrev main_v346 : Ref sig .tc := ⟨.hbm, 660, rfl⟩
abbrev main_v347 : Ref sig .tc := ⟨.hbm, 661, rfl⟩
abbrev main_v348 : Ref sig .tc := ⟨.hbm, 662, rfl⟩
abbrev main_c_120 : Ref sig .tc := ⟨.hbm, 663, rfl⟩
abbrev main_v349 : Ref sig .tc := ⟨.hbm, 664, rfl⟩
abbrev main_v350 : Ref sig .tc := ⟨.hbm, 665, rfl⟩
abbrev main_v351 : Ref sig .tc := ⟨.hbm, 666, rfl⟩
abbrev main_v352 : Ref sig .tc := ⟨.hbm, 667, rfl⟩
abbrev main_call21_c : Ref sig .tc := ⟨.hbm, 668, rfl⟩
abbrev main_call21_v0 : Ref sig .tc := ⟨.hbm, 669, rfl⟩
abbrev main_call21_v1 : Ref sig .tc := ⟨.hbm, 670, rfl⟩
abbrev main_call21_c_0 : Ref sig .tc := ⟨.hbm, 671, rfl⟩
abbrev main_call21_v2 : Ref sig .tc := ⟨.hbm, 672, rfl⟩
abbrev main_call21_v3 : Ref sig .tc := ⟨.hbm, 673, rfl⟩
abbrev main_call21_v4 : Ref sig .tc := ⟨.hbm, 674, rfl⟩
abbrev main_call21_c_1 : Ref sig .tc := ⟨.hbm, 675, rfl⟩
abbrev main_call21_c_2 : Ref sig .tc := ⟨.hbm, 676, rfl⟩
abbrev main_call21_v5 : Ref sig .tc := ⟨.hbm, 677, rfl⟩
abbrev main_call21_v6 : Ref sig .tc := ⟨.hbm, 678, rfl⟩
abbrev main_call21_v7 : Ref sig .tc := ⟨.hbm, 679, rfl⟩
abbrev main_call21_v8 : Ref sig .tc := ⟨.hbm, 680, rfl⟩
abbrev main_call21_v9 : Ref sig .tc := ⟨.hbm, 681, rfl⟩
abbrev main_call21_v10 : Ref sig .tc := ⟨.hbm, 682, rfl⟩
abbrev main_call21_c_3 : Ref sig .tc := ⟨.hbm, 683, rfl⟩
abbrev main_call21_v11 : Ref sig .tc := ⟨.hbm, 684, rfl⟩
abbrev main_call21_v12 : Ref sig .tc := ⟨.hbm, 685, rfl⟩
abbrev main_call21_v13 : Ref sig .tc := ⟨.hbm, 686, rfl⟩
abbrev main_call21_cst : Ref sig .tc := ⟨.hbm, 687, rfl⟩
abbrev main_call21_v14 : Ref sig .tc := ⟨.hbm, 688, rfl⟩
abbrev main_v353 : Ref sig .tc := ⟨.hbm, 689, rfl⟩
abbrev main_v354 : Ref sig .tc := ⟨.hbm, 690, rfl⟩
abbrev main_v355 : Ref sig .tc := ⟨.hbm, 691, rfl⟩
abbrev main_v356 : Ref sig .tc := ⟨.hbm, 692, rfl⟩
abbrev main_v357 : Ref sig .tc := ⟨.hbm, 693, rfl⟩
abbrev main_v358 : Ref sig .tc := ⟨.hbm, 694, rfl⟩
abbrev main_v359 : Ref sig .tc := ⟨.hbm, 695, rfl⟩
abbrev main_v360 : Ref sig .tc := ⟨.hbm, 696, rfl⟩
abbrev main_v361 : Ref sig .tc := ⟨.hbm, 697, rfl⟩
abbrev main_v362 : Ref sig .tc := ⟨.hbm, 698, rfl⟩
abbrev main_v363 : Ref sig .tc := ⟨.hbm, 699, rfl⟩
abbrev main_v364 : Ref sig .tc := ⟨.hbm, 700, rfl⟩
abbrev main_v365 : Ref sig .tc := ⟨.hbm, 701, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc1_stg8_0 : Ref sig .tc := ⟨.vmem, 12, rfl⟩
abbrev cc1_stg9_0 : Ref sig .tc := ⟨.vmem, 13, rfl⟩
abbrev cc1_stg10_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11
abbrev cc1_sem8_0 : DmaSem sig := 12
abbrev cc1_sem9_0 : DmaSem sig := 13
abbrev cc1_sem10_0 : DmaSem sig := 14

abbrev nD : Nat := 1
abbrev τ : Topo := Topo.v7x

variable {F : FTy → Type} [FloatOps F]

abbrev grid0 : Pipeline.Grid := ⟨2, ![2, 25], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x8x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x200x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := .none

abbrev stage1_0 : Fin 1 → Memref sig .tc .vmem S3136x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S3136x80 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S256x336 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S256x336 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S256x336 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S80x336 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S1x80 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S3136x80 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
-- ==== RefineRefIdeal.lean ====
abbrev S4x784 : Shape := ⟨2, ![4, 784]⟩
abbrev S2x256x200x200 : Shape := ⟨4, ![2, 256, 200, 200]⟩
abbrev S4x80x7x7 : Shape := ⟨4, ![4, 80, 7, 7]⟩
abbrev S4x4 : Shape := ⟨2, ![4, 4]⟩
abbrev S4 : Shape := ⟨1, ![4]⟩
abbrev S256x336 : Shape := ⟨2, ![256, 336]⟩
abbrev S256 : Shape := ⟨1, ![256]⟩
abbrev S80x336 : Shape := ⟨2, ![80, 336]⟩
abbrev S80 : Shape := ⟨1, ![80]⟩
abbrev S_ : Shape := ⟨0, ![]⟩
abbrev S4x784x1 : Shape := ⟨3, ![4, 784, 1]⟩
abbrev S4x784x2 : Shape := ⟨3, ![4, 784, 2]⟩
abbrev S4x1 : Shape := ⟨2, ![4, 1]⟩
abbrev S4x256x200x200 : Shape := ⟨4, ![4, 256, 200, 200]⟩
abbrev S4x256x784 : Shape := ⟨3, ![4, 256, 784]⟩
abbrev S4x1x784 : Shape := ⟨3, ![4, 1, 784]⟩
abbrev S4x80x784 : Shape := ⟨3, ![4, 80, 784]⟩
abbrev S4x336x784 : Shape := ⟨3, ![4, 336, 784]⟩
abbrev S4x784x256 : Shape := ⟨3, ![4, 784, 256]⟩
abbrev S1x256x1 : Shape := ⟨3, ![1, 256, 1]⟩
abbrev S4x784x80 : Shape := ⟨3, ![4, 784, 80]⟩
abbrev S1x80x1 : Shape := ⟨3, ![1, 80, 1]⟩

abbrev nBuf : Space → Nat
  | .hbm => 718
  | .vmem => 0
  | .smem => 0
  | _ => 0

abbrev hbmTy0_0 (i : Nat) : BufTy := match i % 128 with
  | 0 => ⟨S4x784, .i32⟩
  | 1 => ⟨S2x256x200x200, .f32⟩
  | 2 => ⟨S4x80x7x7, .f32⟩
  | 3 => ⟨S4x4, .f32⟩
  | 4 => ⟨S4, .i32⟩
  | 5 => ⟨S256x336, .f32⟩
  | 6 => ⟨S256, .f32⟩
  | 7 => ⟨S256x336, .f32⟩
  | 8 => ⟨S256, .f32⟩
  | 9 => ⟨S256x336, .f32⟩
  | 10 => ⟨S256, .f32⟩
  | 11 => ⟨S80x336, .f32⟩
  | 12 => ⟨S80, .f32⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S4x784, .i32⟩
  | 20 => ⟨S4x784, .i32⟩
  | 21 => ⟨S_, .i32⟩
  | 22 => ⟨S4x784, .i32⟩
  | 23 => ⟨S4x784, .i1⟩
  | 24 => ⟨S_, .i32⟩
  | 25 => ⟨S4x784, .i32⟩
  | 26 => ⟨S4x784, .i1⟩
  | 27 => ⟨S_, .i32⟩
  | 28 => ⟨S_, .i1⟩
  | 29 => ⟨S4x784, .i1⟩
  | 30 => ⟨S4x784, .i1⟩
  | 31 => ⟨S4x784, .i1⟩
  | 32 => ⟨S4x784, .i32⟩
  | 33 => ⟨S4x784, .i32⟩
  | 34 => ⟨S4x784, .i32⟩
  | 35 => ⟨S4x784, .f32⟩
  | 36 => ⟨S_, .f32⟩
  | 37 => ⟨S4x784, .f32⟩
  | 38 => ⟨S4x784, .f32⟩
  | 39 => ⟨S_, .f32⟩
  | 40 => ⟨S4x784, .f32⟩
  | 41 => ⟨S4x784, .f32⟩
  | 42 => ⟨S_, .i32⟩
  | 43 => ⟨S_, .i32⟩
  | 44 => ⟨S4x784, .i32⟩
  | 45 => ⟨S4x784, .i32⟩
  | 46 => ⟨S4x784, .i32⟩
  | 47 => ⟨S_, .i32⟩
  | 48 => ⟨S4x784, .i32⟩
  | 49 => ⟨S4x784, .i1⟩
  | 50 => ⟨S4x784, .i32⟩
  | 51 => ⟨S4x784, .i32⟩
  | 52 => ⟨S_, .i32⟩
  | 53 => ⟨S4x784, .i32⟩
  | 54 => ⟨S4x784, .i1⟩
  | 55 => ⟨S4x784, .i1⟩
  | 56 => ⟨S_, .i32⟩
  | 57 => ⟨S4x784, .i32⟩
  | 58 => ⟨S4x784, .i32⟩
  | 59 => ⟨S4x784, .i32⟩
  | 60 => ⟨S4x784, .f32⟩
  | 61 => ⟨S_, .f32⟩
  | 62 => ⟨S4x784, .f32⟩
  | 63 => ⟨S4x784, .f32⟩
  | 64 => ⟨S_, .f32⟩
  | 65 => ⟨S4x784, .f32⟩
  | 66 => ⟨S4x784, .f32⟩
  | 67 => ⟨S4x784x1, .f32⟩
  | 68 => ⟨S4x784x1, .f32⟩
  | 69 => ⟨S4x784x2, .f32⟩
  | 70 => ⟨S4x1, .f32⟩
  | 71 => ⟨S4x1, .f32⟩
  | 72 => ⟨S4x1, .f32⟩
  | 73 => ⟨S4x1, .f32⟩
  | 74 => ⟨S4x784x1, .f32⟩
  | 75 => ⟨S4x784, .f32⟩
  | 76 => ⟨S4x1, .f32⟩
  | 77 => ⟨S4x784, .f32⟩
  | 78 => ⟨S4x784, .f32⟩
  | 79 => ⟨S4x784, .f32⟩
  | 80 => ⟨S4x784, .f32⟩
  | 81 => ⟨S4x784x1, .f32⟩
  | 82 => ⟨S4x784, .f32⟩
  | 83 => ⟨S4x1, .f32⟩
  | 84 => ⟨S4x784, .f32⟩
  | 85 => ⟨S4x784, .f32⟩
  | 86 => ⟨S4x784, .f32⟩
  | 87 => ⟨S4x784, .f32⟩
  | 88 => ⟨S_, .f32⟩
  | 89 => ⟨S4x784, .f32⟩
  | 90 => ⟨S4x784, .f32⟩
  | 91 => ⟨S_, .f32⟩
  | 92 => ⟨S4x784, .f32⟩
  | 93 => ⟨S4x784, .f32⟩
  | 94 => ⟨S4x784x1, .f32⟩
  | 95 => ⟨S4x784x1, .f32⟩
  | 96 => ⟨S4x784x2, .f32⟩
  | 97 => ⟨S_, .i32⟩
  | 98 => ⟨S4, .i32⟩
  | 99 => ⟨S4, .i1⟩
  | 100 => ⟨S_, .i32⟩
  | 101 => ⟨S4, .i32⟩
  | 102 => ⟨S4, .i32⟩
  | 103 => ⟨S4, .i32⟩
  | 104 => ⟨S4x1, .i32⟩
  | 105 => ⟨S4x256x200x200, .f32⟩
  | 106 => ⟨S_, .f32⟩
  | 107 => ⟨S4x784x2, .f32⟩
  | 108 => ⟨S4x784x2, .f32⟩
  | 109 => ⟨S_, .f32⟩
  | 110 => ⟨S4x784x2, .f32⟩
  | 111 => ⟨S4x784x2, .f32⟩
  | 112 => ⟨S4x784x1, .f32⟩
  | 113 => ⟨S4x784, .f32⟩
  | 114 => ⟨S_, .f32⟩
  | 115 => ⟨S4x784, .f32⟩
  | 116 => ⟨S4x784, .f32⟩
  | 117 => ⟨S_, .f32⟩
  | 118 => ⟨S4x784, .f32⟩
  | 119 => ⟨S4x784, .f32⟩
  | 120 => ⟨S_, .f32⟩
  | 121 => ⟨S4x784, .f32⟩
  | 122 => ⟨S4x784, .f32⟩
  | 123 => ⟨S_, .f32⟩
  | 124 => ⟨S4x784, .f32⟩
  | 125 => ⟨S4x784, .f32⟩
  | 126 => ⟨S4x784x1, .f32⟩
  | 127 => ⟨S4x784, .f32⟩
  | _ => ⟨S4x784, .i32⟩

abbrev hbmTy0_1 (i : Nat) : BufTy := match i % 128 with
  | 0 => ⟨S_, .f32⟩
  | 1 => ⟨S4x784, .f32⟩
  | 2 => ⟨S4x784, .f32⟩
  | 3 => ⟨S_, .f32⟩
  | 4 => ⟨S4x784, .f32⟩
  | 5 => ⟨S4x784, .f32⟩
  | 6 => ⟨S_, .f32⟩
  | 7 => ⟨S4x784, .f32⟩
  | 8 => ⟨S4x784, .f32⟩
  | 9 => ⟨S_, .f32⟩
  | 10 => ⟨S4x784, .f32⟩
  | 11 => ⟨S4x784, .f32⟩
  | 12 => ⟨S4x784, .f32⟩
  | 13 => ⟨S4x784, .f32⟩
  | 14 => ⟨S_, .f32⟩
  | 15 => ⟨S4x784, .f32⟩
  | 16 => ⟨S4x784, .f32⟩
  | 17 => ⟨S_, .f32⟩
  | 18 => ⟨S4x784, .f32⟩
  | 19 => ⟨S4x784, .f32⟩
  | 20 => ⟨S4x784, .f32⟩
  | 21 => ⟨S_, .f32⟩
  | 22 => ⟨S4x784, .f32⟩
  | 23 => ⟨S4x784, .f32⟩
  | 24 => ⟨S4x784, .f32⟩
  | 25 => ⟨S_, .f32⟩
  | 26 => ⟨S4x784, .f32⟩
  | 27 => ⟨S4x784, .f32⟩
  | 28 => ⟨S_, .f32⟩
  | 29 => ⟨S4x784, .f32⟩
  | 30 => ⟨S4x784, .i1⟩
  | 31 => ⟨S_, .f32⟩
  | 32 => ⟨S4x784, .f32⟩
  | 33 => ⟨S4x784, .i1⟩
  | 34 => ⟨S4x784, .i1⟩
  | 35 => ⟨S_, .f32⟩
  | 36 => ⟨S4x784, .f32⟩
  | 37 => ⟨S4x784, .i1⟩
  | 38 => ⟨S4x784, .i1⟩
  | 39 => ⟨S_, .f32⟩
  | 40 => ⟨S4x784, .f32⟩
  | 41 => ⟨S4x784, .i1⟩
  | 42 => ⟨S4x784, .i1⟩
  | 43 => ⟨S4x784, .f32⟩
  | 44 => ⟨S_, .i32⟩
  | 45 => ⟨S_, .i32⟩
  | 46 => ⟨S_, .f32⟩
  | 47 => ⟨S4x784, .f32⟩
  | 48 => ⟨S4x784, .f32⟩
  | 49 => ⟨S_, .f32⟩
  | 50 => ⟨S4x784, .f32⟩
  | 51 => ⟨S4x784, .f32⟩
  | 52 => ⟨S4x784, .i32⟩
  | 53 => ⟨S_, .i32⟩
  | 54 => ⟨S_, .i32⟩
  | 55 => ⟨S_, .f32⟩
  | 56 => ⟨S4x784, .f32⟩
  | 57 => ⟨S4x784, .f32⟩
  | 58 => ⟨S_, .f32⟩
  | 59 => ⟨S4x784, .f32⟩
  | 60 => ⟨S4x784, .f32⟩
  | 61 => ⟨S4x784, .i32⟩
  | 62 => ⟨S_, .i32⟩
  | 63 => ⟨S4x784, .i32⟩
  | 64 => ⟨S4x784, .i1⟩
  | 65 => ⟨S_, .i32⟩
  | 66 => ⟨S4x784, .i32⟩
  | 67 => ⟨S4x784, .i32⟩
  | 68 => ⟨S4x784, .i32⟩
  | 69 => ⟨S_, .i32⟩
  | 70 => ⟨S4x784, .i32⟩
  | 71 => ⟨S4x784, .i1⟩
  | 72 => ⟨S_, .i32⟩
  | 73 => ⟨S4x784, .i32⟩
  | 74 => ⟨S4x784, .i32⟩
  | 75 => ⟨S4x784, .i32⟩
  | 76 => ⟨S4x784x1, .i32⟩
  | 77 => ⟨S4x784x1, .i32⟩
  | 78 => ⟨S4x784x2, .i32⟩
  | 79 => ⟨S4x256x784, .f32⟩
  | 80 => ⟨S4x1x784, .f32⟩
  | 81 => ⟨S4x256x784, .f32⟩
  | 82 => ⟨S4x256x784, .f32⟩
  | 83 => ⟨S4x784, .f32⟩
  | 84 => ⟨S4x1x784, .f32⟩
  | 85 => ⟨S4x256x784, .f32⟩
  | 86 => ⟨S4x256x784, .f32⟩
  | 87 => ⟨S_, .f32⟩
  | 88 => ⟨S4x784, .f32⟩
  | 89 => ⟨S4x784, .i1⟩
  | 90 => ⟨S_, .f32⟩
  | 91 => ⟨S4x784, .f32⟩
  | 92 => ⟨S4x784, .i1⟩
  | 93 => ⟨S4x784, .i1⟩
  | 94 => ⟨S_, .f32⟩
  | 95 => ⟨S4x784, .f32⟩
  | 96 => ⟨S4x784, .i1⟩
  | 97 => ⟨S4x784, .i1⟩
  | 98 => ⟨S_, .f32⟩
  | 99 => ⟨S4x784, .f32⟩
  | 100 => ⟨S4x784, .i1⟩
  | 101 => ⟨S4x784, .i1⟩
  | 102 => ⟨S4x784, .f32⟩
  | 103 => ⟨S_, .i32⟩
  | 104 => ⟨S_, .i32⟩
  | 105 => ⟨S_, .f32⟩
  | 106 => ⟨S4x784, .f32⟩
  | 107 => ⟨S4x784, .f32⟩
  | 108 => ⟨S_, .f32⟩
  | 109 => ⟨S4x784, .f32⟩
  | 110 => ⟨S4x784, .f32⟩
  | 111 => ⟨S4x784, .i32⟩
  | 112 => ⟨S_, .i32⟩
  | 113 => ⟨S_, .i32⟩
  | 114 => ⟨S_, .f32⟩
  | 115 => ⟨S4x784, .f32⟩
  | 116 => ⟨S4x784, .f32⟩
  | 117 => ⟨S_, .f32⟩
  | 118 => ⟨S4x784, .f32⟩
  | 119 => ⟨S4x784, .f32⟩
  | 120 => ⟨S4x784, .i32⟩
  | 121 => ⟨S_, .i32⟩
  | 122 => ⟨S4x784, .i32⟩
  | 123 => ⟨S4x784, .i1⟩
  | 124 => ⟨S_, .i32⟩
  | 125 => ⟨S4x784, .i32⟩
  | 126 => ⟨S4x784, .i32⟩
  | 127 => ⟨S4x784, .i32⟩
  | _ => ⟨S4x784, .i32⟩

abbrev hbmTy0_2 (i : Nat) : BufTy := match i % 128 with
  | 0 => ⟨S_, .i32⟩
  | 1 => ⟨S4x784, .i32⟩
  | 2 => ⟨S4x784, .i1⟩
  | 3 => ⟨S_, .i32⟩
  | 4 => ⟨S4x784, .i32⟩
  | 5 => ⟨S4x784, .i32⟩
  | 6 => ⟨S4x784, .i32⟩
  | 7 => ⟨S4x784x1, .i32⟩
  | 8 => ⟨S4x784x1, .i32⟩
  | 9 => ⟨S4x784x2, .i32⟩
  | 10 => ⟨S4x256x784, .f32⟩
  | 11 => ⟨S4x1x784, .f32⟩
  | 12 => ⟨S4x256x784, .f32⟩
  | 13 => ⟨S4x256x784, .f32⟩
  | 14 => ⟨S4x784, .f32⟩
  | 15 => ⟨S4x1x784, .f32⟩
  | 16 => ⟨S4x256x784, .f32⟩
  | 17 => ⟨S4x256x784, .f32⟩
  | 18 => ⟨S4x256x784, .f32⟩
  | 19 => ⟨S_, .f32⟩
  | 20 => ⟨S4x784, .f32⟩
  | 21 => ⟨S4x784, .i1⟩
  | 22 => ⟨S_, .f32⟩
  | 23 => ⟨S4x784, .f32⟩
  | 24 => ⟨S4x784, .i1⟩
  | 25 => ⟨S4x784, .i1⟩
  | 26 => ⟨S_, .f32⟩
  | 27 => ⟨S4x784, .f32⟩
  | 28 => ⟨S4x784, .i1⟩
  | 29 => ⟨S4x784, .i1⟩
  | 30 => ⟨S_, .f32⟩
  | 31 => ⟨S4x784, .f32⟩
  | 32 => ⟨S4x784, .i1⟩
  | 33 => ⟨S4x784, .i1⟩
  | 34 => ⟨S4x784, .f32⟩
  | 35 => ⟨S_, .i32⟩
  | 36 => ⟨S_, .i32⟩
  | 37 => ⟨S_, .f32⟩
  | 38 => ⟨S4x784, .f32⟩
  | 39 => ⟨S4x784, .f32⟩
  | 40 => ⟨S_, .f32⟩
  | 41 => ⟨S4x784, .f32⟩
  | 42 => ⟨S4x784, .f32⟩
  | 43 => ⟨S4x784, .i32⟩
  | 44 => ⟨S_, .i32⟩
  | 45 => ⟨S_, .i32⟩
  | 46 => ⟨S_, .f32⟩
  | 47 => ⟨S4x784, .f32⟩
  | 48 => ⟨S4x784, .f32⟩
  | 49 => ⟨S_, .f32⟩
  | 50 => ⟨S4x784, .f32⟩
  | 51 => ⟨S4x784, .f32⟩
  | 52 => ⟨S4x784, .i32⟩
  | 53 => ⟨S_, .i32⟩
  | 54 => ⟨S4x784, .i32⟩
  | 55 => ⟨S4x784, .i1⟩
  | 56 => ⟨S_, .i32⟩
  | 57 => ⟨S4x784, .i32⟩
  | 58 => ⟨S4x784, .i32⟩
  | 59 => ⟨S4x784, .i32⟩
  | 60 => ⟨S_, .i32⟩
  | 61 => ⟨S4x784, .i32⟩
  | 62 => ⟨S4x784, .i1⟩
  | 63 => ⟨S_, .i32⟩
  | 64 => ⟨S4x784, .i32⟩
  | 65 => ⟨S4x784, .i32⟩
  | 66 => ⟨S4x784, .i32⟩
  | 67 => ⟨S4x784x1, .i32⟩
  | 68 => ⟨S4x784x1, .i32⟩
  | 69 => ⟨S4x784x2, .i32⟩
  | 70 => ⟨S4x256x784, .f32⟩
  | 71 => ⟨S4x1x784, .f32⟩
  | 72 => ⟨S4x256x784, .f32⟩
  | 73 => ⟨S4x256x784, .f32⟩
  | 74 => ⟨S4x784, .f32⟩
  | 75 => ⟨S4x1x784, .f32⟩
  | 76 => ⟨S4x256x784, .f32⟩
  | 77 => ⟨S4x256x784, .f32⟩
  | 78 => ⟨S4x256x784, .f32⟩
  | 79 => ⟨S_, .f32⟩
  | 80 => ⟨S4x784, .f32⟩
  | 81 => ⟨S4x784, .i1⟩
  | 82 => ⟨S_, .f32⟩
  | 83 => ⟨S4x784, .f32⟩
  | 84 => ⟨S4x784, .i1⟩
  | 85 => ⟨S4x784, .i1⟩
  | 86 => ⟨S_, .f32⟩
  | 87 => ⟨S4x784, .f32⟩
  | 88 => ⟨S4x784, .i1⟩
  | 89 => ⟨S4x784, .i1⟩
  | 90 => ⟨S_, .f32⟩
  | 91 => ⟨S4x784, .f32⟩
  | 92 => ⟨S4x784, .i1⟩
  | 93 => ⟨S4x784, .i1⟩
  | 94 => ⟨S4x784, .f32⟩
  | 95 => ⟨S_, .i32⟩
  | 96 => ⟨S_, .i32⟩
  | 97 => ⟨S_, .f32⟩
  | 98 => ⟨S4x784, .f32⟩
  | 99 => ⟨S4x784, .f32⟩
  | 100 => ⟨S_, .f32⟩
  | 101 => ⟨S4x784, .f32⟩
  | 102 => ⟨S4x784, .f32⟩
  | 103 => ⟨S4x784, .i32⟩
  | 104 => ⟨S_, .i32⟩
  | 105 => ⟨S_, .i32⟩
  | 106 => ⟨S_, .f32⟩
  | 107 => ⟨S4x784, .f32⟩
  | 108 => ⟨S4x784, .f32⟩
  | 109 => ⟨S_, .f32⟩
  | 110 => ⟨S4x784, .f32⟩
  | 111 => ⟨S4x784, .f32⟩
  | 112 => ⟨S4x784, .i32⟩
  | 113 => ⟨S_, .i32⟩
  | 114 => ⟨S4x784, .i32⟩
  | 115 => ⟨S4x784, .i1⟩
  | 116 => ⟨S_, .i32⟩
  | 117 => ⟨S4x784, .i32⟩
  | 118 => ⟨S4x784, .i32⟩
  | 119 => ⟨S4x784, .i32⟩
  | 120 => ⟨S_, .i32⟩
  | 121 => ⟨S4x784, .i32⟩
  | 122 => ⟨S4x784, .i1⟩
  | 123 => ⟨S_, .i32⟩
  | 124 => ⟨S4x784, .i32⟩
  | 125 => ⟨S4x784, .i32⟩
  | 126 => ⟨S4x784, .i32⟩
  | 127 => ⟨S4x784x1, .i32⟩
  | _ => ⟨S4x784, .i32⟩

abbrev hbmTy0_3 (i : Nat) : BufTy := match i % 128 with
  | 0 => ⟨S4x784x1, .i32⟩
  | 1 => ⟨S4x784x2, .i32⟩
  | 2 => ⟨S4x256x784, .f32⟩
  | 3 => ⟨S4x1x784, .f32⟩
  | 4 => ⟨S4x256x784, .f32⟩
  | 5 => ⟨S4x256x784, .f32⟩
  | 6 => ⟨S4x784, .f32⟩
  | 7 => ⟨S4x1x784, .f32⟩
  | 8 => ⟨S4x256x784, .f32⟩
  | 9 => ⟨S4x256x784, .f32⟩
  | 10 => ⟨S4x256x784, .f32⟩
  | 11 => ⟨S_, .f32⟩
  | 12 => ⟨S4x784x2, .f32⟩
  | 13 => ⟨S4x784x2, .f32⟩
  | 14 => ⟨S_, .f32⟩
  | 15 => ⟨S4x784x2, .f32⟩
  | 16 => ⟨S4x784x2, .f32⟩
  | 17 => ⟨S4x784x1, .f32⟩
  | 18 => ⟨S4x784, .f32⟩
  | 19 => ⟨S_, .f32⟩
  | 20 => ⟨S4x784, .f32⟩
  | 21 => ⟨S4x784, .f32⟩
  | 22 => ⟨S_, .f32⟩
  | 23 => ⟨S4x784, .f32⟩
  | 24 => ⟨S4x784, .f32⟩
  | 25 => ⟨S_, .f32⟩
  | 26 => ⟨S4x784, .f32⟩
  | 27 => ⟨S4x784, .f32⟩
  | 28 => ⟨S_, .f32⟩
  | 29 => ⟨S4x784, .f32⟩
  | 30 => ⟨S4x784, .f32⟩
  | 31 => ⟨S4x784x1, .f32⟩
  | 32 => ⟨S4x784, .f32⟩
  | 33 => ⟨S_, .f32⟩
  | 34 => ⟨S4x784, .f32⟩
  | 35 => ⟨S4x784, .f32⟩
  | 36 => ⟨S_, .f32⟩
  | 37 => ⟨S4x784, .f32⟩
  | 38 => ⟨S4x784, .f32⟩
  | 39 => ⟨S_, .f32⟩
  | 40 => ⟨S4x784, .f32⟩
  | 41 => ⟨S4x784, .f32⟩
  | 42 => ⟨S_, .f32⟩
  | 43 => ⟨S4x784, .f32⟩
  | 44 => ⟨S4x784, .f32⟩
  | 45 => ⟨S4x784, .f32⟩
  | 46 => ⟨S4x784, .f32⟩
  | 47 => ⟨S_, .f32⟩
  | 48 => ⟨S4x784, .f32⟩
  | 49 => ⟨S4x784, .f32⟩
  | 50 => ⟨S_, .f32⟩
  | 51 => ⟨S4x784, .f32⟩
  | 52 => ⟨S4x784, .f32⟩
  | 53 => ⟨S4x784, .f32⟩
  | 54 => ⟨S_, .f32⟩
  | 55 => ⟨S4x784, .f32⟩
  | 56 => ⟨S4x784, .f32⟩
  | 57 => ⟨S4x784, .f32⟩
  | 58 => ⟨S_, .f32⟩
  | 59 => ⟨S4x784, .f32⟩
  | 60 => ⟨S4x784, .f32⟩
  | 61 => ⟨S_, .f32⟩
  | 62 => ⟨S4x784, .f32⟩
  | 63 => ⟨S4x784, .i1⟩
  | 64 => ⟨S_, .f32⟩
  | 65 => ⟨S4x784, .f32⟩
  | 66 => ⟨S4x784, .i1⟩
  | 67 => ⟨S4x784, .i1⟩
  | 68 => ⟨S_, .f32⟩
  | 69 => ⟨S4x784, .f32⟩
  | 70 => ⟨S4x784, .i1⟩
  | 71 => ⟨S4x784, .i1⟩
  | 72 => ⟨S_, .f32⟩
  | 73 => ⟨S4x784, .f32⟩
  | 74 => ⟨S4x784, .i1⟩
  | 75 => ⟨S4x784, .i1⟩
  | 76 => ⟨S4x784, .f32⟩
  | 77 => ⟨S_, .i32⟩
  | 78 => ⟨S_, .i32⟩
  | 79 => ⟨S_, .f32⟩
  | 80 => ⟨S4x784, .f32⟩
  | 81 => ⟨S4x784, .f32⟩
  | 82 => ⟨S_, .f32⟩
  | 83 => ⟨S4x784, .f32⟩
  | 84 => ⟨S4x784, .f32⟩
  | 85 => ⟨S4x784, .i32⟩
  | 86 => ⟨S_, .i32⟩
  | 87 => ⟨S_, .i32⟩
  | 88 => ⟨S_, .f32⟩
  | 89 => ⟨S4x784, .f32⟩
  | 90 => ⟨S4x784, .f32⟩
  | 91 => ⟨S_, .f32⟩
  | 92 => ⟨S4x784, .f32⟩
  | 93 => ⟨S4x784, .f32⟩
  | 94 => ⟨S4x784, .i32⟩
  | 95 => ⟨S_, .i32⟩
  | 96 => ⟨S4x784, .i32⟩
  | 97 => ⟨S4x784, .i1⟩
  | 98 => ⟨S_, .i32⟩
  | 99 => ⟨S4x784, .i32⟩
  | 100 => ⟨S4x784, .i32⟩
  | 101 => ⟨S4x784, .i32⟩
  | 102 => ⟨S_, .i32⟩
  | 103 => ⟨S4x784, .i32⟩
  | 104 => ⟨S4x784, .i1⟩
  | 105 => ⟨S_, .i32⟩
  | 106 => ⟨S4x784, .i32⟩
  | 107 => ⟨S4x784, .i32⟩
  | 108 => ⟨S4x784, .i32⟩
  | 109 => ⟨S4x784x1, .i32⟩
  | 110 => ⟨S4x784x1, .i32⟩
  | 111 => ⟨S4x784x2, .i32⟩
  | 112 => ⟨S4x80x784, .f32⟩
  | 113 => ⟨S4x1x784, .f32⟩
  | 114 => ⟨S4x80x784, .f32⟩
  | 115 => ⟨S4x80x784, .f32⟩
  | 116 => ⟨S4x784, .f32⟩
  | 117 => ⟨S4x1x784, .f32⟩
  | 118 => ⟨S4x80x784, .f32⟩
  | 119 => ⟨S4x80x784, .f32⟩
  | 120 => ⟨S_, .f32⟩
  | 121 => ⟨S4x784, .f32⟩
  | 122 => ⟨S4x784, .i1⟩
  | 123 => ⟨S_, .f32⟩
  | 124 => ⟨S4x784, .f32⟩
  | 125 => ⟨S4x784, .i1⟩
  | 126 => ⟨S4x784, .i1⟩
  | 127 => ⟨S_, .f32⟩
  | _ => ⟨S4x784, .i32⟩

abbrev hbmTy0_4 (i : Nat) : BufTy := match i % 128 with
  | 0 => ⟨S4x784, .f32⟩
  | 1 => ⟨S4x784, .i1⟩
  | 2 => ⟨S4x784, .i1⟩
  | 3 => ⟨S_, .f32⟩
  | 4 => ⟨S4x784, .f32⟩
  | 5 => ⟨S4x784, .i1⟩
  | 6 => ⟨S4x784, .i1⟩
  | 7 => ⟨S4x784, .f32⟩
  | 8 => ⟨S_, .i32⟩
  | 9 => ⟨S_, .i32⟩
  | 10 => ⟨S_, .f32⟩
  | 11 => ⟨S4x784, .f32⟩
  | 12 => ⟨S4x784, .f32⟩
  | 13 => ⟨S_, .f32⟩
  | 14 => ⟨S4x784, .f32⟩
  | 15 => ⟨S4x784, .f32⟩
  | 16 => ⟨S4x784, .i32⟩
  | 17 => ⟨S_, .i32⟩
  | 18 => ⟨S_, .i32⟩
  | 19 => ⟨S_, .f32⟩
  | 20 => ⟨S4x784, .f32⟩
  | 21 => ⟨S4x784, .f32⟩
  | 22 => ⟨S_, .f32⟩
  | 23 => ⟨S4x784, .f32⟩
  | 24 => ⟨S4x784, .f32⟩
  | 25 => ⟨S4x784, .i32⟩
  | 26 => ⟨S_, .i32⟩
  | 27 => ⟨S4x784, .i32⟩
  | 28 => ⟨S4x784, .i1⟩
  | 29 => ⟨S_, .i32⟩
  | 30 => ⟨S4x784, .i32⟩
  | 31 => ⟨S4x784, .i32⟩
  | 32 => ⟨S4x784, .i32⟩
  | 33 => ⟨S_, .i32⟩
  | 34 => ⟨S4x784, .i32⟩
  | 35 => ⟨S4x784, .i1⟩
  | 36 => ⟨S_, .i32⟩
  | 37 => ⟨S4x784, .i32⟩
  | 38 => ⟨S4x784, .i32⟩
  | 39 => ⟨S4x784, .i32⟩
  | 40 => ⟨S4x784x1, .i32⟩
  | 41 => ⟨S4x784x1, .i32⟩
  | 42 => ⟨S4x784x2, .i32⟩
  | 43 => ⟨S4x80x784, .f32⟩
  | 44 => ⟨S4x1x784, .f32⟩
  | 45 => ⟨S4x80x784, .f32⟩
  | 46 => ⟨S4x80x784, .f32⟩
  | 47 => ⟨S4x784, .f32⟩
  | 48 => ⟨S4x1x784, .f32⟩
  | 49 => ⟨S4x80x784, .f32⟩
  | 50 => ⟨S4x80x784, .f32⟩
  | 51 => ⟨S4x80x784, .f32⟩
  | 52 => ⟨S_, .f32⟩
  | 53 => ⟨S4x784, .f32⟩
  | 54 => ⟨S4x784, .i1⟩
  | 55 => ⟨S_, .f32⟩
  | 56 => ⟨S4x784, .f32⟩
  | 57 => ⟨S4x784, .i1⟩
  | 58 => ⟨S4x784, .i1⟩
  | 59 => ⟨S_, .f32⟩
  | 60 => ⟨S4x784, .f32⟩
  | 61 => ⟨S4x784, .i1⟩
  | 62 => ⟨S4x784, .i1⟩
  | 63 => ⟨S_, .f32⟩
  | 64 => ⟨S4x784, .f32⟩
  | 65 => ⟨S4x784, .i1⟩
  | 66 => ⟨S4x784, .i1⟩
  | 67 => ⟨S4x784, .f32⟩
  | 68 => ⟨S_, .i32⟩
  | 69 => ⟨S_, .i32⟩
  | 70 => ⟨S_, .f32⟩
  | 71 => ⟨S4x784, .f32⟩
  | 72 => ⟨S4x784, .f32⟩
  | 73 => ⟨S_, .f32⟩
  | 74 => ⟨S4x784, .f32⟩
  | 75 => ⟨S4x784, .f32⟩
  | 76 => ⟨S4x784, .i32⟩
  | 77 => ⟨S_, .i32⟩
  | 78 => ⟨S_, .i32⟩
  | 79 => ⟨S_, .f32⟩
  | 80 => ⟨S4x784, .f32⟩
  | 81 => ⟨S4x784, .f32⟩
  | 82 => ⟨S_, .f32⟩
  | 83 => ⟨S4x784, .f32⟩
  | 84 => ⟨S4x784, .f32⟩
  | 85 => ⟨S4x784, .i32⟩
  | 86 => ⟨S_, .i32⟩
  | 87 => ⟨S4x784, .i32⟩
  | 88 => ⟨S4x784, .i1⟩
  | 89 => ⟨S_, .i32⟩
  | 90 => ⟨S4x784, .i32⟩
  | 91 => ⟨S4x784, .i32⟩
  | 92 => ⟨S4x784, .i32⟩
  | 93 => ⟨S_, .i32⟩
  | 94 => ⟨S4x784, .i32⟩
  | 95 => ⟨S4x784, .i1⟩
  | 96 => ⟨S_, .i32⟩
  | 97 => ⟨S4x784, .i32⟩
  | 98 => ⟨S4x784, .i32⟩
  | 99 => ⟨S4x784, .i32⟩
  | 100 => ⟨S4x784x1, .i32⟩
  | 101 => ⟨S4x784x1, .i32⟩
  | 102 => ⟨S4x784x2, .i32⟩
  | 103 => ⟨S4x80x784, .f32⟩
  | 104 => ⟨S4x1x784, .f32⟩
  | 105 => ⟨S4x80x784, .f32⟩
  | 106 => ⟨S4x80x784, .f32⟩
  | 107 => ⟨S4x784, .f32⟩
  | 108 => ⟨S4x1x784, .f32⟩
  | 109 => ⟨S4x80x784, .f32⟩
  | 110 => ⟨S4x80x784, .f32⟩
  | 111 => ⟨S4x80x784, .f32⟩
  | 112 => ⟨S_, .f32⟩
  | 113 => ⟨S4x784, .f32⟩
  | 114 => ⟨S4x784, .i1⟩
  | 115 => ⟨S_, .f32⟩
  | 116 => ⟨S4x784, .f32⟩
  | 117 => ⟨S4x784, .i1⟩
  | 118 => ⟨S4x784, .i1⟩
  | 119 => ⟨S_, .f32⟩
  | 120 => ⟨S4x784, .f32⟩
  | 121 => ⟨S4x784, .i1⟩
  | 122 => ⟨S4x784, .i1⟩
  | 123 => ⟨S_, .f32⟩
  | 124 => ⟨S4x784, .f32⟩
  | 125 => ⟨S4x784, .i1⟩
  | 126 => ⟨S4x784, .i1⟩
  | 127 => ⟨S4x784, .f32⟩
  | _ => ⟨S4x784, .i32⟩

abbrev hbmTy0_5 (i : Nat) : BufTy := match i % 128 with
  | 0 => ⟨S_, .i32⟩
  | 1 => ⟨S_, .i32⟩
  | 2 => ⟨S_, .f32⟩
  | 3 => ⟨S4x784, .f32⟩
  | 4 => ⟨S4x784, .f32⟩
  | 5 => ⟨S_, .f32⟩
  | 6 => ⟨S4x784, .f32⟩
  | 7 => ⟨S4x784, .f32⟩
  | 8 => ⟨S4x784, .i32⟩
  | 9 => ⟨S_, .i32⟩
  | 10 => ⟨S_, .i32⟩
  | 11 => ⟨S_, .f32⟩
  | 12 => ⟨S4x784, .f32⟩
  | 13 => ⟨S4x784, .f32⟩
  | 14 => ⟨S_, .f32⟩
  | 15 => ⟨S4x784, .f32⟩
  | 16 => ⟨S4x784, .f32⟩
  | 17 => ⟨S4x784, .i32⟩
  | 18 => ⟨S_, .i32⟩
  | 19 => ⟨S4x784, .i32⟩
  | 20 => ⟨S4x784, .i1⟩
  | 21 => ⟨S_, .i32⟩
  | 22 => ⟨S4x784, .i32⟩
  | 23 => ⟨S4x784, .i32⟩
  | 24 => ⟨S4x784, .i32⟩
  | 25 => ⟨S_, .i32⟩
  | 26 => ⟨S4x784, .i32⟩
  | 27 => ⟨S4x784, .i1⟩
  | 28 => ⟨S_, .i32⟩
  | 29 => ⟨S4x784, .i32⟩
  | 30 => ⟨S4x784, .i32⟩
  | 31 => ⟨S4x784, .i32⟩
  | 32 => ⟨S4x784x1, .i32⟩
  | 33 => ⟨S4x784x1, .i32⟩
  | 34 => ⟨S4x784x2, .i32⟩
  | 35 => ⟨S4x80x784, .f32⟩
  | 36 => ⟨S4x1x784, .f32⟩
  | 37 => ⟨S4x80x784, .f32⟩
  | 38 => ⟨S4x80x784, .f32⟩
  | 39 => ⟨S4x784, .f32⟩
  | 40 => ⟨S4x1x784, .f32⟩
  | 41 => ⟨S4x80x784, .f32⟩
  | 42 => ⟨S4x80x784, .f32⟩
  | 43 => ⟨S4x80x784, .f32⟩
  | 44 => ⟨S4x336x784, .f32⟩
  | 45 => ⟨S4x784x256, .f32⟩
  | 46 => ⟨S4x256x784, .f32⟩
  | 47 => ⟨S1x256x1, .f32⟩
  | 48 => ⟨S4x256x784, .f32⟩
  | 49 => ⟨S4x256x784, .f32⟩
  | 50 => ⟨S_, .f32⟩
  | 51 => ⟨S4x256x784, .f32⟩
  | 52 => ⟨S4x256x784, .f32⟩
  | 53 => ⟨S4x336x784, .f32⟩
  | 54 => ⟨S4x784x256, .f32⟩
  | 55 => ⟨S4x256x784, .f32⟩
  | 56 => ⟨S1x256x1, .f32⟩
  | 57 => ⟨S4x256x784, .f32⟩
  | 58 => ⟨S4x256x784, .f32⟩
  | 59 => ⟨S_, .f32⟩
  | 60 => ⟨S4x256x784, .f32⟩
  | 61 => ⟨S4x256x784, .f32⟩
  | 62 => ⟨S4x336x784, .f32⟩
  | 63 => ⟨S4x784x256, .f32⟩
  | 64 => ⟨S4x256x784, .f32⟩
  | 65 => ⟨S1x256x1, .f32⟩
  | 66 => ⟨S4x256x784, .f32⟩
  | 67 => ⟨S4x256x784, .f32⟩
  | 68 => ⟨S_, .f32⟩
  | 69 => ⟨S4x256x784, .f32⟩
  | 70 => ⟨S4x256x784, .f32⟩
  | 71 => ⟨S4x336x784, .f32⟩
  | 72 => ⟨S4x784x80, .f32⟩
  | 73 => ⟨S4x80x784, .f32⟩
  | 74 => ⟨S1x80x1, .f32⟩
  | 75 => ⟨S4x80x784, .f32⟩
  | 76 => ⟨S4x80x784, .f32⟩
  | 77 => ⟨S4x784x80, .f32⟩
  | _ => ⟨S4x784, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4x784, .i32⟩

abbrev bufTy : (tb : Table) → Fin (tcTables nBuf tb) → BufTy
  | .hbm, ⟨i, _⟩ => hbmTy i
  | _, _ => ⟨S4x784, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_1 : Ref sig .tc := ⟨.hbm, 21, rfl⟩
abbrev main_call0_v5 : Ref sig .tc := ⟨.hbm, 22, rfl⟩
abbrev main_call0_v6 : Ref sig .tc := ⟨.hbm, 23, rfl⟩
abbrev main_call0_c_2 : Ref sig .tc := ⟨.hbm, 24, rfl⟩
abbrev main_call0_v7 : Ref sig .tc := ⟨.hbm, 25, rfl⟩
abbrev main_call0_v8 : Ref sig .tc := ⟨.hbm, 26, rfl⟩
abbrev main_call0_c_3 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_v0 : Ref sig .tc := ⟨.hbm, 34, rfl⟩
abbrev main_v1 : Ref sig .tc := ⟨.hbm, 35, rfl⟩
abbrev main_cst : Ref sig .tc := ⟨.hbm, 36, rfl⟩
abbrev main_v2 : Ref sig .tc := ⟨.hbm, 37, rfl⟩
abbrev main_v3 : Ref sig .tc := ⟨.hbm, 38, rfl⟩
abbrev main_cst_0 : Ref sig .tc := ⟨.hbm, 39, rfl⟩
abbrev main_v4 : Ref sig .tc := ⟨.hbm, 40, rfl⟩
abbrev main_v5 : Ref sig .tc := ⟨.hbm, 41, rfl⟩
abbrev main_c_1 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_c : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_0 : Ref sig .tc := ⟨.hbm, 56, rfl⟩
abbrev main_call1_v12 : Ref sig .tc := ⟨.hbm, 57, rfl⟩
abbrev main_call1_v13 : Ref sig .tc := ⟨.hbm, 58, rfl⟩
abbrev main_v6 : Ref sig .tc := ⟨.hbm, 59, rfl⟩
abbrev main_v7 : Ref sig .tc := ⟨.hbm, 60, rfl⟩
abbrev main_cst_2 : Ref sig .tc := ⟨.hbm, 61, rfl⟩
abbrev main_v8 : Ref sig .tc := ⟨.hbm, 62, rfl⟩
abbrev main_v9 : Ref sig .tc := ⟨.hbm, 63, rfl⟩
abbrev main_cst_3 : Ref sig .tc := ⟨.hbm, 64, rfl⟩
abbrev main_v10 : Ref sig .tc := ⟨.hbm, 65, rfl⟩
abbrev main_v11 : Ref sig .tc := ⟨.hbm, 66, rfl⟩
abbrev main_v12 : Ref sig .tc := ⟨.hbm, 67, rfl⟩
abbrev main_v13 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_cst_4 : Ref sig .tc := ⟨.hbm, 88, rfl⟩
abbrev main_v33 : Ref sig .tc := ⟨.hbm, 89, rfl⟩
abbrev main_v34 : Ref sig .tc := ⟨.hbm, 90, rfl⟩
abbrev main_cst_5 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_c_6 : Ref sig .tc := ⟨.hbm, 97, rfl⟩
abbrev main_v40 : Ref sig .tc := ⟨.hbm, 98, rfl⟩
abbrev main_v41 : Ref sig .tc := ⟨.hbm, 99, rfl⟩
abbrev main_c_7 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_cst_8 : Ref sig .tc := ⟨.hbm, 106, rfl⟩
abbrev main_v47 : Ref sig .tc := ⟨.hbm, 107, rfl⟩
abbrev main_v48 : Ref sig .tc := ⟨.hbm, 108, rfl⟩
abbrev main_cst_9 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_cst_10 : Ref sig .tc := ⟨.hbm, 114, rfl⟩
abbrev main_v53 : Ref sig .tc := ⟨.hbm, 115, rfl⟩
abbrev main_v54 : Ref sig .tc := ⟨.hbm, 116, rfl⟩
abbrev main_cst_11 : Ref sig .tc := ⟨.hbm, 117, rfl⟩
abbrev main_v55 : Ref sig .tc := ⟨.hbm, 118, rfl⟩
abbrev main_v56 : Ref sig .tc := ⟨.hbm, 119, rfl⟩
abbrev main_cst_12 : Ref sig .tc := ⟨.hbm, 120, rfl⟩
abbrev main_v57 : Ref sig .tc := ⟨.hbm, 121, rfl⟩
abbrev main_v58 : Ref sig .tc := ⟨.hbm, 122, rfl⟩
abbrev main_cst_13 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_cst_14 : Ref sig .tc := ⟨.hbm, 128, rfl⟩
abbrev main_v63 : Ref sig .tc := ⟨.hbm, 129, rfl⟩
abbrev main_v64 : Ref sig .tc := ⟨.hbm, 130, rfl⟩
abbrev main_cst_15 : Ref sig .tc := ⟨.hbm, 131, rfl⟩
abbrev main_v65 : Ref sig .tc := ⟨.hbm, 132, rfl⟩
abbrev main_v66 : Ref sig .tc := ⟨.hbm, 133, rfl⟩
abbrev main_cst_16 : Ref sig .tc := ⟨.hbm, 134, rfl⟩
abbrev main_v67 : Ref sig .tc := ⟨.hbm, 135, rfl⟩
abbrev main_v68 : Ref sig .tc := ⟨.hbm, 136, rfl⟩
abbrev main_cst_17 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_cst_18 : Ref sig .tc := ⟨.hbm, 142, rfl⟩
abbrev main_v73 : Ref sig .tc := ⟨.hbm, 143, rfl⟩
abbrev main_v74 : Ref sig .tc := ⟨.hbm, 144, rfl⟩
abbrev main_cst_19 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_cst_20 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_cst_21 : Ref sig .tc := ⟨.hbm, 153, rfl⟩
abbrev main_v81 : Ref sig .tc := ⟨.hbm, 154, rfl⟩
abbrev main_v82 : Ref sig .tc := ⟨.hbm, 155, rfl⟩
abbrev main_cst_22 : Ref sig .tc := ⟨.hbm, 156, rfl⟩
abbrev main_v83 : Ref sig .tc := ⟨.hbm, 157, rfl⟩
abbrev main_v84 : Ref sig .tc := ⟨.hbm, 158, rfl⟩
abbrev main_cst_23 : Ref sig .tc := ⟨.hbm, 159, rfl⟩
abbrev main_v85 : Ref sig .tc := ⟨.hbm, 160, rfl⟩
abbrev main_v86 : Ref sig .tc := ⟨.hbm, 161, rfl⟩
abbrev main_v87 : Ref sig .tc := ⟨.hbm, 162, rfl⟩
abbrev main_cst_24 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_cst_25 : Ref sig .tc := ⟨.hbm, 167, rfl⟩
abbrev main_v91 : Ref sig .tc := ⟨.hbm, 168, rfl⟩
abbrev main_v92 : Ref sig .tc := ⟨.hbm, 169, rfl⟩
abbrev main_v93 : Ref sig .tc := ⟨.hbm, 170, rfl⟩
abbrev main_v94 : Ref sig .tc := ⟨.hbm, 171, rfl⟩
abbrev main_c_26 : Ref sig .tc := ⟨.hbm, 172, rfl⟩
abbrev main_c_27 : Ref sig .tc := ⟨.hbm, 173, rfl⟩
abbrev main_call2_v0 : Ref sig .tc := ⟨.hbm, 174, rfl⟩
abbrev main_call2_v1 : Ref sig .tc := ⟨.hbm, 175, rfl⟩
abbrev main_call2_v2 : Ref sig .tc := ⟨.hbm, 176, rfl⟩
abbrev main_call2_v3 : Ref sig .tc := ⟨.hbm, 177, rfl⟩
abbrev main_call2_v4 : Ref sig .tc := ⟨.hbm, 178, rfl⟩
abbrev main_v95 : Ref sig .tc := ⟨.hbm, 179, rfl⟩
abbrev main_v96 : Ref sig .tc := ⟨.hbm, 180, rfl⟩
abbrev main_c_28 : Ref sig .tc := ⟨.hbm, 181, rfl⟩
abbrev main_c_29 : Ref sig .tc := ⟨.hbm, 182, rfl⟩
abbrev main_call3_v0 : Ref sig .tc := ⟨.hbm, 183, rfl⟩
abbrev main_call3_v1 : Ref sig .tc := ⟨.hbm, 184, rfl⟩
abbrev main_call3_v2 : Ref sig .tc := ⟨.hbm, 185, rfl⟩
abbrev main_call3_v3 : Ref sig .tc := ⟨.hbm, 186, rfl⟩
abbrev main_call3_v4 : Ref sig .tc := ⟨.hbm, 187, rfl⟩
abbrev main_v97 : Ref sig .tc := ⟨.hbm, 188, rfl⟩
abbrev main_v98 : Ref sig .tc := ⟨.hbm, 189, rfl⟩
abbrev main_c_30 : Ref sig .tc := ⟨.hbm, 190, rfl⟩
abbrev main_v99 : Ref sig .tc := ⟨.hbm, 191, rfl⟩
abbrev main_v100 : Ref sig .tc := ⟨.hbm, 192, rfl⟩
abbrev main_c_31 : Ref sig .tc := ⟨.hbm, 193, rfl⟩
abbrev main_v101 : Ref sig .tc := ⟨.hbm, 194, rfl⟩
abbrev main_v102 : Ref sig .tc := ⟨.hbm, 195, rfl⟩
abbrev main_v103 : Ref sig .tc := ⟨.hbm, 196, rfl⟩
abbrev main_c_32 : Ref sig .tc := ⟨.hbm, 197, rfl⟩
abbrev main_v104 : Ref sig .tc := ⟨.hbm, 198, rfl⟩
abbrev main_v105 : Ref sig .tc := ⟨.hbm, 199, rfl⟩
abbrev main_c_33 : Ref sig .tc := ⟨.hbm, 200, rfl⟩
abbrev main_v106 : Ref sig .tc := ⟨.hbm, 201, rfl⟩
abbrev main_v107 : Ref sig .tc := ⟨.hbm, 202, rfl⟩
abbrev main_v108 : Ref sig .tc := ⟨.hbm, 203, rfl⟩
abbrev main_v109 : Ref sig .tc := ⟨.hbm, 204, rfl⟩
abbrev main_v110 : Ref sig .tc := ⟨.hbm, 205, rfl⟩
abbrev main_v111 : Ref sig .tc := ⟨.hbm, 206, rfl⟩
abbrev main_v112 : Ref sig .tc := ⟨.hbm, 207, rfl⟩
abbrev main_v113 : Ref sig .tc := ⟨.hbm, 208, rfl⟩
abbrev main_v114 : Ref sig .tc := ⟨.hbm, 209, rfl⟩
abbrev main_v115 : Ref sig .tc := ⟨.hbm, 210, rfl⟩
abbrev main_v116 : Ref sig .tc := ⟨.hbm, 211, rfl⟩
abbrev main_v117 : Ref sig .tc := ⟨.hbm, 212, rfl⟩
abbrev main_v118 : Ref sig .tc := ⟨.hbm, 213, rfl⟩
abbrev main_v119 : Ref sig .tc := ⟨.hbm, 214, rfl⟩
abbrev main_cst_34 : Ref sig .tc := ⟨.hbm, 215, rfl⟩
abbrev main_v120 : Ref sig .tc := ⟨.hbm, 216, rfl⟩
abbrev main_v121 : Ref sig .tc := ⟨.hbm, 217, rfl⟩
abbrev main_cst_35 : Ref sig .tc := ⟨.hbm, 218, rfl⟩
abbrev main_v122 : Ref sig .tc := ⟨.hbm, 219, rfl⟩
abbrev main_v123 : Ref sig .tc := ⟨.hbm, 220, rfl⟩
abbrev main_v124 : Ref sig .tc := ⟨.hbm, 221, rfl⟩
abbrev main_cst_36 : Ref sig .tc := ⟨.hbm, 222, rfl⟩
abbrev main_v125 : Ref sig .tc := ⟨.hbm, 223, rfl⟩
abbrev main_v126 : Ref sig .tc := ⟨.hbm, 224, rfl⟩
abbrev main_v127 : Ref sig .tc := ⟨.hbm, 225, rfl⟩
abbrev main_cst_37 : Ref sig .tc := ⟨.hbm, 226, rfl⟩
abbrev main_v128 : Ref sig .tc := ⟨.hbm, 227, rfl⟩
abbrev main_v129 : Ref sig .tc := ⟨.hbm, 228, rfl⟩
abbrev main_v130 : Ref sig .tc := ⟨.hbm, 229, rfl⟩
abbrev main_v131 : Ref sig .tc := ⟨.hbm, 230, rfl⟩
abbrev main_c_38 : Ref sig .tc := ⟨.hbm, 231, rfl⟩
abbrev main_c_39 : Ref sig .tc := ⟨.hbm, 232, rfl⟩
abbrev main_call4_v0 : Ref sig .tc := ⟨.hbm, 233, rfl⟩
abbrev main_call4_v1 : Ref sig .tc := ⟨.hbm, 234, rfl⟩
abbrev main_call4_v2 : Ref sig .tc := ⟨.hbm, 235, rfl⟩
abbrev main_call4_v3 : Ref sig .tc := ⟨.hbm, 236, rfl⟩
abbrev main_call4_v4 : Ref sig .tc := ⟨.hbm, 237, rfl⟩
abbrev main_v132 : Ref sig .tc := ⟨.hbm, 238, rfl⟩
abbrev main_v133 : Ref sig .tc := ⟨.hbm, 239, rfl⟩
abbrev main_c_40 : Ref sig .tc := ⟨.hbm, 240, rfl⟩
abbrev main_c_41 : Ref sig .tc := ⟨.hbm, 241, rfl⟩
abbrev main_call5_v0 : Ref sig .tc := ⟨.hbm, 242, rfl⟩
abbrev main_call5_v1 : Ref sig .tc := ⟨.hbm, 243, rfl⟩
abbrev main_call5_v2 : Ref sig .tc := ⟨.hbm, 244, rfl⟩
abbrev main_call5_v3 : Ref sig .tc := ⟨.hbm, 245, rfl⟩
abbrev main_call5_v4 : Ref sig .tc := ⟨.hbm, 246, rfl⟩
abbrev main_v134 : Ref sig .tc := ⟨.hbm, 247, rfl⟩
abbrev main_v135 : Ref sig .tc := ⟨.hbm, 248, rfl⟩
abbrev main_c_42 : Ref sig .tc := ⟨.hbm, 249, rfl⟩
abbrev main_v136 : Ref sig .tc := ⟨.hbm, 250, rfl⟩
abbrev main_v137 : Ref sig .tc := ⟨.hbm, 251, rfl⟩
abbrev main_c_43 : Ref sig .tc := ⟨.hbm, 252, rfl⟩
abbrev main_v138 : Ref sig .tc := ⟨.hbm, 253, rfl⟩
abbrev main_v139 : Ref sig .tc := ⟨.hbm, 254, rfl⟩
abbrev main_v140 : Ref sig .tc := ⟨.hbm, 255, rfl⟩
abbrev main_c_44 : Ref sig .tc := ⟨.hbm, 256, rfl⟩
abbrev main_v141 : Ref sig .tc := ⟨.hbm, 257, rfl⟩
abbrev main_v142 : Ref sig .tc := ⟨.hbm, 258, rfl⟩
abbrev main_c_45 : Ref sig .tc := ⟨.hbm, 259, rfl⟩
abbrev main_v143 : Ref sig .tc := ⟨.hbm, 260, rfl⟩
abbrev main_v144 : Ref sig .tc := ⟨.hbm, 261, rfl⟩
abbrev main_v145 : Ref sig .tc := ⟨.hbm, 262, rfl⟩
abbrev main_v146 : Ref sig .tc := ⟨.hbm, 263, rfl⟩
abbrev main_v147 : Ref sig .tc := ⟨.hbm, 264, rfl⟩
abbrev main_v148 : Ref sig .tc := ⟨.hbm, 265, rfl⟩
abbrev main_v149 : Ref sig .tc := ⟨.hbm, 266, rfl⟩
abbrev main_v150 : Ref sig .tc := ⟨.hbm, 267, rfl⟩
abbrev main_v151 : Ref sig .tc := ⟨.hbm, 268, rfl⟩
abbrev main_v152 : Ref sig .tc := ⟨.hbm, 269, rfl⟩
abbrev main_v153 : Ref sig .tc := ⟨.hbm, 270, rfl⟩
abbrev main_v154 : Ref sig .tc := ⟨.hbm, 271, rfl⟩
abbrev main_v155 : Ref sig .tc := ⟨.hbm, 272, rfl⟩
abbrev main_v156 : Ref sig .tc := ⟨.hbm, 273, rfl⟩
abbrev main_v157 : Ref sig .tc := ⟨.hbm, 274, rfl⟩
abbrev main_cst_46 : Ref sig .tc := ⟨.hbm, 275, rfl⟩
abbrev main_v158 : Ref sig .tc := ⟨.hbm, 276, rfl⟩
abbrev main_v159 : Ref sig .tc := ⟨.hbm, 277, rfl⟩
abbrev main_cst_47 : Ref sig .tc := ⟨.hbm, 278, rfl⟩
abbrev main_v160 : Ref sig .tc := ⟨.hbm, 279, rfl⟩
abbrev main_v161 : Ref sig .tc := ⟨.hbm, 280, rfl⟩
abbrev main_v162 : Ref sig .tc := ⟨.hbm, 281, rfl⟩
abbrev main_cst_48 : Ref sig .tc := ⟨.hbm, 282, rfl⟩
abbrev main_v163 : Ref sig .tc := ⟨.hbm, 283, rfl⟩
abbrev main_v164 : Ref sig .tc := ⟨.hbm, 284, rfl⟩
abbrev main_v165 : Ref sig .tc := ⟨.hbm, 285, rfl⟩
abbrev main_cst_49 : Ref sig .tc := ⟨.hbm, 286, rfl⟩
abbrev main_v166 : Ref sig .tc := ⟨.hbm, 287, rfl⟩
abbrev main_v167 : Ref sig .tc := ⟨.hbm, 288, rfl⟩
abbrev main_v168 : Ref sig .tc := ⟨.hbm, 289, rfl⟩
abbrev main_v169 : Ref sig .tc := ⟨.hbm, 290, rfl⟩
abbrev main_c_50 : Ref sig .tc := ⟨.hbm, 291, rfl⟩
abbrev main_c_51 : Ref sig .tc := ⟨.hbm, 292, rfl⟩
abbrev main_call6_v0 : Ref sig .tc := ⟨.hbm, 293, rfl⟩
abbrev main_call6_v1 : Ref sig .tc := ⟨.hbm, 294, rfl⟩
abbrev main_call6_v2 : Ref sig .tc := ⟨.hbm, 295, rfl⟩
abbrev main_call6_v3 : Ref sig .tc := ⟨.hbm, 296, rfl⟩
abbrev main_call6_v4 : Ref sig .tc := ⟨.hbm, 297, rfl⟩
abbrev main_v170 : Ref sig .tc := ⟨.hbm, 298, rfl⟩
abbrev main_v171 : Ref sig .tc := ⟨.hbm, 299, rfl⟩
abbrev main_c_52 : Ref sig .tc := ⟨.hbm, 300, rfl⟩
abbrev main_c_53 : Ref sig .tc := ⟨.hbm, 301, rfl⟩
abbrev main_call7_v0 : Ref sig .tc := ⟨.hbm, 302, rfl⟩
abbrev main_call7_v1 : Ref sig .tc := ⟨.hbm, 303, rfl⟩
abbrev main_call7_v2 : Ref sig .tc := ⟨.hbm, 304, rfl⟩
abbrev main_call7_v3 : Ref sig .tc := ⟨.hbm, 305, rfl⟩
abbrev main_call7_v4 : Ref sig .tc := ⟨.hbm, 306, rfl⟩
abbrev main_v172 : Ref sig .tc := ⟨.hbm, 307, rfl⟩
abbrev main_v173 : Ref sig .tc := ⟨.hbm, 308, rfl⟩
abbrev main_c_54 : Ref sig .tc := ⟨.hbm, 309, rfl⟩
abbrev main_v174 : Ref sig .tc := ⟨.hbm, 310, rfl⟩
abbrev main_v175 : Ref sig .tc := ⟨.hbm, 311, rfl⟩
abbrev main_c_55 : Ref sig .tc := ⟨.hbm, 312, rfl⟩
abbrev main_v176 : Ref sig .tc := ⟨.hbm, 313, rfl⟩
abbrev main_v177 : Ref sig .tc := ⟨.hbm, 314, rfl⟩
abbrev main_v178 : Ref sig .tc := ⟨.hbm, 315, rfl⟩
abbrev main_c_56 : Ref sig .tc := ⟨.hbm, 316, rfl⟩
abbrev main_v179 : Ref sig .tc := ⟨.hbm, 317, rfl⟩
abbrev main_v180 : Ref sig .tc := ⟨.hbm, 318, rfl⟩
abbrev main_c_57 : Ref sig .tc := ⟨.hbm, 319, rfl⟩
abbrev main_v181 : Ref sig .tc := ⟨.hbm, 320, rfl⟩
abbrev main_v182 : Ref sig .tc := ⟨.hbm, 321, rfl⟩
abbrev main_v183 : Ref sig .tc := ⟨.hbm, 322, rfl⟩
abbrev main_v184 : Ref sig .tc := ⟨.hbm, 323, rfl⟩
abbrev main_v185 : Ref sig .tc := ⟨.hbm, 324, rfl⟩
abbrev main_v186 : Ref sig .tc := ⟨.hbm, 325, rfl⟩
abbrev main_v187 : Ref sig .tc := ⟨.hbm, 326, rfl⟩
abbrev main_v188 : Ref sig .tc := ⟨.hbm, 327, rfl⟩
abbrev main_v189 : Ref sig .tc := ⟨.hbm, 328, rfl⟩
abbrev main_v190 : Ref sig .tc := ⟨.hbm, 329, rfl⟩
abbrev main_v191 : Ref sig .tc := ⟨.hbm, 330, rfl⟩
abbrev main_v192 : Ref sig .tc := ⟨.hbm, 331, rfl⟩
abbrev main_v193 : Ref sig .tc := ⟨.hbm, 332, rfl⟩
abbrev main_v194 : Ref sig .tc := ⟨.hbm, 333, rfl⟩
abbrev main_v195 : Ref sig .tc := ⟨.hbm, 334, rfl⟩
abbrev main_cst_58 : Ref sig .tc := ⟨.hbm, 335, rfl⟩
abbrev main_v196 : Ref sig .tc := ⟨.hbm, 336, rfl⟩
abbrev main_v197 : Ref sig .tc := ⟨.hbm, 337, rfl⟩
abbrev main_cst_59 : Ref sig .tc := ⟨.hbm, 338, rfl⟩
abbrev main_v198 : Ref sig .tc := ⟨.hbm, 339, rfl⟩
abbrev main_v199 : Ref sig .tc := ⟨.hbm, 340, rfl⟩
abbrev main_v200 : Ref sig .tc := ⟨.hbm, 341, rfl⟩
abbrev main_cst_60 : Ref sig .tc := ⟨.hbm, 342, rfl⟩
abbrev main_v201 : Ref sig .tc := ⟨.hbm, 343, rfl⟩
abbrev main_v202 : Ref sig .tc := ⟨.hbm, 344, rfl⟩
abbrev main_v203 : Ref sig .tc := ⟨.hbm, 345, rfl⟩
abbrev main_cst_61 : Ref sig .tc := ⟨.hbm, 346, rfl⟩
abbrev main_v204 : Ref sig .tc := ⟨.hbm, 347, rfl⟩
abbrev main_v205 : Ref sig .tc := ⟨.hbm, 348, rfl⟩
abbrev main_v206 : Ref sig .tc := ⟨.hbm, 349, rfl⟩
abbrev main_v207 : Ref sig .tc := ⟨.hbm, 350, rfl⟩
abbrev main_c_62 : Ref sig .tc := ⟨.hbm, 351, rfl⟩
abbrev main_c_63 : Ref sig .tc := ⟨.hbm, 352, rfl⟩
abbrev main_call8_v0 : Ref sig .tc := ⟨.hbm, 353, rfl⟩
abbrev main_call8_v1 : Ref sig .tc := ⟨.hbm, 354, rfl⟩
abbrev main_call8_v2 : Ref sig .tc := ⟨.hbm, 355, rfl⟩
abbrev main_call8_v3 : Ref sig .tc := ⟨.hbm, 356, rfl⟩
abbrev main_call8_v4 : Ref sig .tc := ⟨.hbm, 357, rfl⟩
abbrev main_v208 : Ref sig .tc := ⟨.hbm, 358, rfl⟩
abbrev main_v209 : Ref sig .tc := ⟨.hbm, 359, rfl⟩
abbrev main_c_64 : Ref sig .tc := ⟨.hbm, 360, rfl⟩
abbrev main_c_65 : Ref sig .tc := ⟨.hbm, 361, rfl⟩
abbrev main_call9_v0 : Ref sig .tc := ⟨.hbm, 362, rfl⟩
abbrev main_call9_v1 : Ref sig .tc := ⟨.hbm, 363, rfl⟩
abbrev main_call9_v2 : Ref sig .tc := ⟨.hbm, 364, rfl⟩
abbrev main_call9_v3 : Ref sig .tc := ⟨.hbm, 365, rfl⟩
abbrev main_call9_v4 : Ref sig .tc := ⟨.hbm, 366, rfl⟩
abbrev main_v210 : Ref sig .tc := ⟨.hbm, 367, rfl⟩
abbrev main_v211 : Ref sig .tc := ⟨.hbm, 368, rfl⟩
abbrev main_c_66 : Ref sig .tc := ⟨.hbm, 369, rfl⟩
abbrev main_v212 : Ref sig .tc := ⟨.hbm, 370, rfl⟩
abbrev main_v213 : Ref sig .tc := ⟨.hbm, 371, rfl⟩
abbrev main_c_67 : Ref sig .tc := ⟨.hbm, 372, rfl⟩
abbrev main_v214 : Ref sig .tc := ⟨.hbm, 373, rfl⟩
abbrev main_v215 : Ref sig .tc := ⟨.hbm, 374, rfl⟩
abbrev main_v216 : Ref sig .tc := ⟨.hbm, 375, rfl⟩
abbrev main_c_68 : Ref sig .tc := ⟨.hbm, 376, rfl⟩
abbrev main_v217 : Ref sig .tc := ⟨.hbm, 377, rfl⟩
abbrev main_v218 : Ref sig .tc := ⟨.hbm, 378, rfl⟩
abbrev main_c_69 : Ref sig .tc := ⟨.hbm, 379, rfl⟩
abbrev main_v219 : Ref sig .tc := ⟨.hbm, 380, rfl⟩
abbrev main_v220 : Ref sig .tc := ⟨.hbm, 381, rfl⟩
abbrev main_v221 : Ref sig .tc := ⟨.hbm, 382, rfl⟩
abbrev main_v222 : Ref sig .tc := ⟨.hbm, 383, rfl⟩
abbrev main_v223 : Ref sig .tc := ⟨.hbm, 384, rfl⟩
abbrev main_v224 : Ref sig .tc := ⟨.hbm, 385, rfl⟩
abbrev main_v225 : Ref sig .tc := ⟨.hbm, 386, rfl⟩
abbrev main_v226 : Ref sig .tc := ⟨.hbm, 387, rfl⟩
abbrev main_v227 : Ref sig .tc := ⟨.hbm, 388, rfl⟩
abbrev main_v228 : Ref sig .tc := ⟨.hbm, 389, rfl⟩
abbrev main_v229 : Ref sig .tc := ⟨.hbm, 390, rfl⟩
abbrev main_v230 : Ref sig .tc := ⟨.hbm, 391, rfl⟩
abbrev main_v231 : Ref sig .tc := ⟨.hbm, 392, rfl⟩
abbrev main_v232 : Ref sig .tc := ⟨.hbm, 393, rfl⟩
abbrev main_v233 : Ref sig .tc := ⟨.hbm, 394, rfl⟩
abbrev main_cst_70 : Ref sig .tc := ⟨.hbm, 395, rfl⟩
abbrev main_v234 : Ref sig .tc := ⟨.hbm, 396, rfl⟩
abbrev main_v235 : Ref sig .tc := ⟨.hbm, 397, rfl⟩
abbrev main_cst_71 : Ref sig .tc := ⟨.hbm, 398, rfl⟩
abbrev main_v236 : Ref sig .tc := ⟨.hbm, 399, rfl⟩
abbrev main_v237 : Ref sig .tc := ⟨.hbm, 400, rfl⟩
abbrev main_v238 : Ref sig .tc := ⟨.hbm, 401, rfl⟩
abbrev main_v239 : Ref sig .tc := ⟨.hbm, 402, rfl⟩
abbrev main_cst_72 : Ref sig .tc := ⟨.hbm, 403, rfl⟩
abbrev main_v240 : Ref sig .tc := ⟨.hbm, 404, rfl⟩
abbrev main_v241 : Ref sig .tc := ⟨.hbm, 405, rfl⟩
abbrev main_cst_73 : Ref sig .tc := ⟨.hbm, 406, rfl⟩
abbrev main_v242 : Ref sig .tc := ⟨.hbm, 407, rfl⟩
abbrev main_v243 : Ref sig .tc := ⟨.hbm, 408, rfl⟩
abbrev main_cst_74 : Ref sig .tc := ⟨.hbm, 409, rfl⟩
abbrev main_v244 : Ref sig .tc := ⟨.hbm, 410, rfl⟩
abbrev main_v245 : Ref sig .tc := ⟨.hbm, 411, rfl⟩
abbrev main_cst_75 : Ref sig .tc := ⟨.hbm, 412, rfl⟩
abbrev main_v246 : Ref sig .tc := ⟨.hbm, 413, rfl⟩
abbrev main_v247 : Ref sig .tc := ⟨.hbm, 414, rfl⟩
abbrev main_v248 : Ref sig .tc := ⟨.hbm, 415, rfl⟩
abbrev main_v249 : Ref sig .tc := ⟨.hbm, 416, rfl⟩
abbrev main_cst_76 : Ref sig .tc := ⟨.hbm, 417, rfl⟩
abbrev main_v250 : Ref sig .tc := ⟨.hbm, 418, rfl⟩
abbrev main_v251 : Ref sig .tc := ⟨.hbm, 419, rfl⟩
abbrev main_cst_77 : Ref sig .tc := ⟨.hbm, 420, rfl⟩
abbrev main_v252 : Ref sig .tc := ⟨.hbm, 421, rfl⟩
abbrev main_v253 : Ref sig .tc := ⟨.hbm, 422, rfl⟩
abbrev main_cst_78 : Ref sig .tc := ⟨.hbm, 423, rfl⟩
abbrev main_v254 : Ref sig .tc := ⟨.hbm, 424, rfl⟩
abbrev main_v255 : Ref sig .tc := ⟨.hbm, 425, rfl⟩
abbrev main_cst_79 : Ref sig .tc := ⟨.hbm, 426, rfl⟩
abbrev main_v256 : Ref sig .tc := ⟨.hbm, 427, rfl⟩
abbrev main_v257 : Ref sig .tc := ⟨.hbm, 428, rfl⟩
abbrev main_v258 : Ref sig .tc := ⟨.hbm, 429, rfl⟩
abbrev main_v259 : Ref sig .tc := ⟨.hbm, 430, rfl⟩
abbrev main_cst_80 : Ref sig .tc := ⟨.hbm, 431, rfl⟩
abbrev main_v260 : Ref sig .tc := ⟨.hbm, 432, rfl⟩
abbrev main_v261 : Ref sig .tc := ⟨.hbm, 433, rfl⟩
abbrev main_cst_81 : Ref sig .tc := ⟨.hbm, 434, rfl⟩
abbrev main_v262 : Ref sig .tc := ⟨.hbm, 435, rfl⟩
abbrev main_v263 : Ref sig .tc := ⟨.hbm, 436, rfl⟩
abbrev main_v264 : Ref sig .tc := ⟨.hbm, 437, rfl⟩
abbrev main_cst_82 : Ref sig .tc := ⟨.hbm, 438, rfl⟩
abbrev main_v265 : Ref sig .tc := ⟨.hbm, 439, rfl⟩
abbrev main_v266 : Ref sig .tc := ⟨.hbm, 440, rfl⟩
abbrev main_v267 : Ref sig .tc := ⟨.hbm, 441, rfl⟩
abbrev main_cst_83 : Ref sig .tc := ⟨.hbm, 442, rfl⟩
abbrev main_v268 : Ref sig .tc := ⟨.hbm, 443, rfl⟩
abbrev main_v269 : Ref sig .tc := ⟨.hbm, 444, rfl⟩
abbrev main_cst_84 : Ref sig .tc := ⟨.hbm, 445, rfl⟩
abbrev main_v270 : Ref sig .tc := ⟨.hbm, 446, rfl⟩
abbrev main_v271 : Ref sig .tc := ⟨.hbm, 447, rfl⟩
abbrev main_cst_85 : Ref sig .tc := ⟨.hbm, 448, rfl⟩
abbrev main_v272 : Ref sig .tc := ⟨.hbm, 449, rfl⟩
abbrev main_v273 : Ref sig .tc := ⟨.hbm, 450, rfl⟩
abbrev main_v274 : Ref sig .tc := ⟨.hbm, 451, rfl⟩
abbrev main_cst_86 : Ref sig .tc := ⟨.hbm, 452, rfl⟩
abbrev main_v275 : Ref sig .tc := ⟨.hbm, 453, rfl⟩
abbrev main_v276 : Ref sig .tc := ⟨.hbm, 454, rfl⟩
abbrev main_v277 : Ref sig .tc := ⟨.hbm, 455, rfl⟩
abbrev main_cst_87 : Ref sig .tc := ⟨.hbm, 456, rfl⟩
abbrev main_v278 : Ref sig .tc := ⟨.hbm, 457, rfl⟩
abbrev main_v279 : Ref sig .tc := ⟨.hbm, 458, rfl⟩
abbrev main_v280 : Ref sig .tc := ⟨.hbm, 459, rfl⟩
abbrev main_v281 : Ref sig .tc := ⟨.hbm, 460, rfl⟩
abbrev main_c_88 : Ref sig .tc := ⟨.hbm, 461, rfl⟩
abbrev main_c_89 : Ref sig .tc := ⟨.hbm, 462, rfl⟩
abbrev main_call10_v0 : Ref sig .tc := ⟨.hbm, 463, rfl⟩
abbrev main_call10_v1 : Ref sig .tc := ⟨.hbm, 464, rfl⟩
abbrev main_call10_v2 : Ref sig .tc := ⟨.hbm, 465, rfl⟩
abbrev main_call10_v3 : Ref sig .tc := ⟨.hbm, 466, rfl⟩
abbrev main_call10_v4 : Ref sig .tc := ⟨.hbm, 467, rfl⟩
abbrev main_v282 : Ref sig .tc := ⟨.hbm, 468, rfl⟩
abbrev main_v283 : Ref sig .tc := ⟨.hbm, 469, rfl⟩
abbrev main_c_90 : Ref sig .tc := ⟨.hbm, 470, rfl⟩
abbrev main_c_91 : Ref sig .tc := ⟨.hbm, 471, rfl⟩
abbrev main_call11_v0 : Ref sig .tc := ⟨.hbm, 472, rfl⟩
abbrev main_call11_v1 : Ref sig .tc := ⟨.hbm, 473, rfl⟩
abbrev main_call11_v2 : Ref sig .tc := ⟨.hbm, 474, rfl⟩
abbrev main_call11_v3 : Ref sig .tc := ⟨.hbm, 475, rfl⟩
abbrev main_call11_v4 : Ref sig .tc := ⟨.hbm, 476, rfl⟩
abbrev main_v284 : Ref sig .tc := ⟨.hbm, 477, rfl⟩
abbrev main_v285 : Ref sig .tc := ⟨.hbm, 478, rfl⟩
abbrev main_c_92 : Ref sig .tc := ⟨.hbm, 479, rfl⟩
abbrev main_v286 : Ref sig .tc := ⟨.hbm, 480, rfl⟩
abbrev main_v287 : Ref sig .tc := ⟨.hbm, 481, rfl⟩
abbrev main_c_93 : Ref sig .tc := ⟨.hbm, 482, rfl⟩
abbrev main_v288 : Ref sig .tc := ⟨.hbm, 483, rfl⟩
abbrev main_v289 : Ref sig .tc := ⟨.hbm, 484, rfl⟩
abbrev main_v290 : Ref sig .tc := ⟨.hbm, 485, rfl⟩
abbrev main_c_94 : Ref sig .tc := ⟨.hbm, 486, rfl⟩
abbrev main_v291 : Ref sig .tc := ⟨.hbm, 487, rfl⟩
abbrev main_v292 : Ref sig .tc := ⟨.hbm, 488, rfl⟩
abbrev main_c_95 : Ref sig .tc := ⟨.hbm, 489, rfl⟩
abbrev main_v293 : Ref sig .tc := ⟨.hbm, 490, rfl⟩
abbrev main_v294 : Ref sig .tc := ⟨.hbm, 491, rfl⟩
abbrev main_v295 : Ref sig .tc := ⟨.hbm, 492, rfl⟩
abbrev main_v296 : Ref sig .tc := ⟨.hbm, 493, rfl⟩
abbrev main_v297 : Ref sig .tc := ⟨.hbm, 494, rfl⟩
abbrev main_v298 : Ref sig .tc := ⟨.hbm, 495, rfl⟩
abbrev main_v299 : Ref sig .tc := ⟨.hbm, 496, rfl⟩
abbrev main_v300 : Ref sig .tc := ⟨.hbm, 497, rfl⟩
abbrev main_v301 : Ref sig .tc := ⟨.hbm, 498, rfl⟩
abbrev main_v302 : Ref sig .tc := ⟨.hbm, 499, rfl⟩
abbrev main_v303 : Ref sig .tc := ⟨.hbm, 500, rfl⟩
abbrev main_v304 : Ref sig .tc := ⟨.hbm, 501, rfl⟩
abbrev main_v305 : Ref sig .tc := ⟨.hbm, 502, rfl⟩
abbrev main_v306 : Ref sig .tc := ⟨.hbm, 503, rfl⟩
abbrev main_cst_96 : Ref sig .tc := ⟨.hbm, 504, rfl⟩
abbrev main_v307 : Ref sig .tc := ⟨.hbm, 505, rfl⟩
abbrev main_v308 : Ref sig .tc := ⟨.hbm, 506, rfl⟩
abbrev main_cst_97 : Ref sig .tc := ⟨.hbm, 507, rfl⟩
abbrev main_v309 : Ref sig .tc := ⟨.hbm, 508, rfl⟩
abbrev main_v310 : Ref sig .tc := ⟨.hbm, 509, rfl⟩
abbrev main_v311 : Ref sig .tc := ⟨.hbm, 510, rfl⟩
abbrev main_cst_98 : Ref sig .tc := ⟨.hbm, 511, rfl⟩
abbrev main_v312 : Ref sig .tc := ⟨.hbm, 512, rfl⟩
abbrev main_v313 : Ref sig .tc := ⟨.hbm, 513, rfl⟩
abbrev main_v314 : Ref sig .tc := ⟨.hbm, 514, rfl⟩
abbrev main_cst_99 : Ref sig .tc := ⟨.hbm, 515, rfl⟩
abbrev main_v315 : Ref sig .tc := ⟨.hbm, 516, rfl⟩
abbrev main_v316 : Ref sig .tc := ⟨.hbm, 517, rfl⟩
abbrev main_v317 : Ref sig .tc := ⟨.hbm, 518, rfl⟩
abbrev main_v318 : Ref sig .tc := ⟨.hbm, 519, rfl⟩
abbrev main_c_100 : Ref sig .tc := ⟨.hbm, 520, rfl⟩
abbrev main_c_101 : Ref sig .tc := ⟨.hbm, 521, rfl⟩
abbrev main_call12_v0 : Ref sig .tc := ⟨.hbm, 522, rfl⟩
abbrev main_call12_v1 : Ref sig .tc := ⟨.hbm, 523, rfl⟩
abbrev main_call12_v2 : Ref sig .tc := ⟨.hbm, 524, rfl⟩
abbrev main_call12_v3 : Ref sig .tc := ⟨.hbm, 525, rfl⟩
abbrev main_call12_v4 : Ref sig .tc := ⟨.hbm, 526, rfl⟩
abbrev main_v319 : Ref sig .tc := ⟨.hbm, 527, rfl⟩
abbrev main_v320 : Ref sig .tc := ⟨.hbm, 528, rfl⟩
abbrev main_c_102 : Ref sig .tc := ⟨.hbm, 529, rfl⟩
abbrev main_c_103 : Ref sig .tc := ⟨.hbm, 530, rfl⟩
abbrev main_call13_v0 : Ref sig .tc := ⟨.hbm, 531, rfl⟩
abbrev main_call13_v1 : Ref sig .tc := ⟨.hbm, 532, rfl⟩
abbrev main_call13_v2 : Ref sig .tc := ⟨.hbm, 533, rfl⟩
abbrev main_call13_v3 : Ref sig .tc := ⟨.hbm, 534, rfl⟩
abbrev main_call13_v4 : Ref sig .tc := ⟨.hbm, 535, rfl⟩
abbrev main_v321 : Ref sig .tc := ⟨.hbm, 536, rfl⟩
abbrev main_v322 : Ref sig .tc := ⟨.hbm, 537, rfl⟩
abbrev main_c_104 : Ref sig .tc := ⟨.hbm, 538, rfl⟩
abbrev main_v323 : Ref sig .tc := ⟨.hbm, 539, rfl⟩
abbrev main_v324 : Ref sig .tc := ⟨.hbm, 540, rfl⟩
abbrev main_c_105 : Ref sig .tc := ⟨.hbm, 541, rfl⟩
abbrev main_v325 : Ref sig .tc := ⟨.hbm, 542, rfl⟩
abbrev main_v326 : Ref sig .tc := ⟨.hbm, 543, rfl⟩
abbrev main_v327 : Ref sig .tc := ⟨.hbm, 544, rfl⟩
abbrev main_c_106 : Ref sig .tc := ⟨.hbm, 545, rfl⟩
abbrev main_v328 : Ref sig .tc := ⟨.hbm, 546, rfl⟩
abbrev main_v329 : Ref sig .tc := ⟨.hbm, 547, rfl⟩
abbrev main_c_107 : Ref sig .tc := ⟨.hbm, 548, rfl⟩
abbrev main_v330 : Ref sig .tc := ⟨.hbm, 549, rfl⟩
abbrev main_v331 : Ref sig .tc := ⟨.hbm, 550, rfl⟩
abbrev main_v332 : Ref sig .tc := ⟨.hbm, 551, rfl⟩
abbrev main_v333 : Ref sig .tc := ⟨.hbm, 552, rfl⟩
abbrev main_v334 : Ref sig .tc := ⟨.hbm, 553, rfl⟩
abbrev main_v335 : Ref sig .tc := ⟨.hbm, 554, rfl⟩
abbrev main_v336 : Ref sig .tc := ⟨.hbm, 555, rfl⟩
abbrev main_v337 : Ref sig .tc := ⟨.hbm, 556, rfl⟩
abbrev main_v338 : Ref sig .tc := ⟨.hbm, 557, rfl⟩
abbrev main_v339 : Ref sig .tc := ⟨.hbm, 558, rfl⟩
abbrev main_v340 : Ref sig .tc := ⟨.hbm, 559, rfl⟩
abbrev main_v341 : Ref sig .tc := ⟨.hbm, 560, rfl⟩
abbrev main_v342 : Ref sig .tc := ⟨.hbm, 561, rfl⟩
abbrev main_v343 : Ref sig .tc := ⟨.hbm, 562, rfl⟩
abbrev main_v344 : Ref sig .tc := ⟨.hbm, 563, rfl⟩
abbrev main_cst_108 : Ref sig .tc := ⟨.hbm, 564, rfl⟩
abbrev main_v345 : Ref sig .tc := ⟨.hbm, 565, rfl⟩
abbrev main_v346 : Ref sig .tc := ⟨.hbm, 566, rfl⟩
abbrev main_cst_109 : Ref sig .tc := ⟨.hbm, 567, rfl⟩
abbrev main_v347 : Ref sig .tc := ⟨.hbm, 568, rfl⟩
abbrev main_v348 : Ref sig .tc := ⟨.hbm, 569, rfl⟩
abbrev main_v349 : Ref sig .tc := ⟨.hbm, 570, rfl⟩
abbrev main_cst_110 : Ref sig .tc := ⟨.hbm, 571, rfl⟩
abbrev main_v350 : Ref sig .tc := ⟨.hbm, 572, rfl⟩
abbrev main_v351 : Ref sig .tc := ⟨.hbm, 573, rfl⟩
abbrev main_v352 : Ref sig .tc := ⟨.hbm, 574, rfl⟩
abbrev main_cst_111 : Ref sig .tc := ⟨.hbm, 575, rfl⟩
abbrev main_v353 : Ref sig .tc := ⟨.hbm, 576, rfl⟩
abbrev main_v354 : Ref sig .tc := ⟨.hbm, 577, rfl⟩
abbrev main_v355 : Ref sig .tc := ⟨.hbm, 578, rfl⟩
abbrev main_v356 : Ref sig .tc := ⟨.hbm, 579, rfl⟩
abbrev main_c_112 : Ref sig .tc := ⟨.hbm, 580, rfl⟩
abbrev main_c_113 : Ref sig .tc := ⟨.hbm, 581, rfl⟩
abbrev main_call14_v0 : Ref sig .tc := ⟨.hbm, 582, rfl⟩
abbrev main_call14_v1 : Ref sig .tc := ⟨.hbm, 583, rfl⟩
abbrev main_call14_v2 : Ref sig .tc := ⟨.hbm, 584, rfl⟩
abbrev main_call14_v3 : Ref sig .tc := ⟨.hbm, 585, rfl⟩
abbrev main_call14_v4 : Ref sig .tc := ⟨.hbm, 586, rfl⟩
abbrev main_v357 : Ref sig .tc := ⟨.hbm, 587, rfl⟩
abbrev main_v358 : Ref sig .tc := ⟨.hbm, 588, rfl⟩
abbrev main_c_114 : Ref sig .tc := ⟨.hbm, 589, rfl⟩
abbrev main_c_115 : Ref sig .tc := ⟨.hbm, 590, rfl⟩
abbrev main_call15_v0 : Ref sig .tc := ⟨.hbm, 591, rfl⟩
abbrev main_call15_v1 : Ref sig .tc := ⟨.hbm, 592, rfl⟩
abbrev main_call15_v2 : Ref sig .tc := ⟨.hbm, 593, rfl⟩
abbrev main_call15_v3 : Ref sig .tc := ⟨.hbm, 594, rfl⟩
abbrev main_call15_v4 : Ref sig .tc := ⟨.hbm, 595, rfl⟩
abbrev main_v359 : Ref sig .tc := ⟨.hbm, 596, rfl⟩
abbrev main_v360 : Ref sig .tc := ⟨.hbm, 597, rfl⟩
abbrev main_c_116 : Ref sig .tc := ⟨.hbm, 598, rfl⟩
abbrev main_v361 : Ref sig .tc := ⟨.hbm, 599, rfl⟩
abbrev main_v362 : Ref sig .tc := ⟨.hbm, 600, rfl⟩
abbrev main_c_117 : Ref sig .tc := ⟨.hbm, 601, rfl⟩
abbrev main_v363 : Ref sig .tc := ⟨.hbm, 602, rfl⟩
abbrev main_v364 : Ref sig .tc := ⟨.hbm, 603, rfl⟩
abbrev main_v365 : Ref sig .tc := ⟨.hbm, 604, rfl⟩
abbrev main_c_118 : Ref sig .tc := ⟨.hbm, 605, rfl⟩
abbrev main_v366 : Ref sig .tc := ⟨.hbm, 606, rfl⟩
abbrev main_v367 : Ref sig .tc := ⟨.hbm, 607, rfl⟩
abbrev main_c_119 : Ref sig .tc := ⟨.hbm, 608, rfl⟩
abbrev main_v368 : Ref sig .tc := ⟨.hbm, 609, rfl⟩
abbrev main_v369 : Ref sig .tc := ⟨.hbm, 610, rfl⟩
abbrev main_v370 : Ref sig .tc := ⟨.hbm, 611, rfl⟩
abbrev main_v371 : Ref sig .tc := ⟨.hbm, 612, rfl⟩
abbrev main_v372 : Ref sig .tc := ⟨.hbm, 613, rfl⟩
abbrev main_v373 : Ref sig .tc := ⟨.hbm, 614, rfl⟩
abbrev main_v374 : Ref sig .tc := ⟨.hbm, 615, rfl⟩
abbrev main_v375 : Ref sig .tc := ⟨.hbm, 616, rfl⟩
abbrev main_v376 : Ref sig .tc := ⟨.hbm, 617, rfl⟩
abbrev main_v377 : Ref sig .tc := ⟨.hbm, 618, rfl⟩
abbrev main_v378 : Ref sig .tc := ⟨.hbm, 619, rfl⟩
abbrev main_v379 : Ref sig .tc := ⟨.hbm, 620, rfl⟩
abbrev main_v380 : Ref sig .tc := ⟨.hbm, 621, rfl⟩
abbrev main_v381 : Ref sig .tc := ⟨.hbm, 622, rfl⟩
abbrev main_v382 : Ref sig .tc := ⟨.hbm, 623, rfl⟩
abbrev main_cst_120 : Ref sig .tc := ⟨.hbm, 624, rfl⟩
abbrev main_v383 : Ref sig .tc := ⟨.hbm, 625, rfl⟩
abbrev main_v384 : Ref sig .tc := ⟨.hbm, 626, rfl⟩
abbrev main_cst_121 : Ref sig .tc := ⟨.hbm, 627, rfl⟩
abbrev main_v385 : Ref sig .tc := ⟨.hbm, 628, rfl⟩
abbrev main_v386 : Ref sig .tc := ⟨.hbm, 629, rfl⟩
abbrev main_v387 : Ref sig .tc := ⟨.hbm, 630, rfl⟩
abbrev main_cst_122 : Ref sig .tc := ⟨.hbm, 631, rfl⟩
abbrev main_v388 : Ref sig .tc := ⟨.hbm, 632, rfl⟩
abbrev main_v389 : Ref sig .tc := ⟨.hbm, 633, rfl⟩
abbrev main_v390 : Ref sig .tc := ⟨.hbm, 634, rfl⟩
abbrev main_cst_123 : Ref sig .tc := ⟨.hbm, 635, rfl⟩
abbrev main_v391 : Ref sig .tc := ⟨.hbm, 636, rfl⟩
abbrev main_v392 : Ref sig .tc := ⟨.hbm, 637, rfl⟩
abbrev main_v393 : Ref sig .tc := ⟨.hbm, 638, rfl⟩
abbrev main_v394 : Ref sig .tc := ⟨.hbm, 639, rfl⟩
abbrev main_c_124 : Ref sig .tc := ⟨.hbm, 640, rfl⟩
abbrev main_c_125 : Ref sig .tc := ⟨.hbm, 641, rfl⟩
abbrev main_call16_v0 : Ref sig .tc := ⟨.hbm, 642, rfl⟩
abbrev main_call16_v1 : Ref sig .tc := ⟨.hbm, 643, rfl⟩
abbrev main_call16_v2 : Ref sig .tc := ⟨.hbm, 644, rfl⟩
abbrev main_call16_v3 : Ref sig .tc := ⟨.hbm, 645, rfl⟩
abbrev main_call16_v4 : Ref sig .tc := ⟨.hbm, 646, rfl⟩
abbrev main_v395 : Ref sig .tc := ⟨.hbm, 647, rfl⟩
abbrev main_v396 : Ref sig .tc := ⟨.hbm, 648, rfl⟩
abbrev main_c_126 : Ref sig .tc := ⟨.hbm, 649, rfl⟩
abbrev main_c_127 : Ref sig .tc := ⟨.hbm, 650, rfl⟩
abbrev main_call17_v0 : Ref sig .tc := ⟨.hbm, 651, rfl⟩
abbrev main_call17_v1 : Ref sig .tc := ⟨.hbm, 652, rfl⟩
abbrev main_call17_v2 : Ref sig .tc := ⟨.hbm, 653, rfl⟩
abbrev main_call17_v3 : Ref sig .tc := ⟨.hbm, 654, rfl⟩
abbrev main_call17_v4 : Ref sig .tc := ⟨.hbm, 655, rfl⟩
abbrev main_v397 : Ref sig .tc := ⟨.hbm, 656, rfl⟩
abbrev main_v398 : Ref sig .tc := ⟨.hbm, 657, rfl⟩
abbrev main_c_128 : Ref sig .tc := ⟨.hbm, 658, rfl⟩
abbrev main_v399 : Ref sig .tc := ⟨.hbm, 659, rfl⟩
abbrev main_v400 : Ref sig .tc := ⟨.hbm, 660, rfl⟩
abbrev main_c_129 : Ref sig .tc := ⟨.hbm, 661, rfl⟩
abbrev main_v401 : Ref sig .tc := ⟨.hbm, 662, rfl⟩
abbrev main_v402 : Ref sig .tc := ⟨.hbm, 663, rfl⟩
abbrev main_v403 : Ref sig .tc := ⟨.hbm, 664, rfl⟩
abbrev main_c_130 : Ref sig .tc := ⟨.hbm, 665, rfl⟩
abbrev main_v404 : Ref sig .tc := ⟨.hbm, 666, rfl⟩
abbrev main_v405 : Ref sig .tc := ⟨.hbm, 667, rfl⟩
abbrev main_c_131 : Ref sig .tc := ⟨.hbm, 668, rfl⟩
abbrev main_v406 : Ref sig .tc := ⟨.hbm, 669, rfl⟩
abbrev main_v407 : Ref sig .tc := ⟨.hbm, 670, rfl⟩
abbrev main_v408 : Ref sig .tc := ⟨.hbm, 671, rfl⟩
abbrev main_v409 : Ref sig .tc := ⟨.hbm, 672, rfl⟩
abbrev main_v410 : Ref sig .tc := ⟨.hbm, 673, rfl⟩
abbrev main_v411 : Ref sig .tc := ⟨.hbm, 674, rfl⟩
abbrev main_v412 : Ref sig .tc := ⟨.hbm, 675, rfl⟩
abbrev main_v413 : Ref sig .tc := ⟨.hbm, 676, rfl⟩
abbrev main_v414 : Ref sig .tc := ⟨.hbm, 677, rfl⟩
abbrev main_v415 : Ref sig .tc := ⟨.hbm, 678, rfl⟩
abbrev main_v416 : Ref sig .tc := ⟨.hbm, 679, rfl⟩
abbrev main_v417 : Ref sig .tc := ⟨.hbm, 680, rfl⟩
abbrev main_v418 : Ref sig .tc := ⟨.hbm, 681, rfl⟩
abbrev main_v419 : Ref sig .tc := ⟨.hbm, 682, rfl⟩
abbrev main_v420 : Ref sig .tc := ⟨.hbm, 683, rfl⟩
abbrev main_v421 : Ref sig .tc := ⟨.hbm, 684, rfl⟩
abbrev main_v422 : Ref sig .tc := ⟨.hbm, 685, rfl⟩
abbrev main_v423 : Ref sig .tc := ⟨.hbm, 686, rfl⟩
abbrev main_v424 : Ref sig .tc := ⟨.hbm, 687, rfl⟩
abbrev main_v425 : Ref sig .tc := ⟨.hbm, 688, rfl⟩
abbrev main_v426 : Ref sig .tc := ⟨.hbm, 689, rfl⟩
abbrev main_call18_cst : Ref sig .tc := ⟨.hbm, 690, rfl⟩
abbrev main_call18_v0 : Ref sig .tc := ⟨.hbm, 691, rfl⟩
abbrev main_v427 : Ref sig .tc := ⟨.hbm, 692, rfl⟩
abbrev main_v428 : Ref sig .tc := ⟨.hbm, 693, rfl⟩
abbrev main_v429 : Ref sig .tc := ⟨.hbm, 694, rfl⟩
abbrev main_v430 : Ref sig .tc := ⟨.hbm, 695, rfl⟩
abbrev main_v431 : Ref sig .tc := ⟨.hbm, 696, rfl⟩
abbrev main_v432 : Ref sig .tc := ⟨.hbm, 697, rfl⟩
abbrev main_v433 : Ref sig .tc := ⟨.hbm, 698, rfl⟩
abbrev main_call19_cst : Ref sig .tc := ⟨.hbm, 699, rfl⟩
abbrev main_call19_v0 : Ref sig .tc := ⟨.hbm, 700, rfl⟩
abbrev main_v434 : Ref sig .tc := ⟨.hbm, 701, rfl⟩
abbrev main_v435 : Ref sig .tc := ⟨.hbm, 702, rfl⟩
abbrev main_v436 : Ref sig .tc := ⟨.hbm, 703, rfl⟩
abbrev main_v437 : Ref sig .tc := ⟨.hbm, 704, rfl⟩
abbrev main_v438 : Ref sig .tc := ⟨.hbm, 705, rfl⟩
abbrev main_v439 : Ref sig .tc := ⟨.hbm, 706, rfl⟩
abbrev main_v440 : Ref sig .tc := ⟨.hbm, 707, rfl⟩
abbrev main_call20_cst : Ref sig .tc := ⟨.hbm, 708, rfl⟩
abbrev main_call20_v0 : Ref sig .tc := ⟨.hbm, 709, rfl⟩
abbrev main_v441 : Ref sig .tc := ⟨.hbm, 710, rfl⟩
abbrev main_v442 : Ref sig .tc := ⟨.hbm, 711, rfl⟩
abbrev main_v443 : Ref sig .tc := ⟨.hbm, 712, rfl⟩
abbrev main_v444 : Ref sig .tc := ⟨.hbm, 713, rfl⟩
abbrev main_v445 : Ref sig .tc := ⟨.hbm, 714, rfl⟩
abbrev main_v446 : Ref sig .tc := ⟨.hbm, 715, rfl⟩
abbrev main_v447 : Ref sig .tc := ⟨.hbm, 716, rfl⟩
abbrev main_v448 : Ref sig .tc := ⟨.hbm, 717, rfl⟩

abbrev nD : Nat := 1
abbrev τ : Topo := Topo.v7x

variable {F : FTy → Type} [FloatOps F]
-- ==== Upsample.lean ====
abbrev S4x112x112x80 : Shape := ⟨4, ![4, 112, 112, 80]⟩
abbrev S4x112x8960 : Shape := ⟨3, ![4, 112, 8960]⟩
abbrev S4x224x8960 : Shape := ⟨3, ![4, 224, 8960]⟩
abbrev S1x112x4480 : Shape := ⟨3, ![1, 112, 4480]⟩
abbrev S1x224x4480 : Shape := ⟨3, ![1, 224, 4480]⟩
abbrev S112x4480 : Shape := ⟨2, ![112, 4480]⟩
abbrev S1x4480 : Shape := ⟨2, ![1, 4480]⟩
abbrev S111x4480 : Shape := ⟨2, ![111, 4480]⟩
abbrev S112x1x4480 : Shape := ⟨3, ![112, 1, 4480]⟩
abbrev S112x2x4480 : Shape := ⟨3, ![112, 2, 4480]⟩
abbrev S224x4480 : Shape := ⟨2, ![224, 4480]⟩
abbrev S4x224x17920 : Shape := ⟨3, ![4, 224, 17920]⟩
abbrev S1x56x8960 : Shape := ⟨3, ![1, 56, 8960]⟩
abbrev S1x56x17920 : Shape := ⟨3, ![1, 56, 17920]⟩
abbrev S56x8960 : Shape := ⟨2, ![56, 8960]⟩
abbrev S56x80 : Shape := ⟨2, ![56, 80]⟩
abbrev S56x8880 : Shape := ⟨2, ![56, 8880]⟩
abbrev S56x112x80 : Shape := ⟨3, ![56, 112, 80]⟩
abbrev S56x112x1x80 : Shape := ⟨4, ![56, 112, 1, 80]⟩
abbrev S56x112x2x80 : Shape := ⟨4, ![56, 112, 2, 80]⟩
abbrev S56x17920 : Shape := ⟨2, ![56, 17920]⟩
abbrev S4x224x224x80 : Shape := ⟨4, ![4, 224, 224, 80]⟩

abbrev nBuf : Space → Nat
  | .hbm => 5
  | .vmem => 8
  | .smem => 0
  | _ => 0

abbrev bufTy : (tb : Table) → Fin (tcTables nBuf tb) → BufTy
  | .hbm, ⟨0, _⟩ => ⟨S4x112x112x80, .f32⟩
  | .hbm, ⟨1, _⟩ => ⟨S4x112x8960, .f32⟩
  | .hbm, ⟨2, _⟩ => ⟨S4x224x8960, .f32⟩
  | .hbm, ⟨3, _⟩ => ⟨S4x224x17920, .f32⟩
  | .hbm, ⟨4, _⟩ => ⟨S4x224x224x80, .f32⟩
  | .local _ .vmem, ⟨0, _⟩ => ⟨S1x112x4480, .f32⟩
  | .local _ .vmem, ⟨1, _⟩ => ⟨S1x112x4480, .f32⟩
  | .local _ .vmem, ⟨2, _⟩ => ⟨S1x224x4480, .f32⟩
  | .local _ .vmem, ⟨3, _⟩ => ⟨S1x224x4480, .f32⟩
  | .local _ .vmem, ⟨4, _⟩ => ⟨S1x56x8960, .f32⟩
  | .local _ .vmem, ⟨5, _⟩ => ⟨S1x56x8960, .f32⟩
  | .local _ .vmem, ⟨6, _⟩ => ⟨S1x56x17920, .f32⟩
  | .local _ .vmem, ⟨7, _⟩ => ⟨S1x56x17920, .f32⟩
  | _, _ => ⟨S4x112x112x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x112x4480 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x224x4480 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x56x8960 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x56x17920 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]
-- ==== UpsampleIdeal.lean ====
abbrev S4x112x112x80 : Shape := ⟨4, ![4, 112, 112, 80]⟩
abbrev S4x112x8960 : Shape := ⟨3, ![4, 112, 8960]⟩
abbrev S4x224x8960 : Shape := ⟨3, ![4, 224, 8960]⟩
abbrev S1x112x4480 : Shape := ⟨3, ![1, 112, 4480]⟩
abbrev S1x224x4480 : Shape := ⟨3, ![1, 224, 4480]⟩
abbrev S112x4480 : Shape := ⟨2, ![112, 4480]⟩
abbrev S1x4480 : Shape := ⟨2, ![1, 4480]⟩
abbrev S111x4480 : Shape := ⟨2, ![111, 4480]⟩
abbrev S112x1x4480 : Shape := ⟨3, ![112, 1, 4480]⟩
abbrev S112x2x4480 : Shape := ⟨3, ![112, 2, 4480]⟩
abbrev S224x4480 : Shape := ⟨2, ![224, 4480]⟩
abbrev S4x224x17920 : Shape := ⟨3, ![4, 224, 17920]⟩
abbrev S1x56x8960 : Shape := ⟨3, ![1, 56, 8960]⟩
abbrev S1x56x17920 : Shape := ⟨3, ![1, 56, 17920]⟩
abbrev S56x8960 : Shape := ⟨2, ![56, 8960]⟩
abbrev S56x80 : Shape := ⟨2, ![56, 80]⟩
abbrev S56x8880 : Shape := ⟨2, ![56, 8880]⟩
abbrev S56x112x80 : Shape := ⟨3, ![56, 112, 80]⟩
abbrev S56x112x1x80 : Shape := ⟨4, ![56, 112, 1, 80]⟩
abbrev S56x112x2x80 : Shape := ⟨4, ![56, 112, 2, 80]⟩
abbrev S56x17920 : Shape := ⟨2, ![56, 17920]⟩
abbrev S4x224x224x80 : Shape := ⟨4, ![4, 224, 224, 80]⟩

abbrev nBuf : Space → Nat
  | .hbm => 5
  | .vmem => 8
  | .smem => 0
  | _ => 0

abbrev bufTy : (tb : Table) → Fin (tcTables nBuf tb) → BufTy
  | .hbm, ⟨0, _⟩ => ⟨S4x112x112x80, .f32⟩
  | .hbm, ⟨1, _⟩ => ⟨S4x112x8960, .f32⟩
  | .hbm, ⟨2, _⟩ => ⟨S4x224x8960, .f32⟩
  | .hbm, ⟨3, _⟩ => ⟨S4x224x17920, .f32⟩
  | .hbm, ⟨4, _⟩ => ⟨S4x224x224x80, .f32⟩
  | .local _ .vmem, ⟨0, _⟩ => ⟨S1x112x4480, .f32⟩
  | .local _ .vmem, ⟨1, _⟩ => ⟨S1x112x4480, .f32⟩
  | .local _ .vmem, ⟨2, _⟩ => ⟨S1x224x4480, .f32⟩
  | .local _ .vmem, ⟨3, _⟩ => ⟨S1x224x4480, .f32⟩
  | .local _ .vmem, ⟨4, _⟩ => ⟨S1x56x8960, .f32⟩
  | .local _ .vmem, ⟨5, _⟩ => ⟨S1x56x8960, .f32⟩
  | .local _ .vmem, ⟨6, _⟩ => ⟨S1x56x17920, .f32⟩
  | .local _ .vmem, ⟨7, _⟩ => ⟨S1x56x17920, .f32⟩
  | _, _ => ⟨S4x112x112x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x112x4480 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x224x4480 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x56x8960 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x56x17920 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]
-- ==== UpsampleRefIdeal.lean ====
abbrev S4x112x112x80 : Shape := ⟨4, ![4, 112, 112, 80]⟩
abbrev S4x80x112x112 : Shape := ⟨4, ![4, 80, 112, 112]⟩
abbrev S_ : Shape := ⟨0, ![]⟩
abbrev S224 : Shape := ⟨1, ![224]⟩
abbrev S112 : Shape := ⟨1, ![112]⟩
abbrev S1x224 : Shape := ⟨2, ![1, 224]⟩
abbrev S112x1 : Shape := ⟨2, ![112, 1]⟩
abbrev S112x224 : Shape := ⟨2, ![112, 224]⟩
abbrev S224x4x80x112 : Shape := ⟨4, ![224, 4, 80, 112]⟩
abbrev S224x4x80x224 : Shape := ⟨4, ![224, 4, 80, 224]⟩
abbrev S4x80x224x224 : Shape := ⟨4, ![4, 80, 224, 224]⟩
abbrev S4x224x224x80 : Shape := ⟨4, ![4, 224, 224, 80]⟩

abbrev nBuf : Space → Nat
  | .hbm => 134
  | .vmem => 0
  | .smem => 0
  | _ => 0

abbrev hbmTy0_0 (i : Nat) : BufTy := match i % 128 with
  | 0 => ⟨S4x112x112x80, .f32⟩
  | 1 => ⟨S4x80x112x112, .f32⟩
  | 2 => ⟨S_, .f32⟩
  | 3 => ⟨S_, .f32⟩
  | 4 => ⟨S_, .f32⟩
  | 5 => ⟨S224, .f32⟩
  | 6 => ⟨S_, .f32⟩
  | 7 => ⟨S224, .f32⟩
  | 8 => ⟨S224, .f32⟩
  | 9 => ⟨S_, .f32⟩
  | 10 => ⟨S224, .f32⟩
  | 11 => ⟨S224, .f32⟩
  | 12 => ⟨S_, .f32⟩
  | 13 => ⟨S224, .f32⟩
  | 14 => ⟨S224, .f32⟩
  | 15 => ⟨S_, .f32⟩
  | 16 => ⟨S224, .f32⟩
  | 17 => ⟨S224, .f32⟩
  | 18 => ⟨S112, .f32⟩
  | 19 => ⟨S1x224, .f32⟩
  | 20 => ⟨S112x1, .f32⟩
  | 21 => ⟨S112x224, .f32⟩
  | 22 => ⟨S112x224, .f32⟩
  | 23 => ⟨S112x224, .f32⟩
  | 24 => ⟨S112x224, .f32⟩
  | 25 => ⟨S_, .f32⟩
  | 26 => ⟨S112x224, .f32⟩
  | 27 => ⟨S112x224, .f32⟩
  | 28 => ⟨S112x224, .f32⟩
  | 29 => ⟨S_, .f32⟩
  | 30 => ⟨S112x224, .f32⟩
  | 31 => ⟨S112x224, .f32⟩
  | 32 => ⟨S_, .f32⟩
  | 33 => ⟨S112x224, .f32⟩
  | 34 => ⟨S112x224, .f32⟩
  | 35 => ⟨S_, .f32⟩
  | 36 => ⟨S224, .f32⟩
  | 37 => ⟨S1x224, .f32⟩
  | 38 => ⟨S1x224, .f32⟩
  | 39 => ⟨S_, .f32⟩
  | 40 => ⟨S1x224, .f32⟩
  | 41 => ⟨S1x224, .i1⟩
  | 42 => ⟨S_, .f32⟩
  | 43 => ⟨S1x224, .f32⟩
  | 44 => ⟨S1x224, .i1⟩
  | 45 => ⟨S_, .f32⟩
  | 46 => ⟨S1x224, .f32⟩
  | 47 => ⟨S1x224, .f32⟩
  | 48 => ⟨S112x224, .f32⟩
  | 49 => ⟨S112x224, .f32⟩
  | 50 => ⟨S112x224, .i1⟩
  | 51 => ⟨S_, .f32⟩
  | 52 => ⟨S112x224, .f32⟩
  | 53 => ⟨S112x224, .f32⟩
  | 54 => ⟨S_, .f32⟩
  | 55 => ⟨S224, .f32⟩
  | 56 => ⟨S224, .i1⟩
  | 57 => ⟨S_, .f32⟩
  | 58 => ⟨S224, .f32⟩
  | 59 => ⟨S224, .i1⟩
  | 60 => ⟨S224, .i1⟩
  | 61 => ⟨S1x224, .i1⟩
  | 62 => ⟨S112x224, .i1⟩
  | 63 => ⟨S_, .f32⟩
  | 64 => ⟨S112x224, .f32⟩
  | 65 => ⟨S112x224, .f32⟩
  | 66 => ⟨S_, .f32⟩
  | 67 => ⟨S_, .f32⟩
  | 68 => ⟨S_, .f32⟩
  | 69 => ⟨S224, .f32⟩
  | 70 => ⟨S_, .f32⟩
  | 71 => ⟨S224, .f32⟩
  | 72 => ⟨S224, .f32⟩
  | 73 => ⟨S_, .f32⟩
  | 74 => ⟨S224, .f32⟩
  | 75 => ⟨S224, .f32⟩
  | 76 => ⟨S_, .f32⟩
  | 77 => ⟨S224, .f32⟩
  | 78 => ⟨S224, .f32⟩
  | 79 => ⟨S_, .f32⟩
  | 80 => ⟨S224, .f32⟩
  | 81 => ⟨S224, .f32⟩
  | 82 => ⟨S112, .f32⟩
  | 83 => ⟨S1x224, .f32⟩
  | 84 => ⟨S112x1, .f32⟩
  | 85 => ⟨S112x224, .f32⟩
  | 86 => ⟨S112x224, .f32⟩
  | 87 => ⟨S112x224, .f32⟩
  | 88 => ⟨S112x224, .f32⟩
  | 89 => ⟨S_, .f32⟩
  | 90 => ⟨S112x224, .f32⟩
  | 91 => ⟨S112x224, .f32⟩
  | 92 => ⟨S112x224, .f32⟩
  | 93 => ⟨S_, .f32⟩
  | 94 => ⟨S112x224, .f32⟩
  | 95 => ⟨S112x224, .f32⟩
  | 96 => ⟨S_, .f32⟩
  | 97 => ⟨S112x224, .f32⟩
  | 98 => ⟨S112x224, .f32⟩
  | 99 => ⟨S_, .f32⟩
  | 100 => ⟨S224, .f32⟩
  | 101 => ⟨S1x224, .f32⟩
  | 102 => ⟨S1x224, .f32⟩
  | 103 => ⟨S_, .f32⟩
  | 104 => ⟨S1x224, .f32⟩
  | 105 => ⟨S1x224, .i1⟩
  | 106 => ⟨S_, .f32⟩
  | 107 => ⟨S1x224, .f32⟩
  | 108 => ⟨S1x224, .i1⟩
  | 109 => ⟨S_, .f32⟩
  | 110 => ⟨S1x224, .f32⟩
  | 111 => ⟨S1x224, .f32⟩
  | 112 => ⟨S112x224, .f32⟩
  | 113 => ⟨S112x224, .f32⟩
  | 114 => ⟨S112x224, .i1⟩
  | 115 => ⟨S_, .f32⟩
  | 116 => ⟨S112x224, .f32⟩
  | 117 => ⟨S112x224, .f32⟩
  | 118 => ⟨S_, .f32⟩
  | 119 => ⟨S224, .f32⟩
  | 120 => ⟨S224, .i1⟩
  | 121 => ⟨S_, .f32⟩
  | 122 => ⟨S224, .f32⟩
  | 123 => ⟨S224, .i1⟩
  | 124 => ⟨S224, .i1⟩
  | 125 => ⟨S1x224, .i1⟩
  | 126 => ⟨S112x224, .i1⟩
  | 127 => ⟨S_, .f32⟩
  | _ => ⟨S4x112x112x80, .f32⟩

abbrev hbmTy0_1 (i : Nat) : BufTy := match i % 128 with
  | 0 => ⟨S112x224, .f32⟩
  | 1 => ⟨S112x224, .f32⟩
  | 2 => ⟨S224x4x80x112, .f32⟩
  | 3 => ⟨S224x4x80x224, .f32⟩
  | 4 => ⟨S4x80x224x224, .f32⟩
  | 5 => ⟨S4x224x224x80, .f32⟩
  | _ => ⟨S4x112x112x80, .f32⟩

abbrev hbmTy (i : Nat) : BufTy := match i / 128 with
  | 0 => hbmTy0_0 i
  | 1 => hbmTy0_1 i
  | _ => ⟨S4x112x112x80, .f32⟩

abbrev bufTy : (tb : Table) → Fin (tcTables nBuf tb) → BufTy
  | .hbm, ⟨i, _⟩ => hbmTy i
  | _, _ => ⟨S4x112x112x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_cst_2 : Ref sig .tc := ⟨.hbm, 9, rfl⟩
abbrev main_v5 : Ref sig .tc := ⟨.hbm, 10, rfl⟩
abbrev main_v6 : Ref sig .tc := ⟨.hbm, 11, rfl⟩
abbrev main_cst_3 : Ref sig .tc := ⟨.hbm, 12, rfl⟩
abbrev main_v7 : Ref sig .tc := ⟨.hbm, 13, rfl⟩
abbrev main_v8 : Ref sig .tc := ⟨.hbm, 14, rfl⟩
abbrev main_cst_4 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_5 : Ref sig .tc := ⟨.hbm, 29, rfl⟩
abbrev main_v22 : Ref sig .tc := ⟨.hbm, 30, rfl⟩
abbrev main_v23 : Ref sig .tc := ⟨.hbm, 31, rfl⟩
abbrev main_cst_6 : Ref sig .tc := ⟨.hbm, 32, rfl⟩
abbrev main_v24 : Ref sig .tc := ⟨.hbm, 33, rfl⟩
abbrev main_v25 : Ref sig .tc := ⟨.hbm, 34, rfl⟩
abbrev main_cst_7 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_8 : Ref sig .tc := ⟨.hbm, 39, rfl⟩
abbrev main_v29 : Ref sig .tc := ⟨.hbm, 40, rfl⟩
abbrev main_v30 : Ref sig .tc := ⟨.hbm, 41, rfl⟩
abbrev main_cst_9 : Ref sig .tc := ⟨.hbm, 42, rfl⟩
abbrev main_v31 : Ref sig .tc := ⟨.hbm, 43, rfl⟩
abbrev main_v32 : Ref sig .tc := ⟨.hbm, 44, rfl⟩
abbrev main_cst_10 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_11 : Ref sig .tc := ⟨.hbm, 51, rfl⟩
abbrev main_v38 : Ref sig .tc := ⟨.hbm, 52, rfl⟩
abbrev main_v39 : Ref sig .tc := ⟨.hbm, 53, rfl⟩
abbrev main_cst_12 : Ref sig .tc := ⟨.hbm, 54, rfl⟩
abbrev main_v40 : Ref sig .tc := ⟨.hbm, 55, rfl⟩
abbrev main_v41 : Ref sig .tc := ⟨.hbm, 56, rfl⟩
abbrev main_cst_13 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_14 : Ref sig .tc := ⟨.hbm, 63, rfl⟩
abbrev main_v47 : Ref sig .tc := ⟨.hbm, 64, rfl⟩
abbrev main_v48 : Ref sig .tc := ⟨.hbm, 65, rfl⟩
abbrev main_cst_15 : Ref sig .tc := ⟨.hbm, 66, rfl⟩
abbrev main_cst_16 : Ref sig .tc := ⟨.hbm, 67, rfl⟩
abbrev main_v49 : Ref sig .tc := ⟨.hbm, 68, rfl⟩
abbrev main_v50 : Ref sig .tc := ⟨.hbm, 69, rfl⟩
abbrev main_cst_17 : Ref sig .tc := ⟨.hbm, 70, rfl⟩
abbrev main_v51 : Ref sig .tc := ⟨.hbm, 71, rfl⟩
abbrev main_v52 : Ref sig .tc := ⟨.hbm, 72, rfl⟩
abbrev main_cst_18 : Ref sig .tc := ⟨.hbm, 73, rfl⟩
abbrev main_v53 : Ref sig .tc := ⟨.hbm, 74, rfl⟩
abbrev main_v54 : Ref sig .tc := ⟨.hbm, 75, rfl⟩
abbrev main_cst_19 : Ref sig .tc := ⟨.hbm, 76, rfl⟩
abbrev main_v55 : Ref sig .tc := ⟨.hbm, 77, rfl⟩
abbrev main_v56 : Ref sig .tc := ⟨.hbm, 78, rfl⟩
abbrev main_cst_20 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_21 : Ref sig .tc := ⟨.hbm, 93, rfl⟩
abbrev main_v70 : Ref sig .tc := ⟨.hbm, 94, rfl⟩
abbrev main_v71 : Ref sig .tc := ⟨.hbm, 95, rfl⟩
abbrev main_cst_22 : Ref sig .tc := ⟨.hbm, 96, rfl⟩
abbrev main_v72 : Ref sig .tc := ⟨.hbm, 97, rfl⟩
abbrev main_v73 : Ref sig .tc := ⟨.hbm, 98, rfl⟩
abbrev main_cst_23 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_24 : Ref sig .tc := ⟨.hbm, 103, rfl⟩
abbrev main_v77 : Ref sig .tc := ⟨.hbm, 104, rfl⟩
abbrev main_v78 : Ref sig .tc := ⟨.hbm, 105, rfl⟩
abbrev main_cst_25 : Ref sig .tc := ⟨.hbm, 106, rfl⟩
abbrev main_v79 : Ref sig .tc := ⟨.hbm, 107, rfl⟩
abbrev main_v80 : Ref sig .tc := ⟨.hbm, 108, rfl⟩
abbrev main_cst_26 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_27 : Ref sig .tc := ⟨.hbm, 115, rfl⟩
abbrev main_v86 : Ref sig .tc := ⟨.hbm, 116, rfl⟩
abbrev main_v87 : Ref sig .tc := ⟨.hbm, 117, rfl⟩
abbrev main_cst_28 : Ref sig .tc := ⟨.hbm, 118, rfl⟩
abbrev main_v88 : Ref sig .tc := ⟨.hbm, 119, rfl⟩
abbrev main_v89 : Ref sig .tc := ⟨.hbm, 120, rfl⟩
abbrev main_cst_29 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_cst_30 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩

abbrev nD : Nat := 1
abbrev τ : Topo := Topo.v7x

variable {F : FTy → Type} [FloatOps F]
-- ==== Middle.lean ====
abbrev S4x56x56x80 : Shape := ⟨4, ![4, 56, 56, 80]⟩
abbrev S4x56x4480 : Shape := ⟨3, ![4, 56, 4480]⟩
abbrev S4x112x4480 : Shape := ⟨3, ![4, 112, 4480]⟩
abbrev S1x56x4480 : Shape := ⟨3, ![1, 56, 4480]⟩
abbrev S1x112x4480 : Shape := ⟨3, ![1, 112, 4480]⟩
abbrev S56x4480 : Shape := ⟨2, ![56, 4480]⟩
abbrev S1x4480 : Shape := ⟨2, ![1, 4480]⟩
abbrev S55x4480 : Shape := ⟨2, ![55, 4480]⟩
abbrev S56x1x4480 : Shape := ⟨3, ![56, 1, 4480]⟩
abbrev S56x2x4480 : Shape := ⟨3, ![56, 2, 4480]⟩
abbrev S112x4480 : Shape := ⟨2, ![112, 4480]⟩
abbrev S4x112x8960 : Shape := ⟨3, ![4, 112, 8960]⟩
abbrev S1x56x8960 : Shape := ⟨3, ![1, 56, 8960]⟩
abbrev S56x80 : Shape := ⟨2, ![56, 80]⟩
abbrev S56x4400 : Shape := ⟨2, ![56, 4400]⟩
abbrev S56x56x80 : Shape := ⟨3, ![56, 56, 80]⟩
abbrev S56x56x1x80 : Shape := ⟨4, ![56, 56, 1, 80]⟩
abbrev S56x56x2x80 : Shape := ⟨4, ![56, 56, 2, 80]⟩
abbrev S56x8960 : Shape := ⟨2, ![56, 8960]⟩
abbrev S4x112x112x80 : Shape := ⟨4, ![4, 112, 112, 80]⟩

abbrev nBuf : Space → Nat
  | .hbm => 5
  | .vmem => 8
  | .smem => 0
  | _ => 0

abbrev bufTy : (tb : Table) → Fin (tcTables nBuf tb) → BufTy
  | .hbm, ⟨0, _⟩ => ⟨S4x56x56x80, .f32⟩
  | .hbm, ⟨1, _⟩ => ⟨S4x56x4480, .f32⟩
  | .hbm, ⟨2, _⟩ => ⟨S4x112x4480, .f32⟩
  | .hbm, ⟨3, _⟩ => ⟨S4x112x8960, .f32⟩
  | .hbm, ⟨4, _⟩ => ⟨S4x112x112x80, .f32⟩
  | .local _ .vmem, ⟨0, _⟩ => ⟨S1x56x4480, .f32⟩
  | .local _ .vmem, ⟨1, _⟩ => ⟨S1x56x4480, .f32⟩
  | .local _ .vmem, ⟨2, _⟩ => ⟨S1x112x4480, .f32⟩
  | .local _ .vmem, ⟨3, _⟩ => ⟨S1x112x4480, .f32⟩
  | .local _ .vmem, ⟨4, _⟩ => ⟨S1x56x4480, .f32⟩
  | .local _ .vmem, ⟨5, _⟩ => ⟨S1x56x4480, .f32⟩
  | .local _ .vmem, ⟨6, _⟩ => ⟨S1x56x8960, .f32⟩
  | .local _ .vmem, ⟨7, _⟩ => ⟨S1x56x8960, .f32⟩
  | _, _ => ⟨S4x56x56x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x56x4480 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x112x4480 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![4, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x56x4480 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x56x8960 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]
-- ==== MiddleRefIdeal.lean ====
abbrev S4x56x56x80 : Shape := ⟨4, ![4, 56, 56, 80]⟩
abbrev S4x80x56x56 : Shape := ⟨4, ![4, 80, 56, 56]⟩
abbrev S_ : Shape := ⟨0, ![]⟩
abbrev S112 : Shape := ⟨1, ![112]⟩
abbrev S56 : Shape := ⟨1, ![56]⟩
abbrev S1x112 : Shape := ⟨2, ![1, 112]⟩
abbrev S56x1 : Shape := ⟨2, ![56, 1]⟩
abbrev S56x112 : Shape := ⟨2, ![56, 112]⟩
abbrev S112x4x80x56 : Shape := ⟨4, ![112, 4, 80, 56]⟩
abbrev S112x4x80x112 : Shape := ⟨4, ![112, 4, 80, 112]⟩
abbrev S4x80x112x112 : Shape := ⟨4, ![4, 80, 112, 112]⟩
abbrev S4x112x112x80 : Shape := ⟨4, ![4, 112, 112, 80]⟩

abbrev nBuf : Space → Nat
  | .hbm => 134
  | .vmem => 0
  | .smem => 0
  | _ => 0

abbrev hbmTy0_0 (i : Nat) : BufTy := match i % 128 with
  | 0 => ⟨S4x56x56x80, .f32⟩
  | 1 => ⟨S4x80x56x56, .f32⟩
  | 2 => ⟨S_, .f32⟩
  | 3 => ⟨S_, .f32⟩
  | 4 => ⟨S_, .f32⟩
  | 5 => ⟨S112, .f32⟩
  | 6 => ⟨S_, .f32⟩
  | 7 => ⟨S112, .f32⟩
  | 8 => ⟨S112, .f32⟩
  | 9 => ⟨S_, .f32⟩
  | 10 => ⟨S112, .f32⟩
  | 11 => ⟨S112, .f32⟩
  | 12 => ⟨S_, .f32⟩
  | 13 => ⟨S112, .f32⟩
  | 14 => ⟨S112, .f32⟩
  | 15 => ⟨S_, .f32⟩
  | 16 => ⟨S112, .f32⟩
  | 17 => ⟨S112, .f32⟩
  | 18 => ⟨S56, .f32⟩
  | 19 => ⟨S1x112, .f32⟩
  | 20 => ⟨S56x1, .f32⟩
  | 21 => ⟨S56x112, .f32⟩
  | 22 => ⟨S56x112, .f32⟩
  | 23 => ⟨S56x112, .f32⟩
  | 24 => ⟨S56x112, .f32⟩
  | 25 => ⟨S_, .f32⟩
  | 26 => ⟨S56x112, .f32⟩
  | 27 => ⟨S56x112, .f32⟩
  | 28 => ⟨S56x112, .f32⟩
  | 29 => ⟨S_, .f32⟩
  | 30 => ⟨S56x112, .f32⟩
  | 31 => ⟨S56x112, .f32⟩
  | 32 => ⟨S_, .f32⟩
  | 33 => ⟨S56x112, .f32⟩
  | 34 => ⟨S56x112, .f32⟩
  | 35 => ⟨S_, .f32⟩
  | 36 => ⟨S112, .f32⟩
  | 37 => ⟨S1x112, .f32⟩
  | 38 => ⟨S1x112, .f32⟩
  | 39 => ⟨S_, .f32⟩
  | 40 => ⟨S1x112, .f32⟩
  | 41 => ⟨S1x112, .i1⟩
  | 42 => ⟨S_, .f32⟩
  | 43 => ⟨S1x112, .f32⟩
  | 44 => ⟨S1x112, .i1⟩
  | 45 => ⟨S_, .f32⟩
  | 46 => ⟨S1x112, .f32⟩
  | 47 => ⟨S1x112, .f32⟩
  | 48 => ⟨S56x112, .f32⟩
  | 49 => ⟨S56x112, .f32⟩
  | 50 => ⟨S56x112, .i1⟩
  | 51 => ⟨S_, .f32⟩
  | 52 => ⟨S56x112, .f32⟩
  | 53 => ⟨S56x112, .f32⟩
  | 54 => ⟨S_, .f32⟩
  | 55 => ⟨S112, .f32⟩
  | 56 => ⟨S112, .i1⟩
  | 57 => ⟨S_, .f32⟩
  | 58 => ⟨S112, .f32⟩
  | 59 => ⟨S112, .i1⟩
  | 60 => ⟨S112, .i1⟩
  | 61 => ⟨S1x112, .i1⟩
  | 62 => ⟨S56x112, .i1⟩
  | 63 => ⟨S_, .f32⟩
  | 64 => ⟨S56x112, .f32⟩
  | 65 => ⟨S56x112, .f32⟩
  | 66 => ⟨S_, .f32⟩
  | 67 => ⟨S_, .f32⟩
  | 68 => ⟨S_, .f32⟩
  | 69 => ⟨S112, .f32⟩
  | 70 => ⟨S_, .f32⟩
  | 71 => ⟨S112, .f32⟩
  | 72 => ⟨S112, .f32⟩
  | 73 => ⟨S_, .f32⟩
  | 74 => ⟨S112, .f32⟩
  | 75 => ⟨S112, .f32⟩
  | 76 => ⟨S_, .f32⟩
  | 77 => ⟨S112, .f32⟩
  | 78 => ⟨S112, .f32⟩
  | 79 => ⟨S_, .f32⟩
  | 80 => ⟨S112, .f32⟩
  | 81 => ⟨S112, .f32⟩
  | 82 => ⟨S56, .f32⟩
  | 83 => ⟨S1x112, .f32⟩
  | 84 => ⟨S56x1, .f32⟩
  | 85 => ⟨S56x112, .f32⟩
  | 86 => ⟨S56x112, .f32⟩
  | 87 => ⟨S56x112, .f32⟩
  | 88 => ⟨S56x112, .f32⟩
  | 89 => ⟨S_, .f32⟩
  | 90 => ⟨S56x112, .f32⟩
  | 91 => ⟨S56x112, .f32⟩
  | 92 => ⟨S56x112, .f32⟩
  | 93 => ⟨S_, .f32⟩
  | 94 => ⟨S56x112, .f32⟩
  | 95 => ⟨S56x112, .f32⟩
  | 96 => ⟨S_, .f32⟩
  | 97 => ⟨S56x112, .f32⟩
  | 98 => ⟨S56x112, .f32⟩
  | 99 => ⟨S_, .f32⟩
  | 100 => ⟨S112, .f32⟩
  | 101 => ⟨S1x112, .f32⟩
  | 102 => ⟨S1x112, .f32⟩
  | 103 => ⟨S_, .f32⟩
  | 104 => ⟨S1x112, .f32⟩
  | 105 => ⟨S1x112, .i1⟩
  | 106 => ⟨S_, .f32⟩
  | 107 => ⟨S1x112, .f32⟩
  | 108 => ⟨S1x112, .i1⟩
  | 109 => ⟨S_, .f32⟩
  | 110 => ⟨S1x112, .f32⟩
  | 111 => ⟨S1x112, .f32⟩
  | 112 => ⟨S56x112, .f32⟩
  | 113 => ⟨S56x112, .f32⟩
  | 114 => ⟨S56x112, .i1⟩
  | 115 => ⟨S_, .f32⟩
  | 116 => ⟨S56x112, .f32⟩
  | 117 => ⟨S56x112, .f32⟩
  | 118 => ⟨S_, .f32⟩
  | 119 => ⟨S112, .f32⟩
  | 120 => ⟨S112, .i1⟩
  | 121 => ⟨S_, .f32⟩
  | 122 => ⟨S112, .f32⟩
  | 123 => ⟨S112, .i1⟩
  | 124 => ⟨S112, .i1⟩
  | 125 => ⟨S1x112, .i1⟩
  | 126 => ⟨S56x112, .i1⟩
  | 127 => ⟨S_, .f32⟩
  | _ => ⟨S4x56x56x80, .f32⟩

abbrev hbmTy0_1 (i : Nat) : BufTy := match i % 128 with
  | 0 => ⟨S56x112, .f32⟩
  | 1 => ⟨S56x112, .f32⟩
  | 2 => ⟨S112x4x80x56, .f32⟩
  | 3 => ⟨S112x4x80x112, .f32⟩
  | 4 => ⟨S4x80x112x112, .f32⟩
  | 5 => ⟨S4x112x112x80, .f32⟩
  | _ => ⟨S4x56x56x80, .f32⟩

abbrev hbmTy (i : Nat) : BufTy := match i / 128 with
  | 0 => hbmTy0_0 i
  | 1 => hbmTy0_1 i
  | _ => ⟨S4x56x56x80, .f32⟩

abbrev bufTy : (tb : Table) → Fin (tcTables nBuf tb) → BufTy
  | .hbm, ⟨i, _⟩ => hbmTy i
  | _, _ => ⟨S4x56x56x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_cst_2 : Ref sig .tc := ⟨.hbm, 9, rfl⟩
abbrev main_v5 : Ref sig .tc := ⟨.hbm, 10, rfl⟩
abbrev main_v6 : Ref sig .tc := ⟨.hbm, 11, rfl⟩
abbrev main_cst_3 : Ref sig .tc := ⟨.hbm, 12, rfl⟩
abbrev main_v7 : Ref sig .tc := ⟨.hbm, 13, rfl⟩
abbrev main_v8 : Ref sig .tc := ⟨.hbm, 14, rfl⟩
abbrev main_cst_4 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_5 : Ref sig .tc := ⟨.hbm, 29, rfl⟩
abbrev main_v22 : Ref sig .tc := ⟨.hbm, 30, rfl⟩
abbrev main_v23 : Ref sig .tc := ⟨.hbm, 31, rfl⟩
abbrev main_cst_6 : Ref sig .tc := ⟨.hbm, 32, rfl⟩
abbrev main_v24 : Ref sig .tc := ⟨.hbm, 33, rfl⟩
abbrev main_v25 : Ref sig .tc := ⟨.hbm, 34, rfl⟩
abbrev main_cst_7 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_8 : Ref sig .tc := ⟨.hbm, 39, rfl⟩
abbrev main_v29 : Ref sig .tc := ⟨.hbm, 40, rfl⟩
abbrev main_v30 : Ref sig .tc := ⟨.hbm, 41, rfl⟩
abbrev main_cst_9 : Ref sig .tc := ⟨.hbm, 42, rfl⟩
abbrev main_v31 : Ref sig .tc := ⟨.hbm, 43, rfl⟩
abbrev main_v32 : Ref sig .tc := ⟨.hbm, 44, rfl⟩
abbrev main_cst_10 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_11 : Ref sig .tc := ⟨.hbm, 51, rfl⟩
abbrev main_v38 : Ref sig .tc := ⟨.hbm, 52, rfl⟩
abbrev main_v39 : Ref sig .tc := ⟨.hbm, 53, rfl⟩
abbrev main_cst_12 : Ref sig .tc := ⟨.hbm, 54, rfl⟩
abbrev main_v40 : Ref sig .tc := ⟨.hbm, 55, rfl⟩
abbrev main_v41 : Ref sig .tc := ⟨.hbm, 56, rfl⟩
abbrev main_cst_13 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_14 : Ref sig .tc := ⟨.hbm, 63, rfl⟩
abbrev main_v47 : Ref sig .tc := ⟨.hbm, 64, rfl⟩
abbrev main_v48 : Ref sig .tc := ⟨.hbm, 65, rfl⟩
abbrev main_cst_15 : Ref sig .tc := ⟨.hbm, 66, rfl⟩
abbrev main_cst_16 : Ref sig .tc := ⟨.hbm, 67, rfl⟩
abbrev main_v49 : Ref sig .tc := ⟨.hbm, 68, rfl⟩
abbrev main_v50 : Ref sig .tc := ⟨.hbm, 69, rfl⟩
abbrev main_cst_17 : Ref sig .tc := ⟨.hbm, 70, rfl⟩
abbrev main_v51 : Ref sig .tc := ⟨.hbm, 71, rfl⟩
abbrev main_v52 : Ref sig .tc := ⟨.hbm, 72, rfl⟩
abbrev main_cst_18 : Ref sig .tc := ⟨.hbm, 73, rfl⟩
abbrev main_v53 : Ref sig .tc := ⟨.hbm, 74, rfl⟩
abbrev main_v54 : Ref sig .tc := ⟨.hbm, 75, rfl⟩
abbrev main_cst_19 : Ref sig .tc := ⟨.hbm, 76, rfl⟩
abbrev main_v55 : Ref sig .tc := ⟨.hbm, 77, rfl⟩
abbrev main_v56 : Ref sig .tc := ⟨.hbm, 78, rfl⟩
abbrev main_cst_20 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_21 : Ref sig .tc := ⟨.hbm, 93, rfl⟩
abbrev main_v70 : Ref sig .tc := ⟨.hbm, 94, rfl⟩
abbrev main_v71 : Ref sig .tc := ⟨.hbm, 95, rfl⟩
abbrev main_cst_22 : Ref sig .tc := ⟨.hbm, 96, rfl⟩
abbrev main_v72 : Ref sig .tc := ⟨.hbm, 97, rfl⟩
abbrev main_v73 : Ref sig .tc := ⟨.hbm, 98, rfl⟩
abbrev main_cst_23 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_24 : Ref sig .tc := ⟨.hbm, 103, rfl⟩
abbrev main_v77 : Ref sig .tc := ⟨.hbm, 104, rfl⟩
abbrev main_v78 : Ref sig .tc := ⟨.hbm, 105, rfl⟩
abbrev main_cst_25 : Ref sig .tc := ⟨.hbm, 106, rfl⟩
abbrev main_v79 : Ref sig .tc := ⟨.hbm, 107, rfl⟩
abbrev main_v80 : Ref sig .tc := ⟨.hbm, 108, rfl⟩
abbrev main_cst_26 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_27 : Ref sig .tc := ⟨.hbm, 115, rfl⟩
abbrev main_v86 : Ref sig .tc := ⟨.hbm, 116, rfl⟩
abbrev main_v87 : Ref sig .tc := ⟨.hbm, 117, rfl⟩
abbrev main_cst_28 : Ref sig .tc := ⟨.hbm, 118, rfl⟩
abbrev main_v88 : Ref sig .tc := ⟨.hbm, 119, rfl⟩
abbrev main_v89 : Ref sig .tc := ⟨.hbm, 120, rfl⟩
abbrev main_cst_29 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_cst_30 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩

abbrev nD : Nat := 1
abbrev τ : Topo := Topo.v7x

variable {F : FTy → Type} [FloatOps F]
-- ==== Finish.lean ====
abbrev S4x224x224x80 : Shape := ⟨4, ![4, 224, 224, 80]⟩
abbrev S4x784 : Shape := ⟨2, ![4, 784]⟩
abbrev S4x784x80 : Shape := ⟨3, ![4, 784, 80]⟩
abbrev S4x50176x80 : Shape := ⟨3, ![4, 50176, 80]⟩
abbrev S4 : Shape := ⟨1, ![4]⟩
abbrev S4x1 : Shape := ⟨2, ![4, 1]⟩
abbrev S_ : Shape := ⟨0, ![]⟩
abbrev S4x784x1 : Shape := ⟨3, ![4, 784, 1]⟩
abbrev S4x784x2 : Shape := ⟨3, ![4, 784, 2]⟩
abbrev S4x80x224x224 : Shape := ⟨4, ![4, 80, 224, 224]⟩
abbrev S1x56x224x80 : Shape := ⟨4, ![1, 56, 224, 80]⟩
abbrev S1x80x56x224 : Shape := ⟨4, ![1, 80, 56, 224]⟩
abbrev S56x224x80 : Shape := ⟨3, ![56, 224, 80]⟩
abbrev S12544x80 : Shape := ⟨2, ![12544, 80]⟩
abbrev S80x12544 : Shape := ⟨2, ![80, 12544]⟩
abbrev S80x56x224 : Shape := ⟨3, ![80, 56, 224]⟩

abbrev nBuf : Space → Nat
  | .hbm => 27
  | .vmem => 4
  | .smem => 0
  | _ => 0

abbrev bufTy : (tb : Table) → Fin (tcTables nBuf tb) → BufTy
  | .hbm, ⟨0, _⟩ => ⟨S4x224x224x80, .f32⟩
  | .hbm, ⟨1, _⟩ => ⟨S4x784, .i32⟩
  | .hbm, ⟨2, _⟩ => ⟨S4x784x80, .f32⟩
  | .hbm, ⟨3, _⟩ => ⟨S4x50176x80, .f32⟩
  | .hbm, ⟨4, _⟩ => ⟨S4, .i32⟩
  | .hbm, ⟨5, _⟩ => ⟨S4x1, .i32⟩
  | .hbm, ⟨6, _⟩ => ⟨S_, .i32⟩
  | .hbm, ⟨7, _⟩ => ⟨S4x1, .i32⟩
  | .hbm, ⟨8, _⟩ => ⟨S4x1, .i1⟩
  | .hbm, ⟨9, _⟩ => ⟨S_, .i32⟩
  | .hbm, ⟨10, _⟩ => ⟨S4x1, .i32⟩
  | .hbm, ⟨11, _⟩ => ⟨S4x1, .i32⟩
  | .hbm, ⟨12, _⟩ => ⟨S4x1, .i32⟩
  | .hbm, ⟨13, _⟩ => ⟨S_, .i32⟩
  | .hbm, ⟨14, _⟩ => ⟨S4x784, .i32⟩
  | .hbm, ⟨15, _⟩ => ⟨S4x784, .i1⟩
  | .hbm, ⟨16, _⟩ => ⟨S_, .i32⟩
  | .hbm, ⟨17, _⟩ => ⟨S4x784, .i32⟩
  | .hbm, ⟨18, _⟩ => ⟨S4x784, .i32⟩
  | .hbm, ⟨19, _⟩ => ⟨S4x784, .i32⟩
  | .hbm, ⟨20, _⟩ => ⟨S4x784, .i32⟩
  | .hbm, ⟨21, _⟩ => ⟨S4x784x1, .i32⟩
  | .hbm, ⟨22, _⟩ => ⟨S4x784x1, .i32⟩
  | .hbm, ⟨23, _⟩ => ⟨S4x784x2, .i32⟩
  | .hbm, ⟨24, _⟩ => ⟨S4x50176x80, .f32⟩
  | .hbm, ⟨25, _⟩ => ⟨S4x224x224x80, .f32⟩
  | .hbm, ⟨26, _⟩ => ⟨S4x80x224x224, .f32⟩
  | .local _ .vmem, ⟨0, _⟩ => ⟨S1x56x224x80, .f32⟩
  | .local _ .vmem, ⟨1, _⟩ => ⟨S1x56x224x80, .f32⟩
  | .local _ .vmem, ⟨2, _⟩ => ⟨S1x80x56x224, .f32⟩
  | .local _ .vmem, ⟨3, _⟩ => ⟨S1x80x56x224, .f32⟩
  | _, _ => ⟨S4x224x224x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x56x224x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x80x56x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== FinishRefIdeal.lean ====
abbrev S4x224x224x80 : Shape := ⟨4, ![4, 224, 224, 80]⟩
abbrev S4x784 : Shape := ⟨2, ![4, 784]⟩
abbrev S4x784x80 : Shape := ⟨3, ![4, 784, 80]⟩
abbrev S4x80x224x224 : Shape := ⟨4, ![4, 80, 224, 224]⟩
abbrev S4x80x784 : Shape := ⟨3, ![4, 80, 784]⟩
abbrev S4x80x50176 : Shape := ⟨3, ![4, 80, 50176]⟩
abbrev S4 : Shape := ⟨1, ![4]⟩
abbrev S4x1x1 : Shape := ⟨3, ![4, 1, 1]⟩
abbrev S80 : Shape := ⟨1, ![80]⟩
abbrev S1x80x1 : Shape := ⟨3, ![1, 80, 1]⟩
abbrev S4x1x784 : Shape := ⟨3, ![4, 1, 784]⟩
abbrev S_ : Shape := ⟨0, ![]⟩
abbrev S4x80x784x1 : Shape := ⟨4, ![4, 80, 784, 1]⟩
abbrev S4x80x784x3 : Shape := ⟨4, ![4, 80, 784, 3]⟩

abbrev nBuf : Space → Nat
  | .hbm => 41
  | .vmem => 0
  | .smem => 0
  | _ => 0

abbrev bufTy : (tb : Table) → Fin (tcTables nBuf tb) → BufTy
  | .hbm, ⟨0, _⟩ => ⟨S4x224x224x80, .f32⟩
  | .hbm, ⟨1, _⟩ => ⟨S4x784, .i32⟩
  | .hbm, ⟨2, _⟩ => ⟨S4x784x80, .f32⟩
  | .hbm, ⟨3, _⟩ => ⟨S4x80x224x224, .f32⟩
  | .hbm, ⟨4, _⟩ => ⟨S4x80x784, .f32⟩
  | .hbm, ⟨5, _⟩ => ⟨S4x80x50176, .f32⟩
  | .hbm, ⟨6, _⟩ => ⟨S4, .i32⟩
  | .hbm, ⟨7, _⟩ => ⟨S4x1x1, .i32⟩
  | .hbm, ⟨8, _⟩ => ⟨S80, .i32⟩
  | .hbm, ⟨9, _⟩ => ⟨S1x80x1, .i32⟩
  | .hbm, ⟨10, _⟩ => ⟨S4x1x784, .i32⟩
  | .hbm, ⟨11, _⟩ => ⟨S_, .i32⟩
  | .hbm, ⟨12, _⟩ => ⟨S4x1x1, .i32⟩
  | .hbm, ⟨13, _⟩ => ⟨S4x1x1, .i1⟩
  | .hbm, ⟨14, _⟩ => ⟨S_, .i32⟩
  | .hbm, ⟨15, _⟩ => ⟨S4x1x1, .i32⟩
  | .hbm, ⟨16, _⟩ => ⟨S4x1x1, .i32⟩
  | .hbm, ⟨17, _⟩ => ⟨S4x1x1, .i32⟩
  | .hbm, ⟨18, _⟩ => ⟨S_, .i32⟩
  | .hbm, ⟨19, _⟩ => ⟨S1x80x1, .i32⟩
  | .hbm, ⟨20, _⟩ => ⟨S1x80x1, .i1⟩
  | .hbm, ⟨21, _⟩ => ⟨S_, .i32⟩
  | .hbm, ⟨22, _⟩ => ⟨S1x80x1, .i32⟩
  | .hbm, ⟨23, _⟩ => ⟨S1x80x1, .i32⟩
  | .hbm, ⟨24, _⟩ => ⟨S1x80x1, .i32⟩
  | .hbm, ⟨25, _⟩ => ⟨S_, .i32⟩
  | .hbm, ⟨26, _⟩ => ⟨S4x1x784, .i32⟩
  | .hbm, ⟨27, _⟩ => ⟨S4x1x784, .i1⟩
  | .hbm, ⟨28, _⟩ => ⟨S_, .i32⟩
  | .hbm, ⟨29, _⟩ => ⟨S4x1x784, .i32⟩
  | .hbm, ⟨30, _⟩ => ⟨S4x1x784, .i32⟩
  | .hbm, ⟨31, _⟩ => ⟨S4x1x784, .i32⟩
  | .hbm, ⟨32, _⟩ => ⟨S4x80x784, .i32⟩
  | .hbm, ⟨33, _⟩ => ⟨S4x80x784, .i32⟩
  | .hbm, ⟨34, _⟩ => ⟨S4x80x784, .i32⟩
  | .hbm, ⟨35, _⟩ => ⟨S4x80x784x1, .i32⟩
  | .hbm, ⟨36, _⟩ => ⟨S4x80x784x1, .i32⟩
  | .hbm, ⟨37, _⟩ => ⟨S4x80x784x1, .i32⟩
  | .hbm, ⟨38, _⟩ => ⟨S4x80x784x3, .i32⟩
  | .hbm, ⟨39, _⟩ => ⟨S4x80x50176, .f32⟩
  | .hbm, ⟨40, _⟩ => ⟨S4x80x224x224, .f32⟩
  | _, _ => ⟨S4x224x224x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_3 : Ref sig .tc := ⟨.hbm, 25, rfl⟩
abbrev main_v18 : Ref sig .tc := ⟨.hbm, 26, rfl⟩
abbrev main_v19 : Ref sig .tc := ⟨.hbm, 27, rfl⟩
abbrev main_c_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Proof.PointMlp.lean ====
/-
  The multi-layer perceptron of one sampled point, as plain sums, and the kernel's block computation read at an index.

  One point has a vector `x` of 256 fine features and a vector `c` of 80 coarse logits. Each hidden layer joins the two
  into one vector of 336 entries, takes its product with a weight matrix, adds a bias and keeps the positive part; the
  predictor does the same without the positive part. `hidden` and `predict` say this for one point; `layer_apply` and
  `pay_apply` say that the kernel's block of 3136 points computes it row by row.
-/
module

public import proofs.«01_k».proof.Proof.Gen.MlpIdeal.Value
public import proofs.«01_k».proof.Proof.Gen.MlpRefIdeal.Read
public import Idealize.ShloMosaic.Lib.Pointwise

@[expose] public section

set_option maxRecDepth 16384

noncomputable section

namespace Cert.PointMlp

open Idealize.ShloMosaic

/-- The two vectors of a point joined into one of 336 entries. -/
def joined (x : Fin 256 → EReal) (c : Fin 80 → EReal) (k : Fin 336) : EReal :=
  if h : k.val < 256 then x ⟨k.val, h⟩ else c ⟨k.val - 256, by omega⟩

/-- One hidden layer of a point: the product with the weights, the bias, the positive part. -/
def hidden (w : Fin 256 → Fin 336 → EReal) (b : Fin 256 → EReal) (x : Fin 256 → EReal) (c : Fin 80 → EReal)
    (o : Fin 256) : EReal :=
  max ((∑ k : Fin 336, joined x c k * w o k) + b o) 0

/-- The predictor of a point: the product with the weights and the bias. -/
def predict (w : Fin 80 → Fin 336 → EReal) (b : Fin 80 → EReal) (x : Fin 256 → EReal) (c : Fin 80 → EReal)
    (o : Fin 80) : EReal :=
  (∑ k : Fin 336, joined x c k * w o k) + b o

/-- A weight matrix by its two coordinates. -/
abbrev mat {a b : Nat} (w : (⟨2, ![a, b]⟩ : Shape).Idx → EReal) : Fin a → Fin b → EReal := fun i j => w (ix2 i j)

/-- A vector by its coordinate. -/
abbrev vec {a : Nat} (w : (⟨1, ![a]⟩ : Shape).Idx → EReal) : Fin a → EReal := fun i => w (ix1 i)

/-- A one-row matrix by its column. -/
abbrev row {a : Nat} (w : (⟨2, ![1, a]⟩ : Shape).Idx → EReal) : Fin a → EReal := fun i => w (ix2 0 i)

/-- All three hidden layers and the predictor of one point. -/
def point (w0 : Fin 256 → Fin 336 → EReal) (b0 : Fin 256 → EReal) (w1 : Fin 256 → Fin 336 → EReal) (b1 : Fin 256 → EReal)
    (w2 : Fin 256 → Fin 336 → EReal) (b2 : Fin 256 → EReal) (w3 : Fin 80 → Fin 336 → EReal) (b3 : Fin 80 → EReal)
    (x : Fin 256 → EReal) (c : Fin 80 → EReal) : Fin 80 → EReal :=
  predict w3 b3 (hidden w2 b2 (hidden w1 b1 (hidden w0 b0 x c) c) c) c

end Cert.PointMlp

namespace Cert.PointMlp.Kernel

open Cert.MlpIdeal Cert.MlpIdeal.Gen Idealize.ShloMosaic

/-- The kernel's joined block. -/
def cat (x : Vec Ideal S3136x256 .f32) (c : Vec Ideal S3136x80 .f32) : FVec Ideal S3136x336 .f32 :=
  concatenate S3136x336 1 [⟨S3136x256, x⟩, ⟨S3136x80, c⟩] concatenates_S3136x256_S3136x80_S3136x336_d1

theorem cat_apply (x : Vec Ideal S3136x256 .f32) (c : Vec Ideal S3136x80 .f32) (r : Fin 3136) (k : Fin 336) :
    cat x c (ix2 r k) = joined (fun i => x (ix2 r i)) (fun i => c (ix2 r i)) k := by
  pointwise [cat, joined]

/-- One hidden layer of the kernel's block of points. -/
def layer (x : Vec Ideal S3136x256 .f32) (c : Vec Ideal S3136x80 .f32) (w : Vec Ideal S256x336 .f32)
    (b : Vec Ideal S1x256 .f32) : FVec Ideal S3136x256 .f32 :=
  maximumf (addf (matmul (φ₁ := .f32) (φ₂ := .f32) dot_S3136x336_S256x336_S3136x256_1_1_0_0_n_n none (cat x c) w (constant S3136x256 .f32 0x00000000#32))
    (broadcastTo S3136x256 (shapeCast S1x256 b shapeCasts_S1x256_S1x256) broadcasts_S1x256_S3136x256))
    (broadcast S3136x256 (Scalar.ofBits .f32 0x00000000#32 : Ideal .f32))

theorem layer_apply (x : Vec Ideal S3136x256 .f32) (c : Vec Ideal S3136x80 .f32) (w : Vec Ideal S256x336 .f32)
    (b : Vec Ideal S1x256 .f32) (r : Fin 3136) (o : Fin 256) :
    layer x c w b (ix2 r o) = hidden (mat w) (row b) (fun i => x (ix2 r i)) (fun i => c (ix2 r i)) o := by
  unfold layer hidden
  simp only [← cat_apply]
  generalize cat x c = y
  pointwise

theorem layer_row (x : Vec Ideal S3136x256 .f32) (c : Vec Ideal S3136x80 .f32) (w : Vec Ideal S256x336 .f32)
    (b : Vec Ideal S1x256 .f32) (r : Fin 3136) :
    (fun o => layer x c w b (ix2 r o)) = hidden (mat w) (row b) (fun i => x (ix2 r i)) (fun i => c (ix2 r i)) :=
  funext fun o => layer_apply x c w b r o

theorem pay2_eq (P0 : Vec Ideal S3136x256 .f32) (P1 : Vec Ideal S3136x80 .f32) (P2 : Vec Ideal S256x336 .f32)
    (P3 : Vec Ideal S1x256 .f32) (P4 : Vec Ideal S256x336 .f32) (P5 : Vec Ideal S1x256 .f32) (P6 : Vec Ideal S256x336 .f32)
    (P7 : Vec Ideal S1x256 .f32) (P8 : Vec Ideal S80x336 .f32) :
    k0_pay2 P0 P1 P2 P3 P4 P5 P6 P7 P8
      = matmul (φ₁ := .f32) (φ₂ := .f32) dot_S3136x336_S80x336_S3136x80_1_1_0_0_n_n none (cat (layer (layer (layer P0 P1 P2 P3) P1 P4 P5) P1 P6 P7) P1) P8
          (constant S3136x80 .f32 0x00000000#32) := rfl

/-- What the kernel leaves in the block of results, at point `r` and class `o`. -/
theorem block_apply (P0 : Vec Ideal S3136x256 .f32) (P1 : Vec Ideal S3136x80 .f32) (P2 : Vec Ideal S256x336 .f32)
    (P3 : Vec Ideal S1x256 .f32) (P4 : Vec Ideal S256x336 .f32) (P5 : Vec Ideal S1x256 .f32) (P6 : Vec Ideal S256x336 .f32)
    (P7 : Vec Ideal S1x256 .f32) (P8 : Vec Ideal S80x336 .f32) (P9 : Vec Ideal S1x80 .f32) (r : Fin 3136) (o : Fin 80) :
    k0_pay1 (k0_pay2 P0 P1 P2 P3 P4 P5 P6 P7 P8) P9 (ix2 r o)
      = point (mat P2) (row P3) (mat P4) (row P5) (mat P6) (row P7) (mat P8) (row P9)
          (fun i => P0 (ix2 r i)) (fun i => P1 (ix2 r i)) o := by
  rw [pay2_eq]
  unfold point
  simp only [← layer_row]
  generalize layer (layer (layer P0 P1 P2 P3) P1 P4 P5) P1 P6 P7 = y
  unfold predict
  simp only [← cat_apply]
  generalize cat y P1 = z
  pointwise [k0_pay1]

end Cert.PointMlp.Kernel

namespace Cert.PointMlp.Reference

open Cert.MlpRefIdeal Cert.MlpRefIdeal.Gen Cert.MlpRefIdeal.Read Idealize.ShloMosaic

/-- The reference's joined array. -/
def cat (x : FVec Ideal S4x256x784 .f32) (c : FVec Ideal S4x80x784 .f32) : FVec Ideal S4x336x784 .f32 :=
  concatenate S4x336x784 1 [⟨S4x256x784, x⟩, ⟨S4x80x784, c⟩] concatenates_S4x256x784_S4x80x784_S4x336x784_d1

theorem cat_apply (x : FVec Ideal S4x256x784 .f32) (c : FVec Ideal S4x80x784 .f32) (n : Fin 4) (p : Fin 784) (k : Fin 336) :
    cat x c (ix3 n k p) = joined (fun i => x (ix3 n i p)) (fun i => c (ix3 n i p)) k := by
  pointwise [cat, joined]

/-- One hidden layer of the reference. -/
def layer (x : FVec Ideal S4x256x784 .f32) (c : FVec Ideal S4x80x784 .f32) (w : FVec Ideal S256x336 .f32)
    (b : FVec Ideal S256 .f32) : FVec Ideal S4x256x784 .f32 :=
  maximumf (addf (transpose S4x256x784 [0, 2, 1]
      (Host.dotGeneral (φ₁ := .f32) (φ₂ := .f32) dot_S4x336x784_S256x336_S4x784x256_1_1_02_0_n_n none (cat x c) w)
      transposes_S4x784x256_S4x256x784_0_2_1) (val_main_v8 (F := Ideal) b)) (val_main_call0_v0 (F := Ideal))

theorem layer_apply (x : FVec Ideal S4x256x784 .f32) (c : FVec Ideal S4x80x784 .f32) (w : FVec Ideal S256x336 .f32)
    (b : FVec Ideal S256 .f32) (n : Fin 4) (p : Fin 784) (o : Fin 256) :
    layer x c w b (ix3 n o p) = hidden (mat w) (vec b) (fun i => x (ix3 n i p)) (fun i => c (ix3 n i p)) o := by
  unfold layer hidden
  simp only [← cat_apply]
  generalize cat x c = y
  pointwise [val_main_v8, val_main_v7, val_main_call0_v0, val_main_call0_cst]

theorem layer_row (x : FVec Ideal S4x256x784 .f32) (c : FVec Ideal S4x80x784 .f32) (w : FVec Ideal S256x336 .f32)
    (b : FVec Ideal S256 .f32) (n : Fin 4) (p : Fin 784) :
    (fun o => layer x c w b (ix3 n o p)) = hidden (mat w) (vec b) (fun i => x (ix3 n i p)) (fun i => c (ix3 n i p)) :=
  funext fun o => layer_apply x c w b n p o

/-- The reference's layers and predictor, as one function of the sampled features and logits. -/
def tower (x : FVec Ideal S4x256x784 .f32) (c : FVec Ideal S4x80x784 .f32) (w0 : FVec Ideal S256x336 .f32)
    (b0 : FVec Ideal S256 .f32) (w1 : FVec Ideal S256x336 .f32) (b1 : FVec Ideal S256 .f32) (w2 : FVec Ideal S256x336 .f32)
    (b2 : FVec Ideal S256 .f32) (w3 : FVec Ideal S80x336 .f32) (b3 : FVec Ideal S80 .f32) : FVec Ideal S4x80x784 .f32 :=
  addf (transpose S4x80x784 [0, 2, 1]
      (Host.dotGeneral (φ₁ := .f32) (φ₂ := .f32) dot_S4x336x784_S80x336_S4x784x80_1_1_02_0_n_n none
        (cat (layer (layer (layer x c w0 b0) c w1 b1) c w2 b2) c) w3)
      transposes_S4x784x80_S4x80x784_0_2_1) (val_main_v29 (F := Ideal) b3)

theorem tower_apply (x : FVec Ideal S4x256x784 .f32) (c : FVec Ideal S4x80x784 .f32) (w0 : FVec Ideal S256x336 .f32)
    (b0 : FVec Ideal S256 .f32) (w1 : FVec Ideal S256x336 .f32) (b1 : FVec Ideal S256 .f32) (w2 : FVec Ideal S256x336 .f32)
    (b2 : FVec Ideal S256 .f32) (w3 : FVec Ideal S80x336 .f32) (b3 : FVec Ideal S80 .f32) (n : Fin 4) (p : Fin 784) (o : Fin 80) :
    tower x c w0 b0 w1 b1 w2 b2 w3 b3 (ix3 n o p)
      = point (mat w0) (vec b0) (mat w1) (vec b1) (mat w2) (vec b2) (mat w3) (vec b3)
          (fun i => x (ix3 n i p)) (fun i => c (ix3 n i p)) o := by
  unfold tower point
  simp only [← layer_row]
  generalize layer (layer (layer x c w0 b0) c w1 b1) c w2 b2 = y
  unfold predict
  simp only [← cat_apply]
  generalize cat y c = z
  pointwise [val_main_v29, val_main_v28]

/-- The reference's array of logits, class before point, is that function of the reshaped and transposed arguments. -/
theorem stage_eq (x0 : FVec Ideal S3136x256 .f32) (x1 : FVec Ideal S3136x80 .f32) (w0 : FVec Ideal S256x336 .f32)
    (b0 : FVec Ideal S256 .f32) (w1 : FVec Ideal S256x336 .f32) (b1 : FVec Ideal S256 .f32) (w2 : FVec Ideal S256x336 .f32)
    (b2 : FVec Ideal S256 .f32) (w3 : FVec Ideal S80x336 .f32) (b3 : FVec Ideal S80 .f32) :
    val_main_v30 (F := Ideal) x0 x1 w0 b0 w1 b1 w2 b2 w3 b3
      = tower (val_main_v1 (F := Ideal) x0) (val_main_v3 (F := Ideal) x1) w0 b0 w1 b1 w2 b2 w3 b3 := rfl

/-- The reference's result at row `r` and class `o`: the layers of that row. -/
theorem result_apply (x0 : FVec Ideal S3136x256 .f32) (x1 : FVec Ideal S3136x80 .f32) (w0 : FVec Ideal S256x336 .f32)
    (b0 : FVec Ideal S256 .f32) (w1 : FVec Ideal S256x336 .f32) (b1 : FVec Ideal S256 .f32) (w2 : FVec Ideal S256x336 .f32)
    (b2 : FVec Ideal S256 .f32) (w3 : FVec Ideal S80x336 .f32) (b3 : FVec Ideal S80 .f32) (r : Fin 3136) (o : Fin 80) :
    val_main_v32 (F := Ideal) x0 x1 w0 b0 w1 b1 w2 b2 w3 b3 (ix2 r o)
      = point (mat w0) (vec b0) (mat w1) (vec b1) (mat w2) (vec b2) (mat w3) (vec b3)
          (fun i => x0 (ix2 r i)) (fun i => x1 (ix2 r i)) o := by
  have e : idx_main_v31 (idx_main_v32 (ix2 r o)) = ix3 (⟨r.val / 784, by omega⟩ : Fin 4) o (⟨r.val % 784, by omega⟩ : Fin 784) := by
    funext a; apply Fin.ext
    match a with
    | ⟨0, _⟩ => show (r.val * 80 + o.val) / 62720 = r.val / 784; omega
    | ⟨1, _⟩ => show (r.val * 80 + o.val) % 80 = o.val; omega
    | ⟨2, _⟩ => show (r.val * 80 + o.val) / 80 % 784 = r.val % 784; omega
  have ex : ∀ i : Fin 256, val_main_v1 (F := Ideal) x0 (ix3 (⟨r.val / 784, by omega⟩ : Fin 4) i (⟨r.val % 784, by omega⟩ : Fin 784)) = x0 (ix2 r i) := by
    intro i
    rw [val_main_v1_apply, val_main_v0_apply]
    refine congrArg x0 (funext fun a => Fin.ext ?_)
    match a with
    | ⟨0, _⟩ => show ((r.val / 784 * 784 + r.val % 784) * 256 + i.val) / 256 = r.val; omega
    | ⟨1, _⟩ => show ((r.val / 784 * 784 + r.val % 784) * 256 + i.val) % 256 = i.val; omega
  have ec : ∀ i : Fin 80, val_main_v3 (F := Ideal) x1 (ix3 (⟨r.val / 784, by omega⟩ : Fin 4) i (⟨r.val % 784, by omega⟩ : Fin 784)) = x1 (ix2 r i) := by
    intro i
    rw [val_main_v3_apply, val_main_v2_apply]
    refine congrArg x1 (funext fun a => Fin.ext ?_)
    match a with
    | ⟨0, _⟩ => show ((r.val / 784 * 784 + r.val % 784) * 80 + i.val) / 80 = r.val; omega
    | ⟨1, _⟩ => show ((r.val / 784 * 784 + r.val % 784) * 80 + i.val) % 80 = i.val; omega
  rw [val_main_v32_apply, val_main_v31_apply, e, stage_eq, tower_apply]
  simp only [ex, ec]

end Cert.PointMlp.Reference

end
-- ==== Proof.MlpValue.lean ====
/-
  What the perceptron program leaves in its result array, and its equality with the reference.

  The launch has one grid point and every window is the whole array, so the result array holds the body's value of the
  argument arrays. Both programs' results are then, row by row, the layers of one point.
-/
module

public import proofs.«01_k».proof.Defs
public import proofs.«01_k».proof.Proof.PointMlp
public import proofs.«01_k».proof.Proof.Gen.MlpRefIdeal.Run
public import Idealize.ShloMosaic.Lib.Pipeline.ValueKit
public import Idealize.ShloMosaic.Lib.Claim

@[expose] public section

set_option maxRecDepth 16384

noncomputable section

namespace Cert.PointMlp.Kernel

open Cert.MlpIdeal Cert.MlpIdeal.Gen Idealize.ShloMosaic Idealize.ShloMosaic.TcCoe Idealize.SL.Sem

variable (m : (ℓ : Loc nD τ sig) → Buf (Elt Ideal) ℓ)

/-- Every window stays at the origin. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] :=
  (by decide +kernel : ∀ t : Fin grid0.N, _)

/-- The result array after the run: the body's value of the arrays at the launch's entry. -/
theorem final (c : Dev nD) : (dats m 0 c).arrAt 10 cfg0.N
    = k0_pay1 (k0_pay2 (V m c main_arg0) (V m c main_arg1) (V m c main_arg2) (V m c main_v0) (V m c main_arg4)
        (V m c main_v1) (V m c main_arg6) (V m c main_v2) (V m c main_arg8)) (V m c main_v3) := by
  refine (dats m 0 c).arrAt_eq_of_after_last 10 t0_0 (by decide +kernel) _ fun j => ?_
  blk_simp
  rw [after0_10]
  frame_out
  have e0 : (iblk m c 0 t0_0 : Vec Ideal S3136x256 .f32) = V m c main_arg0 := by blk_ext! [iblk, idx t0_0]
  have e1 : (iblk m c 1 t0_0 : Vec Ideal S3136x80 .f32) = V m c main_arg1 := by blk_ext! [iblk, idx t0_0]
  have e2 : (iblk m c 2 t0_0 : Vec Ideal S256x336 .f32) = V m c main_arg2 := by blk_ext! [iblk, idx t0_0]
  have e3 : (iblk m c 3 t0_0 : Vec Ideal S1x256 .f32) = V m c main_v0 := by blk_ext! [iblk, idx t0_0]
  have e4 : (iblk m c 4 t0_0 : Vec Ideal S256x336 .f32) = V m c main_arg4 := by blk_ext! [iblk, idx t0_0]
  have e5 : (iblk m c 5 t0_0 : Vec Ideal S1x256 .f32) = V m c main_v1 := by blk_ext! [iblk, idx t0_0]
  have e6 : (iblk m c 6 t0_0 : Vec Ideal S256x336 .f32) = V m c main_arg6 := by blk_ext! [iblk, idx t0_0]
  have e7 : (iblk m c 7 t0_0 : Vec Ideal S1x256 .f32) = V m c main_v2 := by blk_ext! [iblk, idx t0_0]
  have e8 : (iblk m c 8 t0_0 : Vec Ideal S80x336 .f32) = V m c main_arg8 := by blk_ext! [iblk, idx t0_0]
  have e9 : (iblk m c 9 t0_0 : Vec Ideal S1x80 .f32) = V m c main_v3 := by blk_ext! [iblk, idx t0_0]
  rw [e0, e1, e2, e3, e4, e5, e6, e7, e8, e9]

theorem bias0 (c : Dev nD) : V m c main_v0 = shapeCast S1x256 (m ((c : Thread nD τ).loc main_arg3)) shapeCasts_S256_S1x256 := by
  entry_read
  rfl
theorem bias1 (c : Dev nD) : V m c main_v1 = shapeCast S1x256 (m ((c : Thread nD τ).loc main_arg5)) shapeCasts_S256_S1x256 := by
  entry_read
  rfl
theorem bias2 (c : Dev nD) : V m c main_v2 = shapeCast S1x256 (m ((c : Thread nD τ).loc main_arg7)) shapeCasts_S256_S1x256 := by
  entry_read
  rfl
theorem bias3 (c : Dev nD) : V m c main_v3 = shapeCast S1x80 (m ((c : Thread nD τ).loc main_arg9)) shapeCasts_S80_S1x80 := by
  entry_read
  rfl

/-- A vector laid out as one row, read along the row. -/
theorem row_cast {n : Nat} (b : (⟨1, ![n]⟩ : Shape).Idx → EReal) (h : (⟨1, ![n]⟩ : Shape).ShapeCasts ⟨2, ![1, n]⟩) :
    row (shapeCast ⟨2, ![1, n]⟩ b h) = vec b := by
  funext i
  refine shapeCast_apply b h (ix2 0 i) (ix1 i) ?_
  rw [Shape.rowMajor_val_one, Shape.rowMajor_val_two]
  show i.val = 0 * n + i.val
  omega

/-- The result array at row `r` and class `o`. -/
theorem final_apply (c : Dev nD) (r : Fin 3136) (o : Fin 80) :
    ((dats m 0 c).arrAt 10 cfg0.N : S3136x80.Idx → EReal) (ix2 r o)
      = point (mat (m ((c : Thread nD τ).loc main_arg2))) (vec (m ((c : Thread nD τ).loc main_arg3)))
          (mat (m ((c : Thread nD τ).loc main_arg4))) (vec (m ((c : Thread nD τ).loc main_arg5)))
          (mat (m ((c : Thread nD τ).loc main_arg6))) (vec (m ((c : Thread nD τ).loc main_arg7)))
          (mat (m ((c : Thread nD τ).loc main_arg8))) (vec (m ((c : Thread nD τ).loc main_arg9)))
          (fun i => (m ((c : Thread nD τ).loc main_arg0) : S3136x256.Idx → EReal) (ix2 r i))
          (fun i => (m ((c : Thread nD τ).loc main_arg1) : S3136x80.Idx → EReal) (ix2 r i)) o := by
  rw [final, block_apply, bias0, bias1, bias2, bias3]
  rw [V_main_arg0, V_main_arg1, V_main_arg2, V_main_arg4, V_main_arg6, V_main_arg8]
  exact congrFun (congr (congr (congr (congr (congr (congr (congr (congr (congr rfl (row_cast _ _)) rfl) (row_cast _ _)) rfl)
    (row_cast _ _)) rfl) (row_cast _ _)) rfl) rfl) o

end Cert.PointMlp.Kernel

namespace Cert.PointMlp

open Idealize.ShloMosaic Idealize.ShloMosaic.TcCoe Idealize.SL.Sem

/-- The two perceptron programs end with the same array. -/
theorem algebraic : Cert.algebraic_MlpIdeal_MlpRefIdeal (hMlpIdeal := Cert.MlpIdeal.Gen.facts)
    (hMlpRefIdeal := Cert.MlpRefIdeal.Gen.facts) := by
  intro m g m' g' _ hagree
  refine ⟨fun c => (Cert.MlpIdeal.Gen.dats m 0 c).arrAt 10 Cert.MlpIdeal.cfg0.N, Cert.MlpIdeal.Value.run_blocks m g,
    (θ_run Cert.MlpRefIdeal.defs _ _).mono (fun r h c => ⟨?_, (h c).2⟩) (Cert.MlpRefIdeal.Value.run m' g')⟩
  refine ((h c).1.trans (Cert.MlpRefIdeal.Read.val_main_v32_eq ..)).trans ?_
  obtain ⟨h0, h1, h2, h3, h4, h5, h6, h7, h8, h9⟩ := hagree c
  rw [h0, h1, h2, h3, h4, h5, h6, h7, h8, h9]
  funext j
  obtain ⟨r, o, rfl⟩ : ∃ (r : Fin 3136) (o : Fin 80), j = ix2 r o := ⟨j 0, j 1, by funext a; fin_cases a <;> rfl⟩
  exact (Reference.result_apply ..).trans (Kernel.final_apply m c r o).symm

end Cert.PointMlp

end
-- ==== Proof.Taps.lean ====
/-
  The weights of a bilinear resize to twice the size, on the reals.

  Sample `r` of the enlarged line lies at `(r + 1/2) / 2 - 1/2`. The triangle of half-width one around it meets at most two of
  the `n` old samples: the nearest at weight 3/4 and a neighbour at weight 1/4; at either end only the nearest is there. Dividing
  by the weights' sum makes the end's weight one, which is the same as taking the end sample for its missing neighbour.
-/
module

public import Idealize.ShloMosaic.Lib.Pointwise

@[expose] public section

noncomputable section

namespace Cert.Taps

/-- The other sample of the two that new sample `r` mixes: below for an even `r`, above for an odd one, kept inside. -/
def far (n r : ℕ) : ℕ := if r % 2 = 0 then r / 2 - 1 else min (r / 2 + 1) (n - 1)

theorem far_lt {n r : ℕ} (hr : r < 2 * n) : far n r < n := by
  unfold far
  split <;> omega

theorem near_lt {n r : ℕ} (hr : r < 2 * n) : r / 2 < n := by omega

/-- The triangle around new sample `r` at old sample `k`. -/
def tri (r k : ℕ) : ℝ := max 0 (1 - |((r : ℝ) + 1 / 2) * (1 / 2) - 1 / 2 - (k : ℝ)|)

theorem tri_eq {n r k : ℕ} (hr : r < 2 * n) (hk : k < n) :
    tri r k = if k = r / 2 then 3 / 4 else if k = far n r then 1 / 4 else 0 := by
  unfold tri far
  obtain ⟨a, rfl | rfl⟩ : ∃ a, r = 2 * a ∨ r = 2 * a + 1 := ⟨r / 2, by omega⟩
  · rw [if_pos (by omega : 2 * a % 2 = 0), (by omega : 2 * a / 2 = a)]
    rcases lt_trichotomy k a with h | h | h
    · rw [if_neg (by omega : ¬ k = a)]
      by_cases h' : k = a - 1
      · have e : (a : ℝ) = k + 1 := by exact_mod_cast (by omega : a = k + 1)
        rw [if_pos h']; push_cast; rw [e, abs_of_nonneg (by linarith), max_eq_right (by linarith)]; ring
      · have e : (k : ℝ) + 2 ≤ a := by exact_mod_cast (by omega : k + 2 ≤ a)
        rw [if_neg h']; push_cast; rw [abs_of_nonneg (by linarith), max_eq_left (by linarith)]
    · subst h
      rw [if_pos rfl]; push_cast; rw [abs_of_nonpos (by linarith), max_eq_right (by linarith)]; ring
    · have e : (a : ℝ) + 1 ≤ k := by exact_mod_cast h
      rw [if_neg (by omega : ¬ k = a), if_neg (by omega : ¬ k = a - 1)]
      push_cast; rw [abs_of_nonpos (by linarith), max_eq_left (by linarith)]
  · rw [if_neg (by omega : ¬ (2 * a + 1) % 2 = 0), (by omega : (2 * a + 1) / 2 = a)]
    rcases lt_trichotomy k a with h | h | h
    · have e : (k : ℝ) + 1 ≤ a := by exact_mod_cast h
      rw [if_neg (by omega : ¬ k = a), if_neg (by omega : ¬ k = min (a + 1) (n - 1))]
      push_cast; rw [abs_of_nonneg (by linarith), max_eq_left (by linarith)]
    · subst h
      rw [if_pos rfl]; push_cast; rw [abs_of_nonneg (by linarith), max_eq_right (by linarith)]; ring
    · rw [if_neg (by omega : ¬ k = a)]
      by_cases h' : k = a + 1
      · have e : (k : ℝ) = a + 1 := by exact_mod_cast h'
        rw [if_pos (by omega : k = min (a + 1) (n - 1))]
        push_cast; rw [e, abs_of_nonpos (by linarith), max_eq_right (by linarith)]; ring
      · have e : (a : ℝ) + 2 ≤ k := by exact_mod_cast (by omega : a + 2 ≤ k)
        rw [if_neg (by omega : ¬ k = min (a + 1) (n - 1))]
        push_cast; rw [abs_of_nonpos (by linarith), max_eq_left (by linarith)]

/-- The sum of sample `r`'s weights. -/
def total (n r : ℕ) : ℝ := ∑ k : Fin n, tri r k

theorem total_eq {n r : ℕ} (hr : r < 2 * n) : total n r = if far n r = r / 2 then 3 / 4 else 1 := by
  unfold total
  split
  · rename_i h
    rw [Fintype.sum_eq_single (⟨r / 2, near_lt hr⟩ : Fin n)]
    · rw [tri_eq hr (near_lt hr), if_pos rfl]
    · intro k hk
      have hk' : ¬ (k : ℕ) = r / 2 := fun e => hk (Fin.ext e)
      rw [tri_eq hr k.2, if_neg hk', if_neg (h ▸ hk')]
  · rename_i h
    rw [Fintype.sum_eq_add (⟨r / 2, near_lt hr⟩ : Fin n) (⟨far n r, far_lt hr⟩ : Fin n) (fun e => h (Fin.mk.inj e).symm)]
    · rw [tri_eq hr (near_lt hr), if_pos rfl, tri_eq hr (far_lt hr), if_neg h, if_pos rfl]; norm_num
    · rintro k ⟨hk, hk'⟩
      rw [tri_eq hr k.2, if_neg fun e => hk (Fin.ext e), if_neg fun e => hk' (Fin.ext e)]

theorem total_pos {n r : ℕ} (hr : r < 2 * n) : 1 / 2 < total n r := by
  rw [total_eq hr]
  split <;> norm_num

/-- The position of a new sample is within half a sample of the old line. -/
theorem inside {n r : ℕ} (hr : r < 2 * n) : -(1 / 2 : ℝ) ≤ ((r : ℝ) + 1 / 2) * (1 / 2) - 1 / 2
    ∧ ((r : ℝ) + 1 / 2) * (1 / 2) - 1 / 2 ≤ (n : ℝ) - 1 / 2 := by
  have h : (r : ℝ) + 1 ≤ 2 * n := by exact_mod_cast hr
  have h0 : (0 : ℝ) ≤ r := Nat.cast_nonneg r
  constructor <;> linarith

/-- The mix of the two taps of new sample `r`. -/
def mix {n : ℕ} (r : ℕ) (hr : r < 2 * n) (x : Fin n → EReal) : EReal :=
  ((3 / 4 : ℝ) : EReal) * x ⟨r / 2, near_lt hr⟩ + ((1 / 4 : ℝ) : EReal) * x ⟨far n r, far_lt hr⟩

/-- The normalised weights against any line of extended reals give the mix of the two taps. -/
theorem dot {n r : ℕ} (hr : r < 2 * n) (x : Fin n → EReal) :
    ∑ k : Fin n, ((tri r k * (1 / total n r) : ℝ) : EReal) * x k = mix r hr x := by
  unfold mix
  rw [total_eq hr]
  split
  · rename_i h
    rw [Fintype.sum_eq_single (⟨r / 2, near_lt hr⟩ : Fin n)]
    · have e : (⟨far n r, far_lt hr⟩ : Fin n) = ⟨r / 2, near_lt hr⟩ := Fin.ext h
      rw [e, ← EReal.right_distrib_of_nonneg (by exact_mod_cast (by norm_num : (0 : ℝ) ≤ 3 / 4))
        (by exact_mod_cast (by norm_num : (0 : ℝ) ≤ 1 / 4)), ← EReal.coe_add]
      rw [tri_eq hr (near_lt hr), if_pos rfl]
      norm_num
    · intro k hk
      have hk' : ¬ (k : ℕ) = r / 2 := fun e => hk (Fin.ext e)
      rw [tri_eq hr k.2, if_neg hk', if_neg (h ▸ hk')]
      simp
  · rename_i h
    rw [Fintype.sum_eq_add (⟨r / 2, near_lt hr⟩ : Fin n) (⟨far n r, far_lt hr⟩ : Fin n) (fun e => h (Fin.mk.inj e).symm)]
    · rw [tri_eq hr (near_lt hr), if_pos rfl, tri_eq hr (far_lt hr), if_neg h, if_pos rfl]; norm_num
    · rintro k ⟨hk, hk'⟩
      rw [tri_eq hr k.2, if_neg fun e => hk (Fin.ext e), if_neg fun e => hk' (Fin.ext e)]
      simp

end Cert.Taps

end
-- ==== Proof.UpsampleBody.lean ====
/-
  The bodies of the two resizing launches, read at an index: each mixes two taps along its own axis.
-/
module

public import proofs.«01_k».proof.Proof.Taps
public import proofs.«01_k».proof.Proof.Gen.UpsampleIdeal.Skeleton

@[expose] public section

set_option maxRecDepth 16384

noncomputable section

namespace Cert.Taps.Kernel

open Cert.UpsampleIdeal Cert.UpsampleIdeal.Gen Idealize.ShloMosaic Idealize.ShloMosaic.TcCoe

theorem bits_near : Ideal.ofBits .f32 0x3F400000#32 = ((3 / 4 : ℝ) : EReal) := by
  simp [Ideal.ofBits, Ideal.ieee, -EReal.coe_mul]; norm_num
theorem bits_far : Ideal.ofBits .f32 0x3E800000#32 = ((1 / 4 : ℝ) : EReal) := by
  simp [Ideal.ofBits, Ideal.ieee, -EReal.coe_mul]; norm_num

theorem far_even {n r : ℕ} (h : r % 2 < 1) : far n r = r / 2 - 1 := by unfold far; rw [if_pos (by omega)]
theorem far_odd {n r : ℕ} (h : ¬ r % 2 < 1) : far n r = min (r / 2 + 1) (n - 1) := by unfold far; rw [if_neg (by omega)]

theorem mix_eq {n r : ℕ} (hr : r < 2 * n) (x : Fin n → EReal) {a b : EReal} (ha : a = x ⟨r / 2, near_lt hr⟩)
    (hb : b = x ⟨far n r, far_lt hr⟩) :
    Ideal.ofBits .f32 0x3F400000#32 * a + Ideal.ofBits .f32 0x3E800000#32 * b = mix r hr x := by
  rw [ha, hb, bits_near, bits_far]; rfl

/-- The first launch's body on one block: rows mixed, lanes untouched. -/
theorem rows_apply (v : Vec Ideal S1x112x4480 .f32) (i : Fin 224) (l : Fin 4480) :
    k0_pay1 (F := Ideal) v (ix3 0 i l) = mix i.val i.isLt fun h : Fin 112 => v (ix3 0 h l) := by
  have hi := i.isLt
  pointwise [k0_pay1]
  by_cases h : i.val % 2 < 1
  · have hf := far_even (n := 112) h
    rw [dif_pos h]
    refine mix_eq (n := 112) hi _ rfl ?_
    split
    all_goals exact congrArg v ((ix3_inj ..).2 ⟨rfl, Fin.ext (by show _ = far 112 i.val; rw [hf] <;> dsimp only <;> omega), rfl⟩)
  · have hf := far_odd (n := 112) h
    rw [dif_neg h]
    refine mix_eq (n := 112) hi _ rfl ?_
    split
    all_goals exact congrArg v ((ix3_inj ..).2 ⟨rfl, Fin.ext (by show _ = far 112 i.val; rw [hf] <;> dsimp only <;> omega), rfl⟩)

/-- The second launch's body on one block: along a row's lanes, columns of 80 classes mixed. -/
theorem cols_apply (v : Vec Ideal S1x56x8960 .f32) (i : Fin 56) (j : Fin 224) (o : Fin 80) :
    k1_pay1 (F := Ideal) v (ix3 0 i ⟨j.val * 80 + o.val, by omega⟩)
      = mix j.val j.isLt fun w : Fin 112 => v (ix3 0 i ⟨w.val * 80 + o.val, by omega⟩) := by
  have hj := j.isLt
  have ho := o.isLt
  have e1 : (j.val * 80 + o.val) / 80 = j.val := by omega
  have e2 : (j.val * 80 + o.val) / 160 = j.val / 2 := by omega
  have e3 : (j.val * 80 + o.val) % 80 = o.val := by omega
  pointwise [k1_pay1]
  by_cases h : (j.val * 80 + o.val) / 80 % 2 < 1
  · have hf := far_even (n := 112) (r := j.val) (by omega)
    rw [dif_pos h]
    refine mix_eq (n := 112) hj _ (congrArg v ((ix3_inj ..).2 ⟨rfl, rfl, Fin.ext (by simp only [e2, e3])⟩)) ?_
    split
    all_goals
      refine congrArg v ((ix3_inj ..).2 ⟨rfl, rfl, Fin.ext ?_⟩)
      dsimp only
      omega
  · have hf := far_odd (n := 112) (r := j.val) (by omega)
    rw [dif_neg h]
    refine mix_eq (n := 112) hj _ (congrArg v ((ix3_inj ..).2 ⟨rfl, rfl, Fin.ext (by simp only [e2, e3])⟩)) ?_
    split
    all_goals
      refine congrArg v ((ix3_inj ..).2 ⟨rfl, rfl, Fin.ext ?_⟩)
      dsimp only
      omega

end Cert.Taps.Kernel

end
-- ==== Proof.UpsampleRef.lean ====
/-
  The reference's resize to twice the size, read at an index: along each of the two axes, the mix of two taps.
-/
module

public import proofs.«01_k».proof.Proof.Taps
public import proofs.«01_k».proof.Proof.Gen.UpsampleRefIdeal.Read

@[expose] public section

set_option maxRecDepth 16384

noncomputable section

namespace Cert.Taps.Reference

open Cert.UpsampleRefIdeal Cert.UpsampleRefIdeal.Read Idealize.ShloMosaic Idealize.ShloMosaic.TcCoe

theorem bits_half : Ideal.ofBits .f32 0x3F000000#32 = ((1 / 2 : ℝ) : EReal) := by
  simp [Ideal.ofBits, Ideal.ieee, -EReal.coe_mul]; norm_num
theorem bits_one : Ideal.ofBits .f32 0x3F800000#32 = ((1 : ℝ) : EReal) := by
  simp [Ideal.ofBits, Ideal.ieee, -EReal.coe_mul]; norm_num
theorem bits_zero : Ideal.ofBits .f32 0x00000000#32 = ((0 : ℝ) : EReal) := by
  simp [Ideal.ofBits, Ideal.ieee, -EReal.coe_mul]
theorem bits_low : Ideal.ofBits .f32 0xBF000000#32 = ((-(1 / 2) : ℝ) : EReal) := by
  simp [Ideal.ofBits, Ideal.ieee, -EReal.coe_mul]; norm_num
theorem bits_high : Ideal.ofBits .f32 0x42DF0000#32 = ((223 / 2 : ℝ) : EReal) := by
  simp [Ideal.ofBits, Ideal.ieee, -EReal.coe_mul]; norm_num
theorem bits_small : Ideal.ofBits .f32 0x38FA0000#32 = ((1000 / 8388608 : ℝ) : EReal) := by
  simp [Ideal.ofBits, Ideal.ieee, -EReal.coe_mul]; norm_num

/-- A small count as a word, read back signed. -/
theorem toInt_count {k : ℕ} (h : k < 2147483648) : (BitVec.ofNat 32 k).toInt = (k : ℤ) := by
  rw [BitVec.toInt_ofNat']
  simp only [Int.bmod]
  omega

theorem coe_max (x y : ℝ) : max (x : EReal) (y : EReal) = ((max x y : ℝ) : EReal) :=
  (EReal.coe_strictMono.monotone.map_max).symm

theorem coe_sum {n : ℕ} (f : Fin n → ℝ) : ∑ k, (f k : EReal) = ((∑ k, f k : ℝ) : EReal) := by
  induction n with
  | zero => simp
  | succ n ih => rw [Fin.sum_univ_succ, Fin.sum_univ_succ, ih, EReal.coe_add]

theorem ge_coe {x y : ℝ} (h : y ≤ x) : FloatOps.cmpf (F := Ideal) (φ := .f32) .oge (x : EReal) (y : EReal) = 1#1 := by
  show BitVec.ofBool (decide ((y : EReal) ≤ x)) = _
  rw [decide_eq_true (EReal.coe_le_coe_iff.mpr h)]; rfl
theorem le_coe {x y : ℝ} (h : x ≤ y) : FloatOps.cmpf (F := Ideal) (φ := .f32) .ole (x : EReal) (y : EReal) = 1#1 := by
  show BitVec.ofBool (decide ((x : EReal) ≤ y)) = _
  rw [decide_eq_true (EReal.coe_le_coe_iff.mpr h)]; rfl
theorem gt_coe {x y : ℝ} (h : y < x) : FloatOps.cmpf (F := Ideal) (φ := .f32) .ogt (x : EReal) (y : EReal) = 1#1 := by
  show BitVec.ofBool (decide ((y : EReal) < x)) = _
  rw [decide_eq_true (EReal.coe_lt_coe_iff.mpr h)]; rfl
theorem ne_coe {x y : ℝ} (h : x ≠ y) : FloatOps.cmpf (F := Ideal) (φ := .f32) .une (x : EReal) (y : EReal) = 1#1 := by
  show BitVec.ofBool (decide ((x : EReal) ≠ y)) = _
  rw [decide_eq_true (p := (x : EReal) ≠ y) (fun e => h (EReal.coe_eq_coe_iff.mp e))]; rfl
theorem abs_real (x : ℝ) : FloatOps.absf (F := Ideal) (φ := .f32) (x : EReal) = ((|x| : ℝ) : EReal) := by
  show max (x : EReal) (-(x : EReal)) = _
  rw [abs_eq_max_neg, ← coe_max, EReal.coe_neg]
theorem select_one {α : Type} (x y : α) : Scalar.select 1#1 x y = x := if_pos rfl

theorem position (i : S224.Idx) :
    val_main_v10 (F := Ideal) i = (((((i 0).val : ℝ) + 1 / 2) * (1 / 2) - 1 / 2 : ℝ) : EReal) := by
  have e : val_main_v2 (F := Ideal) i = (((i 0).val : ℝ) : EReal) := by
    show (((BitVec.ofNat 32 (i 0).val).toInt : ℝ) : EReal) = _
    rw [toInt_count (lt_trans (i 0).isLt (by decide))]
    norm_cast
  simp only [val_main_v10_apply, val_main_v9_apply, val_main_v8_apply, val_main_v7_apply, val_main_v6_apply, val_main_v5_apply,
    val_main_v4_apply, val_main_v3_apply, val_main_cst_1_apply, val_main_cst_2_apply, val_main_cst_3_apply, val_main_cst_4_apply, e,
    Ideal.ofBits_def, bits_half, bits_zero, Ideal.addf_def, Ideal.mulf_def, Ideal.subf_def]
  rw [← EReal.coe_add, ← EReal.coe_mul, ← EReal.coe_sub, ← EReal.coe_sub, sub_zero]

theorem triangle (p : S112x224.Idx) : val_main_v25 (F := Ideal) p = ((tri (p 1).val (p 0).val : ℝ) : EReal) := by
  have e : ∀ q, val_main_v11 (F := Ideal) q = (((q 0).val : ℝ) : EReal) := fun q => by
    show (((BitVec.ofNat 32 (q 0).val).toInt : ℝ) : EReal) = _
    rw [toInt_count (lt_trans (q 0).isLt (by decide))]
    norm_cast
  simp only [val_main_v25_apply, val_main_v24_apply, val_main_v23_apply, val_main_v22_apply, val_main_v21_apply, val_main_v20_apply,
    val_main_v19_apply, val_main_v18_apply, val_main_v17_apply, val_main_v16_apply, val_main_v15_apply, val_main_v14_apply,
    val_main_v13_apply, val_main_v12_apply, val_main_v1_apply, val_main_cst_apply, val_main_cst_0_apply, val_main_cst_5_apply,
    val_main_cst_6_apply, e, position, Ideal.ofBits_def, bits_half, bits_zero, bits_one, Ideal.addf_def, Ideal.mulf_def,
    Ideal.subf_def, Ideal.hostAbsf_def, Ideal.hostDivf_def, Ideal.maximumf_def]
  rw [coe_max, max_eq_right (by norm_num : (1 / 2 : ℝ) ≤ 1), Ideal.div_coe (by norm_num : (1 : ℝ) ≠ 0), ← EReal.coe_sub,
    abs_real, ← EReal.coe_mul, abs_real, ← EReal.coe_sub, coe_max]
  simp only [div_one, mul_one, abs_abs]
  rfl

theorem sums (i : S224.Idx) : val_main_v26 (F := Ideal) i = ((total 112 (i 0).val : ℝ) : EReal) := by
  rw [val_main_v26_apply]
  simp only [triangle, val_main_cst_7_apply, Ideal.ofBits_def, bits_zero]
  unfold total
  rw [EReal.coe_zero, zero_add]
  exact coe_sum _

theorem weight (p : S112x224.Idx) : val_main_v48 (F := Ideal) p
    = ((tri (p 1).val (p 0).val * (1 / total 112 (p 1).val) : ℝ) : EReal) := by
  have hr : (p 1).val < 2 * 112 := (p 1).isLt
  have hT := total_pos hr
  have hI := inside hr
  simp only [val_main_v48_apply, val_main_v47_apply, val_main_v46_apply, val_main_v45_apply, val_main_v44_apply, val_main_v43_apply,
    val_main_v42_apply, val_main_v41_apply, val_main_v40_apply, val_main_v39_apply, val_main_v38_apply, val_main_v37_apply,
    val_main_v36_apply, val_main_v35_apply, val_main_v34_apply, val_main_v33_apply, val_main_v32_apply, val_main_v31_apply,
    val_main_v30_apply, val_main_v29_apply, val_main_v28_apply, val_main_v27_apply, val_main_cst_8_apply, val_main_cst_9_apply,
    val_main_cst_10_apply, val_main_cst_11_apply, val_main_cst_12_apply, val_main_cst_13_apply, val_main_cst_14_apply,
    triangle, sums, position, Ideal.ofBits_def, bits_zero, bits_one, bits_low, bits_high, bits_small, Ideal.hostAbsf_def,
    Ideal.hostDivf_def, abs_real]
  have h1 : (1000 / 8388608 : ℝ) < |total 112 (p 1).val| := lt_of_lt_of_le (lt_trans (by norm_num) hT) (le_abs_self _)
  have h0 : total 112 (p 1).val ≠ 0 := by linarith
  have h3 : (((p 1).val : ℝ) + 1 / 2) * (1 / 2) - 1 / 2 ≤ 223 / 2 := le_trans hI.2 (by norm_num)
  rw [ge_coe hI.1, le_coe h3, gt_coe h1, ne_coe h0, select_one, select_one]
  show Scalar.select 1#1 _ _ = _
  rw [select_one, Ideal.div_coe h0, ← EReal.coe_mul]

theorem same_weight : val_main_v96 (F := Ideal) = val_main_v48 (F := Ideal) := rfl

/-- The reference's result at an index: the mix along the second axis of mixes along the first. -/
theorem result_apply (x : FVec Ideal S4x112x112x80 .f32) (n : Fin 4) (i j : Fin 224) (o : Fin 80) :
    val_main_v100 (F := Ideal) x (ix4 n i j o)
      = mix j.val j.isLt fun w : Fin 112 => mix i.val i.isLt fun h : Fin 112 => x (ix4 n h w o) := by
  rw [val_main_v100_apply, val_main_v99_apply, val_main_v98_apply, ← dot]
  refine Finset.sum_congr rfl fun w _ => ?_
  rw [same_weight, weight, mul_comm]
  refine congrArg (_ * ·) ?_
  rw [val_main_v97_apply, ← dot]
  refine Finset.sum_congr rfl fun h _ => ?_
  rw [weight, val_main_v0_apply]
  refine congrArg (fun q => _ * x q) ?_
  funext a
  match a with
  | ⟨0, _⟩ => rfl
  | ⟨1, _⟩ => rfl
  | ⟨2, _⟩ => rfl
  | ⟨3, _⟩ => rfl

end Cert.Taps.Reference

end
-- ==== Proof.Upsample.lean ====
/-
  What the resizing program leaves in its result array, and its equality with the reference.

  The first launch mixes the rows of each block, the second the columns; each writes every block of its array once, so
  each array is one function of the array before it. Only the layout changes before, between and after them.
-/
module

public import proofs.«01_k».proof.Defs
public import proofs.«01_k».proof.Proof.UpsampleBody
public import proofs.«01_k».proof.Proof.UpsampleRef
public import proofs.«01_k».proof.Proof.Gen.Upsample.Frame
public import proofs.«01_k».proof.Proof.Gen.UpsampleIdeal.Frame
public import proofs.«01_k».proof.Proof.Gen.UpsampleRefIdeal.Read
public import Idealize.ShloMosaic.Lib.Pipeline.ValueKit
public import Idealize.ShloMosaic.Lib.Claim

@[expose] public section

set_option maxRecDepth 16384

noncomputable section

namespace Cert.Taps.Kernel

open Cert.UpsampleIdeal Cert.UpsampleIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- Mixes of equal taps at equal positions are equal. -/
theorem mix_congr {n r r' : ℕ} {hr : r < 2 * n} {hr' : r' < 2 * n} {x x' : Fin n → EReal} (e : r = r')
    (h : ∀ k, x k = x' k) : mix r hr x = mix r' hr' x' := by
  subst e
  rw [funext h]

/-- The array the first launch leaves. -/
def rows (X : S4x112x8960.Idx → EReal) : S4x224x8960.Idx → EReal := fun j =>
  mix (j 1).val (j 1).isLt fun h : Fin 112 => X (ix3 (j 0) h (j 2))

/-- The array the second launch leaves. -/
def cols (X : S4x224x8960.Idx → EReal) : S4x224x17920.Idx → EReal := fun j =>
  mix (n := 112) ((j 2).val / 80) (by have : (j 2).val < 17920 := (j 2).isLt; omega) fun w : Fin 112 =>
    X (ix3 (j 0) (j 1) ⟨w.val * 80 + (j 2).val % 80, by omega⟩)

section Regions

variable (V : (c : Dev nD) → (b : Ref sig .tc) → Buf (Elt Ideal) ((c : Thread nD τ).loc b))

theorem idx0 : ∀ t : Fin cfg0.N, win0_0.index t = ![t.val / 2, 0, t.val % 2] ∧ win0_1.index t = ![t.val / 2, 0, t.val % 2] :=
  (by decide +kernel : ∀ t : Fin grid0.N, _)

theorem idx1 : ∀ t : Fin cfg1.N, win1_0.index t = ![t.val / 4, t.val % 4, 0] ∧ win1_1.index t = ![t.val / 4, t.val % 4, 0] :=
  (by decide +kernel : ∀ t : Fin grid1.N, _)

theorem final0 (c : Dev nD) : (dat0 V c).arrAt 1 cfg0.N = rows (V c main_v0) := by
  refine (dat0 V c).arrAt_eq_of_covers 1 _ (by decide +kernel) fun t _ y => ?_
  blk_simp
  rw [after0_1]
  frame_out
  obtain ⟨i, l, rfl⟩ : ∃ (i : Fin 224) (l : Fin 4480), y = ix3 (0 : Fin 1) i l :=
    ⟨y 1, y 2, by funext a; fin_cases a; exacts [Fin.ext (Nat.lt_one_iff.mp (y 0).isLt), rfl, rfl]⟩
  refine (rows_apply _ i l).trans ?_
  unfold rows
  refine mix_congr ?_ fun h => ?_
  · blk_simp [idx0 t]
  · blk_ext [iblk0, idx0 t]

theorem final1 (c : Dev nD) : (dat1 V c).arrAt 1 cfg1.N = cols (V c main_v1) := by
  refine (dat1 V c).arrAt_eq_of_covers 1 _ (by decide +kernel) fun t _ y => ?_
  blk_simp
  rw [after1_1]
  frame_out
  obtain ⟨i, j, o, rfl⟩ : ∃ (i : Fin 56) (j : Fin 224) (o : Fin 80), y = ix3 (0 : Fin 1) i (⟨j.val * 80 + o.val, by omega⟩ : Fin 17920) := by
    have hl : (y 2).val < 17920 := (y 2).isLt
    refine ⟨y 1, ⟨(y 2).val / 80, by omega⟩, ⟨(y 2).val % 80, by omega⟩, ?_⟩
    funext a
    fin_cases a
    exacts [Fin.ext (Nat.lt_one_iff.mp (y 0).isLt), rfl, Fin.ext (by show (y 2).val = (y 2).val / 80 * 80 + (y 2).val % 80; omega)]
  refine (cols_apply _ i j o).trans ?_
  unfold cols
  refine mix_congr ?_ fun w => ?_
  · blk_simp [idx1 t]
    dsimp only
    omega
  · blk_ext [iblk1, idx1 t]

end Regions

variable (m : (ℓ : Loc nD τ sig) → Buf (Elt Ideal) ℓ) (ρ : Dev nD → PrngReg)

/-- The result array of the whole run. -/
def result (c : Dev nD) : S4x224x224x80.Idx → EReal :=
  shapeCast S4x224x224x80 (cols (rows (shapeCast S4x112x8960 (m ((c : Thread nD τ).loc main_arg0)) shapeCasts_S4x112x112x80_S4x112x8960))) shapeCasts_S4x224x17920_S4x224x224x80

theorem entry0 (c : Dev nD) : V1 m ρ c main_v0
    = shapeCast S4x112x8960 (m ((c : Thread nD τ).loc main_arg0)) shapeCasts_S4x112x112x80_S4x112x8960 := by
  show StableHlo.after hostOps0 (W0 m ρ c) (Proc.devRef .tc main_v0) = _
  after_results
  rfl

theorem entry1 (c : Dev nD) : V2 m ρ c main_v1 = rows (V1 m ρ c main_v0) :=
  (W2_arr m ρ c 1).trans (final0 (V1 m ρ) c)

theorem exit1 (c : Dev nD) : W3 m ρ c (Proc.devRef .tc main_v2) = cols (V2 m ρ c main_v1) :=
  (W3_arr m ρ c 1).trans (final1 (V2 m ρ) c)

theorem last (c : Dev nD) : W4 m ρ c (Proc.devRef .tc main_v3) = result m c := by
  show StableHlo.after hostOps2 (W3 m ρ c) (Proc.devRef .tc main_v3) = _
  after_results
  rw [exit1, entry1, entry0]
  rfl

/-- The result at an index: the mix along the second axis of mixes along the first. -/
theorem result_apply (c : Dev nD) (n : Fin 4) (i j : Fin 224) (o : Fin 80) :
    result m c (ix4 n i j o) = mix j.val j.isLt fun w : Fin 112 => mix i.val i.isLt fun h : Fin 112 =>
      (m ((c : Thread nD τ).loc main_arg0) : S4x112x112x80.Idx → EReal) (ix4 n h w o) := by
  unfold result
  refine (shapeCast_apply _ _ (ix4 n i j o) (ix3 n i (⟨j.val * 80 + o.val, by omega⟩ : Fin 17920)) ?_).trans ?_
  · rw [Shape.rowMajor_val_three, Shape.rowMajor_val_four]
    show (n.val * 224 + i.val) * 17920 + (j.val * 80 + o.val) = ((n.val * 224 + i.val) * 224 + j.val) * 80 + o.val
    omega
  unfold cols
  refine mix_congr (by show (j.val * 80 + o.val) / 80 = j.val; omega) fun w => ?_
  unfold rows
  refine mix_congr rfl fun h => ?_
  refine shapeCast_apply _ _ _ (ix4 n h w o) ?_
  rw [Shape.rowMajor_val_three, Shape.rowMajor_val_four]
  show ((n.val * 112 + h.val) * 112 + w.val) * 80 + o.val
    = (n.val * 112 + h.val) * 8960 + (w.val * 80 + (j.val * 80 + o.val) % 80)
  omega

set_option backward.isDefEq.respectTransparency.types false in
/-- The run: the result array holds `result`, the argument is unchanged. -/
theorem run : θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c => ⟨(h c _ (mem_uc main_v3 (by decide))).trans (last m ρ c),
      (h c _ (mem_uc main_arg0 (by decide))).trans (W4_main_arg0 m ρ c)⟩)

end Cert.Taps.Kernel

namespace Cert.Taps

open Idealize.ShloMosaic Idealize.ShloMosaic.TcCoe Idealize.SL.Sem

/-- The two resizing programs end with the same array. -/
theorem algebraic : Cert.algebraic_UpsampleIdeal_UpsampleRefIdeal (hUpsampleIdeal := Cert.UpsampleIdeal.Gen.facts)
    (hUpsampleRefIdeal := Cert.UpsampleRefIdeal.Gen.facts) := by
  intro m g m' g' _ hagree
  refine ⟨fun c => Kernel.result m c, Kernel.run m g,
    (θ_run Cert.UpsampleRefIdeal.defs _ _).mono (fun r h c => ⟨?_, (h c).2⟩) (Cert.UpsampleRefIdeal.Value.run m' g')⟩
  refine ((h c).1.trans (Cert.UpsampleRefIdeal.Read.val_main_v100_eq ..)).trans ?_
  rw [hagree c]
  funext y
  obtain ⟨n, i, j, o, rfl⟩ : ∃ (n : Fin 4) (i j : Fin 224) (o : Fin 80), y = ix4 n i j o :=
    ⟨y 0, y 1, y 2, y 3, by funext a; fin_cases a <;> rfl⟩
  exact (Reference.result_apply ..).trans (Kernel.result_apply m c n i j o).symm

end Cert.Taps

end
-- ==== Proof.MiddleBody.lean ====
/-
  The bodies of the two resizing launches at side 56, read at an index: each mixes two taps along its own axis.
-/
module

public import proofs.«01_k».proof.Proof.UpsampleBody
public import proofs.«01_k».proof.Proof.Gen.MiddleIdeal.Skeleton

@[expose] public section

set_option maxRecDepth 16384

noncomputable section

namespace Cert.Halves.Kernel

open Cert.Taps Cert.Taps.Kernel Cert.MiddleIdeal Cert.MiddleIdeal.Gen Idealize.ShloMosaic Idealize.ShloMosaic.TcCoe

/-- The first launch's body on one block: rows mixed, lanes untouched. -/
theorem rows_apply (v : Vec Ideal S1x56x4480 .f32) (i : Fin 112) (l : Fin 4480) :
    k0_pay1 (F := Ideal) v (ix3 0 i l) = mix i.val i.isLt fun h : Fin 56 => v (ix3 0 h l) := by
  have hi := i.isLt
  pointwise [k0_pay1]
  by_cases h : i.val % 2 < 1
  · have hf := far_even (n := 56) h
    rw [dif_pos h]
    refine mix_eq (n := 56) hi _ rfl ?_
    split
    all_goals exact congrArg v ((ix3_inj ..).2 ⟨rfl, Fin.ext (by show _ = far 56 i.val; rw [hf] <;> dsimp only <;> omega), rfl⟩)
  · have hf := far_odd (n := 56) h
    rw [dif_neg h]
    refine mix_eq (n := 56) hi _ rfl ?_
    split
    all_goals exact congrArg v ((ix3_inj ..).2 ⟨rfl, Fin.ext (by show _ = far 56 i.val; rw [hf] <;> dsimp only <;> omega), rfl⟩)

/-- The second launch's body on one block: along a row's lanes, columns of 80 classes mixed. -/
theorem cols_apply (v : Vec Ideal S1x56x4480 .f32) (i : Fin 56) (j : Fin 112) (o : Fin 80) :
    k1_pay1 (F := Ideal) v (ix3 0 i ⟨j.val * 80 + o.val, by omega⟩)
      = mix j.val j.isLt fun w : Fin 56 => v (ix3 0 i ⟨w.val * 80 + o.val, by omega⟩) := by
  have hj := j.isLt
  have ho := o.isLt
  have e1 : (j.val * 80 + o.val) / 80 = j.val := by omega
  have e2 : (j.val * 80 + o.val) / 160 = j.val / 2 := by omega
  have e3 : (j.val * 80 + o.val) % 80 = o.val := by omega
  pointwise [k1_pay1]
  by_cases h : (j.val * 80 + o.val) / 80 % 2 < 1
  · have hf := far_even (n := 56) (r := j.val) (by omega)
    rw [dif_pos h]
    refine mix_eq (n := 56) hj _ (congrArg v ((ix3_inj ..).2 ⟨rfl, rfl, Fin.ext (by simp only [e2, e3])⟩)) ?_
    split
    all_goals
      refine congrArg v ((ix3_inj ..).2 ⟨rfl, rfl, Fin.ext ?_⟩)
      dsimp only
      omega
  · have hf := far_odd (n := 56) (r := j.val) (by omega)
    rw [dif_neg h]
    refine mix_eq (n := 56) hj _ (congrArg v ((ix3_inj ..).2 ⟨rfl, rfl, Fin.ext (by simp only [e2, e3])⟩)) ?_
    split
    all_goals
      refine congrArg v ((ix3_inj ..).2 ⟨rfl, rfl, Fin.ext ?_⟩)
      dsimp only
      omega

end Cert.Halves.Kernel

end
-- ==== Proof.MiddleRef.lean ====
/-
  The reference's resize from side 56 to side 112, read at an index: along each of the two axes, the mix of two taps.
-/
module

public import proofs.«01_k».proof.Proof.UpsampleRef
public import proofs.«01_k».proof.Proof.Gen.MiddleRefIdeal.Read

@[expose] public section

set_option maxRecDepth 16384

noncomputable section

namespace Cert.Halves.Reference

open Cert.Taps Cert.Taps.Reference Cert.MiddleRefIdeal Cert.MiddleRefIdeal.Read Idealize.ShloMosaic Idealize.ShloMosaic.TcCoe

theorem bits_top : Ideal.ofBits .f32 0x425E0000#32 = ((111 / 2 : ℝ) : EReal) := by
  simp [Ideal.ofBits, Ideal.ieee, -EReal.coe_mul]; norm_num

theorem position (i : S112.Idx) :
    val_main_v10 (F := Ideal) i = (((((i 0).val : ℝ) + 1 / 2) * (1 / 2) - 1 / 2 : ℝ) : EReal) := by
  have e : val_main_v2 (F := Ideal) i = (((i 0).val : ℝ) : EReal) := by
    show (((BitVec.ofNat 32 (i 0).val).toInt : ℝ) : EReal) = _
    rw [toInt_count (lt_trans (i 0).isLt (by decide))]
    norm_cast
  simp only [val_main_v10_apply, val_main_v9_apply, val_main_v8_apply, val_main_v7_apply, val_main_v6_apply, val_main_v5_apply,
    val_main_v4_apply, val_main_v3_apply, val_main_cst_1_apply, val_main_cst_2_apply, val_main_cst_3_apply, val_main_cst_4_apply, e,
    Ideal.ofBits_def, bits_half, bits_zero, Ideal.addf_def, Ideal.mulf_def, Ideal.subf_def]
  rw [← EReal.coe_add, ← EReal.coe_mul, ← EReal.coe_sub, ← EReal.coe_sub, sub_zero]

theorem triangle (p : S56x112.Idx) : val_main_v25 (F := Ideal) p = ((tri (p 1).val (p 0).val : ℝ) : EReal) := by
  have e : ∀ q, val_main_v11 (F := Ideal) q = (((q 0).val : ℝ) : EReal) := fun q => by
    show (((BitVec.ofNat 32 (q 0).val).toInt : ℝ) : EReal) = _
    rw [toInt_count (lt_trans (q 0).isLt (by decide))]
    norm_cast
  simp only [val_main_v25_apply, val_main_v24_apply, val_main_v23_apply, val_main_v22_apply, val_main_v21_apply, val_main_v20_apply,
    val_main_v19_apply, val_main_v18_apply, val_main_v17_apply, val_main_v16_apply, val_main_v15_apply, val_main_v14_apply,
    val_main_v13_apply, val_main_v12_apply, val_main_v1_apply, val_main_cst_apply, val_main_cst_0_apply, val_main_cst_5_apply,
    val_main_cst_6_apply, e, position, Ideal.ofBits_def, bits_half, bits_zero, bits_one, Ideal.addf_def, Ideal.mulf_def,
    Ideal.subf_def, Ideal.hostAbsf_def, Ideal.hostDivf_def, Ideal.maximumf_def]
  rw [coe_max, max_eq_right (by norm_num : (1 / 2 : ℝ) ≤ 1), Ideal.div_coe (by norm_num : (1 : ℝ) ≠ 0), ← EReal.coe_sub,
    abs_real, ← EReal.coe_mul, abs_real, ← EReal.coe_sub, coe_max]
  simp only [div_one, mul_one, abs_abs]
  rfl

theorem sums (i : S112.Idx) : val_main_v26 (F := Ideal) i = ((total 56 (i 0).val : ℝ) : EReal) := by
  rw [val_main_v26_apply]
  simp only [triangle, val_main_cst_7_apply, Ideal.ofBits_def, bits_zero]
  unfold total
  rw [EReal.coe_zero, zero_add]
  exact coe_sum _

theorem weight (p : S56x112.Idx) : val_main_v48 (F := Ideal) p
    = ((tri (p 1).val (p 0).val * (1 / total 56 (p 1).val) : ℝ) : EReal) := by
  have hr : (p 1).val < 2 * 56 := (p 1).isLt
  have hT := total_pos hr
  have hI := inside hr
  simp only [val_main_v48_apply, val_main_v47_apply, val_main_v46_apply, val_main_v45_apply, val_main_v44_apply, val_main_v43_apply,
    val_main_v42_apply, val_main_v41_apply, val_main_v40_apply, val_main_v39_apply, val_main_v38_apply, val_main_v37_apply,
    val_main_v36_apply, val_main_v35_apply, val_main_v34_apply, val_main_v33_apply, val_main_v32_apply, val_main_v31_apply,
    val_main_v30_apply, val_main_v29_apply, val_main_v28_apply, val_main_v27_apply, val_main_cst_8_apply, val_main_cst_9_apply,
    val_main_cst_10_apply, val_main_cst_11_apply, val_main_cst_12_apply, val_main_cst_13_apply, val_main_cst_14_apply,
    triangle, sums, position, Ideal.ofBits_def, bits_zero, bits_one, bits_low, bits_top, bits_small, Ideal.hostAbsf_def,
    Ideal.hostDivf_def, abs_real]
  have h1 : (1000 / 8388608 : ℝ) < |total 56 (p 1).val| := lt_of_lt_of_le (lt_trans (by norm_num) hT) (le_abs_self _)
  have h0 : total 56 (p 1).val ≠ 0 := by linarith
  have h3 : (((p 1).val : ℝ) + 1 / 2) * (1 / 2) - 1 / 2 ≤ 111 / 2 := le_trans hI.2 (by norm_num)
  rw [ge_coe hI.1, le_coe h3, gt_coe h1, ne_coe h0, select_one, select_one]
  show Scalar.select 1#1 _ _ = _
  rw [select_one, Ideal.div_coe h0, ← EReal.coe_mul]

theorem same_weight : val_main_v96 (F := Ideal) = val_main_v48 (F := Ideal) := rfl

/-- The reference's result at an index: the mix along the second axis of mixes along the first. -/
theorem result_apply (x : FVec Ideal S4x56x56x80 .f32) (n : Fin 4) (i j : Fin 112) (o : Fin 80) :
    val_main_v100 (F := Ideal) x (ix4 n i j o)
      = mix j.val j.isLt fun w : Fin 56 => mix i.val i.isLt fun h : Fin 56 => x (ix4 n h w o) := by
  rw [val_main_v100_apply, val_main_v99_apply, val_main_v98_apply, ← dot]
  refine Finset.sum_congr rfl fun w _ => ?_
  rw [same_weight, weight, mul_comm]
  refine congrArg (_ * ·) ?_
  rw [val_main_v97_apply, ← dot]
  refine Finset.sum_congr rfl fun h _ => ?_
  rw [weight, val_main_v0_apply]
  refine congrArg (fun q => _ * x q) ?_
  funext a
  match a with
  | ⟨0, _⟩ => rfl
  | ⟨1, _⟩ => rfl
  | ⟨2, _⟩ => rfl
  | ⟨3, _⟩ => rfl

end Cert.Halves.Reference

end
-- ==== Proof.Middle.lean ====
/-
  What the resizing program at side 56 leaves in its result array, and its equality with the reference.

  The first launch mixes the rows of each block, the second the columns; each writes every block of its array once, so
  each array is one function of the array before it. Only the layout changes before, between and after them.
-/
module

public import proofs.«01_k».proof.Defs
public import proofs.«01_k».proof.Proof.Upsample
public import proofs.«01_k».proof.Proof.MiddleBody
public import proofs.«01_k».proof.Proof.MiddleRef
public import proofs.«01_k».proof.Proof.Gen.Middle.Frame
public import proofs.«01_k».proof.Proof.Gen.MiddleIdeal.Frame
public import proofs.«01_k».proof.Proof.Gen.MiddleRefIdeal.Read
public import Idealize.ShloMosaic.Lib.Pipeline.ValueKit
public import Idealize.ShloMosaic.Lib.Claim

@[expose] public section

set_option maxRecDepth 16384

noncomputable section

namespace Cert.Halves.Kernel

open Cert.Taps Cert.Taps.Kernel Cert.MiddleIdeal Cert.MiddleIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The array the first launch leaves. -/
def rows (X : S4x56x4480.Idx → EReal) : S4x112x4480.Idx → EReal := fun j =>
  mix (j 1).val (j 1).isLt fun h : Fin 56 => X (ix3 (j 0) h (j 2))

/-- The array the second launch leaves. -/
def cols (X : S4x112x4480.Idx → EReal) : S4x112x8960.Idx → EReal := fun j =>
  mix (n := 56) ((j 2).val / 80) (by have : (j 2).val < 8960 := (j 2).isLt; omega) fun w : Fin 56 =>
    X (ix3 (j 0) (j 1) ⟨w.val * 80 + (j 2).val % 80, by omega⟩)

section Regions

variable (V : (c : Dev nD) → (b : Ref sig .tc) → Buf (Elt Ideal) ((c : Thread nD τ).loc b))

theorem idx0 : ∀ t : Fin cfg0.N, win0_0.index t = ![t.val, 0, 0] ∧ win0_1.index t = ![t.val, 0, 0] :=
  (by decide +kernel : ∀ t : Fin grid0.N, _)

theorem idx1 : ∀ t : Fin cfg1.N, win1_0.index t = ![t.val / 2, t.val % 2, 0] ∧ win1_1.index t = ![t.val / 2, t.val % 2, 0] :=
  (by decide +kernel : ∀ t : Fin grid1.N, _)

theorem final0 (c : Dev nD) : (dat0 V c).arrAt 1 cfg0.N = rows (V c main_v0) := by
  refine (dat0 V c).arrAt_eq_of_covers 1 _ (by decide +kernel) fun t _ y => ?_
  blk_simp
  rw [after0_1]
  frame_out
  obtain ⟨i, l, rfl⟩ : ∃ (i : Fin 112) (l : Fin 4480), y = ix3 (0 : Fin 1) i l :=
    ⟨y 1, y 2, by funext a; fin_cases a; exacts [Fin.ext (Nat.lt_one_iff.mp (y 0).isLt), rfl, rfl]⟩
  refine (rows_apply _ i l).trans ?_
  unfold rows
  refine mix_congr ?_ fun h => ?_
  · blk_simp [idx0 t]
  · blk_ext [iblk0, idx0 t]

theorem final1 (c : Dev nD) : (dat1 V c).arrAt 1 cfg1.N = cols (V c main_v1) := by
  refine (dat1 V c).arrAt_eq_of_covers 1 _ (by decide +kernel) fun t _ y => ?_
  blk_simp
  rw [after1_1]
  frame_out
  obtain ⟨i, j, o, rfl⟩ : ∃ (i : Fin 56) (j : Fin 112) (o : Fin 80), y = ix3 (0 : Fin 1) i (⟨j.val * 80 + o.val, by omega⟩ : Fin 8960) := by
    have hl : (y 2).val < 8960 := (y 2).isLt
    refine ⟨y 1, ⟨(y 2).val / 80, by omega⟩, ⟨(y 2).val % 80, by omega⟩, ?_⟩
    funext a
    fin_cases a
    exacts [Fin.ext (Nat.lt_one_iff.mp (y 0).isLt), rfl, Fin.ext (by show (y 2).val = (y 2).val / 80 * 80 + (y 2).val % 80; omega)]
  refine (cols_apply _ i j o).trans ?_
  unfold cols
  refine mix_congr ?_ fun w => ?_
  · blk_simp [idx1 t]
    dsimp only
    omega
  · blk_ext [iblk1, idx1 t]

end Regions

variable (m : (ℓ : Loc nD τ sig) → Buf (Elt Ideal) ℓ) (ρ : Dev nD → PrngReg)

/-- The result array of the whole run. -/
def result (c : Dev nD) : S4x112x112x80.Idx → EReal :=
  shapeCast S4x112x112x80 (cols (rows (shapeCast S4x56x4480 (m ((c : Thread nD τ).loc main_arg0)) shapeCasts_S4x56x56x80_S4x56x4480))) shapeCasts_S4x112x8960_S4x112x112x80

theorem entry0 (c : Dev nD) : V1 m ρ c main_v0
    = shapeCast S4x56x4480 (m ((c : Thread nD τ).loc main_arg0)) shapeCasts_S4x56x56x80_S4x56x4480 := by
  show StableHlo.after hostOps0 (W0 m ρ c) (Proc.devRef .tc main_v0) = _
  after_results
  rfl

theorem entry1 (c : Dev nD) : V2 m ρ c main_v1 = rows (V1 m ρ c main_v0) :=
  (W2_arr m ρ c 1).trans (final0 (V1 m ρ) c)

theorem exit1 (c : Dev nD) : W3 m ρ c (Proc.devRef .tc main_v2) = cols (V2 m ρ c main_v1) :=
  (W3_arr m ρ c 1).trans (final1 (V2 m ρ) c)

theorem last (c : Dev nD) : W4 m ρ c (Proc.devRef .tc main_v3) = result m c := by
  show StableHlo.after hostOps2 (W3 m ρ c) (Proc.devRef .tc main_v3) = _
  after_results
  rw [exit1, entry1, entry0]
  rfl

/-- The result at an index: the mix along the second axis of mixes along the first. -/
theorem result_apply (c : Dev nD) (n : Fin 4) (i j : Fin 112) (o : Fin 80) :
    result m c (ix4 n i j o) = mix j.val j.isLt fun w : Fin 56 => mix i.val i.isLt fun h : Fin 56 =>
      (m ((c : Thread nD τ).loc main_arg0) : S4x56x56x80.Idx → EReal) (ix4 n h w o) := by
  unfold result
  refine (shapeCast_apply _ _ (ix4 n i j o) (ix3 n i (⟨j.val * 80 + o.val, by omega⟩ : Fin 8960)) ?_).trans ?_
  · rw [Shape.rowMajor_val_three, Shape.rowMajor_val_four]
    show (n.val * 112 + i.val) * 8960 + (j.val * 80 + o.val) = ((n.val * 112 + i.val) * 112 + j.val) * 80 + o.val
    omega
  unfold cols
  refine mix_congr (by show (j.val * 80 + o.val) / 80 = j.val; omega) fun w => ?_
  unfold rows
  refine mix_congr rfl fun h => ?_
  refine shapeCast_apply _ _ _ (ix4 n h w o) ?_
  rw [Shape.rowMajor_val_three, Shape.rowMajor_val_four]
  show ((n.val * 56 + h.val) * 56 + w.val) * 80 + o.val
    = (n.val * 56 + h.val) * 4480 + (w.val * 80 + (j.val * 80 + o.val) % 80)
  omega

set_option backward.isDefEq.respectTransparency.types false in
/-- The run: the result array holds `result`, the argument is unchanged. -/
theorem run : θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c => ⟨(h c _ (mem_uc main_v3 (by decide))).trans (last m ρ c),
      (h c _ (mem_uc main_arg0 (by decide))).trans (W4_main_arg0 m ρ c)⟩)

end Cert.Halves.Kernel

namespace Cert.Halves

open Idealize.ShloMosaic Idealize.ShloMosaic.TcCoe Idealize.SL.Sem

/-- The two resizing programs end with the same array. -/
theorem algebraic : Cert.algebraic_MiddleIdeal_MiddleRefIdeal (hMiddleIdeal := Cert.MiddleIdeal.Gen.facts)
    (hMiddleRefIdeal := Cert.MiddleRefIdeal.Gen.facts) := by
  intro m g m' g' _ hagree
  refine ⟨fun c => Kernel.result m c, Kernel.run m g,
    (θ_run Cert.MiddleRefIdeal.defs _ _).mono (fun r h c => ⟨?_, (h c).2⟩) (Cert.MiddleRefIdeal.Value.run m' g')⟩
  refine ((h c).1.trans (Cert.MiddleRefIdeal.Read.val_main_v100_eq ..)).trans ?_
  rw [hagree c]
  funext y
  obtain ⟨n, i, j, o, rfl⟩ : ∃ (n : Fin 4) (i j : Fin 112) (o : Fin 80), y = ix4 n i j o :=
    ⟨y 0, y 1, y 2, y 3, by funext a; fin_cases a <;> rfl⟩
  exact (Reference.result_apply ..).trans (Kernel.result_apply m c n i j o).symm

end Cert.Halves

end
-- ==== Proof.WriteBack.lean ====
/-
  The write-back of the refined points, read at one element: where the update that lands last comes from.
-/
module

public import proofs.«01_k».proof.Proof.Gen.FinishIdeal
public import proofs.«01_k».proof.Proof.Gen.FinishRefIdeal
public import Idealize.ShloMosaic.Lib.Pointwise
public import Idealize.ShloMosaic.Lib.Routing.OpsPair

@[expose] public section

set_option maxRecDepth 16384

noncomputable section

namespace Cert.WriteBack

open Idealize.ShloMosaic Idealize.ShloMosaic.TcCoe

/-- A left fold that overwrites at every hit ends with the value of the last hit. -/
theorem fold_last {N : ℕ} {α : Type} (P : Fin N → Prop) [DecidablePred P] (v : Fin N → α) (k : Fin N) (hk : P k)
    (hl : ∀ n, k < n → ¬ P n) : ∀ (l : List (Fin N)) (a : α), l.Pairwise (· < ·) → k ∈ l →
      l.foldl (fun a n => if P n then v n else a) a = v k
  | [], _, _, h => by cases h
  | n :: l, a, hp, h => by
    rw [List.foldl_cons]
    rcases List.mem_cons.1 h with rfl | h
    · rw [if_pos hk]
      have hq : ∀ n ∈ l, ¬ P n := fun n hn => hl n (List.rel_of_pairwise_cons hp hn)
      clear hp h
      induction l with
      | nil => rfl
      | cons n l ih =>
        rw [List.foldl_cons, if_neg (hq n (by simp))]
        exact ih fun n hn => hq n (List.mem_cons_of_mem _ hn)
    · exact fold_last P v k hk hl l _ (List.pairwise_cons.1 hp).2 h

/-- A left fold without a hit keeps what it started from. -/
theorem fold_none {N : ℕ} {α : Type} (P : Fin N → Prop) [DecidablePred P] (v : Fin N → α) (h : ∀ n, ¬ P n) :
    ∀ (l : List (Fin N)) (a : α), l.foldl (fun a n => if P n then v n else a) a = a
  | [], _ => rfl
  | n :: l, a => by rw [List.foldl_cons, if_neg (h n)]; exact fold_none P v h l a

variable {α : Type} {s si u : Shape} {w : ℕ}

/-- An overwriting scatter at an element holds the update that lands there last. -/
theorem scatter_last (d : ScatterDims s si u) (x : s.Idx → α) (idx : IVec si w) (upd : u.Idx → α) (i : s.Idx) (k : u.Idx)
    (hk : d.resultIdx? k idx = some i) (hl : ∀ k', (u.rowMajor k).val < (u.rowMajor k').val → d.resultIdx? k' idx ≠ some i) :
    Host.scatter d (fun _ b => b) x idx upd i = upd k := by
  rw [Routing.scatter_at]
  refine (fold_last (fun n => d.resultIdx? (u.rowMajor.symm n) idx = some i) (fun n => upd (u.rowMajor.symm n)) (u.rowMajor k)
    (by rw [Equiv.symm_apply_apply]; exact hk) (fun n hn => hl _ ?_) _ _ (List.pairwise_lt_finRange _) (List.mem_finRange _)).trans ?_
  · rw [Equiv.apply_symm_apply]; exact hn
  · rw [Equiv.symm_apply_apply]

/-- An overwriting scatter at an element where nothing lands keeps the operand. -/
theorem scatter_none (d : ScatterDims s si u) (x : s.Idx → α) (idx : IVec si w) (upd : u.Idx → α) (i : s.Idx)
    (h : ∀ k, d.resultIdx? k idx ≠ some i) : Host.scatter d (fun _ b => b) x idx upd i = x i := by
  rw [Routing.scatter_at]
  exact fold_none (fun n => d.resultIdx? (u.rowMajor.symm n) idx = some i) (fun n => upd (u.rowMajor.symm n)) (fun n => h _) _ _

/-- The update at point `k` of row `r'` and class `c'` of the kernel's write-back lands where its two index words say. -/
theorem lands (idx : IVec FinishIdeal.S4x784x2 32) (r' : Fin 4) (k : Fin 784) (c' : Fin 80) (r : Fin 4) (p : Fin 50176) (c : Fin 80) :
    FinishIdeal.scatter_S4x50176x80_S4x784x2_S4x784x80_2_01_01_2.resultIdx? (ix3 r' k c') idx = some (ix3 r p c)
      ↔ (idx (ix3 r' k 0)).toInt = r.val ∧ (idx (ix3 r' k 1)).toInt = p.val ∧ c' = c := by
  rw [Routing.resultIdx?_eq_some]
  generalize hd : FinishIdeal.scatter_S4x50176x80_S4x784x2_S4x784x80_2_01_01_2 = d
  have s0 : d.start (ix3 r' k c') idx (0 : Fin 3) + (d.window (ix3 r' k c') (0 : Fin 3) : Int) = (idx (ix3 r' k 0)).toInt := by
    subst hd
    refine (add_zero _).trans (congrArg (fun i => (idx i).toInt) (?_ : _ = ix3 r' k (0 : Fin 2)))
    funext a; fin_cases a <;> rfl
  have s1 : d.start (ix3 r' k c') idx (1 : Fin 3) + (d.window (ix3 r' k c') (1 : Fin 3) : Int) = (idx (ix3 r' k 1)).toInt := by
    subst hd
    refine (add_zero _).trans (congrArg (fun i => (idx i).toInt) (?_ : _ = ix3 r' k (1 : Fin 2)))
    funext a; fin_cases a <;> rfl
  have s2 : d.start (ix3 r' k c') idx (2 : Fin 3) + (d.window (ix3 r' k c') (2 : Fin 3) : Int) = c'.val := by
    subst hd
    exact zero_add _
  clear hd
  constructor
  · intro h
    exact ⟨s0.symm.trans (h (0 : Fin 3)), s1.symm.trans (h (1 : Fin 3)), Fin.ext (Nat.cast_injective (s2.symm.trans (h (2 : Fin 3))))⟩
  · rintro ⟨h0, h1, rfl⟩ a
    match a with
    | ⟨0, _⟩ => exact s0.trans h0
    | ⟨1, _⟩ => exact s1.trans h1
    | ⟨2, _⟩ => exact s2

/-- The update of the reference's write-back lands where its three index words say. -/
theorem lands_ref (idx : IVec FinishRefIdeal.S4x80x784x3 32) (r' : Fin 4) (c' : Fin 80) (k : Fin 784) (r : Fin 4) (c : Fin 80) (p : Fin 50176) :
    FinishRefIdeal.scatter_S4x80x50176_S4x80x784x3_S4x80x784_n_012_012_3.resultIdx? (ix3 r' c' k) idx = some (ix3 r c p)
      ↔ (idx (ix4 r' c' k 0)).toInt = r.val ∧ (idx (ix4 r' c' k 1)).toInt = c.val ∧ (idx (ix4 r' c' k 2)).toInt = p.val := by
  rw [Routing.resultIdx?_eq_some]
  generalize hd : FinishRefIdeal.scatter_S4x80x50176_S4x80x784x3_S4x80x784_n_012_012_3 = d
  have hs : ∀ a : Fin 3, d.start (ix3 r' c' k) idx a + (d.window (ix3 r' c' k) a : Int) = (idx (ix4 r' c' k a)).toInt := by
    subst hd
    intro a
    fin_cases a
    all_goals
      refine (add_zero _).trans (congrArg (fun i => (idx i).toInt) ?_)
      funext b; fin_cases b <;> rfl
  clear hd
  constructor
  · intro h
    exact ⟨(hs 0).symm.trans (h (0 : Fin 3)), (hs 1).symm.trans (h (1 : Fin 3)), (hs 2).symm.trans (h (2 : Fin 3))⟩
  · rintro ⟨h0, h1, h2⟩ a
    match a with
    | ⟨0, _⟩ => exact (hs 0).trans h0
    | ⟨1, _⟩ => exact (hs 1).trans h1
    | ⟨2, _⟩ => exact (hs 2).trans h2

/-- The two write-backs agree element by element: both keep the last point that names the place. -/
theorem same {α : Type} (W : Fin 4 → Fin 784 → BitVec 32)
    (x : FinishIdeal.S4x50176x80.Idx → α) (idx : IVec FinishIdeal.S4x784x2 32) (upd : FinishIdeal.S4x784x80.Idx → α)
    (x' : FinishRefIdeal.S4x80x50176.Idx → α) (idx' : IVec FinishRefIdeal.S4x80x784x3 32) (upd' : FinishRefIdeal.S4x80x784.Idx → α)
    (i0 : ∀ r k, (idx (ix3 r k 0)).toInt = (r.val : Int)) (i1 : ∀ r k, idx (ix3 r k 1) = W r k)
    (j0 : ∀ r c k, (idx' (ix4 r c k 0)).toInt = (r.val : Int)) (j1 : ∀ r c k, (idx' (ix4 r c k 1)).toInt = (c.val : Int))
    (j2 : ∀ r c k, idx' (ix4 r c k 2) = W r k) (r : Fin 4) (p : Fin 50176) (c : Fin 80)
    (hx : x' (ix3 r c p) = x (ix3 r p c)) (hu : ∀ k, upd' (ix3 r c k) = upd (ix3 r k c)) :
    Host.scatter FinishRefIdeal.scatter_S4x80x50176_S4x80x784x3_S4x80x784_n_012_012_3 (fun _ b => b) x' idx' upd' (ix3 r c p)
      = Host.scatter FinishIdeal.scatter_S4x50176x80_S4x784x2_S4x784x80_2_01_01_2 (fun _ b => b) x idx upd (ix3 r p c) := by
  have hit : ∀ r' k c', FinishIdeal.scatter_S4x50176x80_S4x784x2_S4x784x80_2_01_01_2.resultIdx? (ix3 r' k c') idx = some (ix3 r p c)
      ↔ r' = r ∧ (W r' k).toInt = p.val ∧ c' = c := fun r' k c' => by
    rw [lands, i0, i1, Nat.cast_inj, ← Fin.ext_iff]
  have hit' : ∀ r' c' k, FinishRefIdeal.scatter_S4x80x50176_S4x80x784x3_S4x80x784_n_012_012_3.resultIdx? (ix3 r' c' k) idx' = some (ix3 r c p)
      ↔ r' = r ∧ c' = c ∧ (W r' k).toInt = p.val := fun r' c' k => by
    rw [lands_ref, j0, j1, j2, Nat.cast_inj, Nat.cast_inj, ← Fin.ext_iff, ← Fin.ext_iff]
  by_cases h : ∃ k, (W r k).toInt = (p.val : Int)
  · obtain ⟨k, hk, hmax⟩ : ∃ k, (W r k).toInt = (p.val : Int) ∧ ∀ k', (W r k').toInt = (p.val : Int) → k' ≤ k := by
      obtain ⟨k, hk, hm⟩ := Finset.exists_max_image (Finset.univ.filter fun k => (W r k).toInt = (p.val : Int)) id
        (by obtain ⟨k, hk⟩ := h; exact ⟨k, by simpa using hk⟩)
      exact ⟨k, by simpa using hk, fun k' h' => hm k' (by simpa using h')⟩
    rw [scatter_last _ x idx upd (ix3 r p c) (ix3 r k c) ((hit r k c).2 ⟨rfl, hk, rfl⟩) fun y hy => ?_,
      scatter_last _ x' idx' upd' (ix3 r c p) (ix3 r c k) ((hit' r c k).2 ⟨rfl, rfl, hk⟩) fun y hy => ?_]
    · exact hu k
    · obtain ⟨r', c', k', rfl⟩ : ∃ (r' : Fin 4) (c' : Fin 80) (k' : Fin 784), y = ix3 r' c' k' := ⟨y 0, y 1, y 2, by funext a; fin_cases a <;> rfl⟩
      rw [Ne, hit']
      rintro ⟨rfl, rfl, hk'⟩
      have := hmax k' hk'
      rw [Shape.rowMajor_val_three, Shape.rowMajor_val_three] at hy
      change (r'.val * 80 + c'.val) * 784 + k.val < (r'.val * 80 + c'.val) * 784 + k'.val at hy
      have : k'.val ≤ k.val := this
      omega
    · obtain ⟨r', k', c', rfl⟩ : ∃ (r' : Fin 4) (k' : Fin 784) (c' : Fin 80), y = ix3 r' k' c' := ⟨y 0, y 1, y 2, by funext a; fin_cases a <;> rfl⟩
      rw [Ne, hit]
      rintro ⟨rfl, hk', rfl⟩
      have := hmax k' hk'
      rw [Shape.rowMajor_val_three, Shape.rowMajor_val_three] at hy
      change (r'.val * 784 + k.val) * 80 + c'.val < (r'.val * 784 + k'.val) * 80 + c'.val at hy
      have : k'.val ≤ k.val := this
      omega
  · rw [scatter_none _ x idx upd (ix3 r p c) fun y => ?_, scatter_none _ x' idx' upd' (ix3 r c p) fun y => ?_]
    · exact hx
    · obtain ⟨r', c', k', rfl⟩ : ∃ (r' : Fin 4) (c' : Fin 80) (k' : Fin 784), y = ix3 r' c' k' := ⟨y 0, y 1, y 2, by funext a; fin_cases a <;> rfl⟩
      rw [Ne, hit']
      rintro ⟨rfl, -, hk'⟩
      exact h ⟨k', hk'⟩
    · obtain ⟨r', k', c', rfl⟩ : ∃ (r' : Fin 4) (k' : Fin 784) (c' : Fin 80), y = ix3 r' k' c' := ⟨y 0, y 1, y 2, by funext a; fin_cases a <;> rfl⟩
      rw [Ne, hit]
      rintro ⟨rfl, hk', -⟩
      exact h ⟨k', hk'⟩

end Cert.WriteBack

end
-- ==== Proof.Finish.lean ====
/-
  The value of the finishing program: the points' logits written over the mask, channels first, and its equality with
  the reference.
-/
module

public import proofs.«01_k».proof.Defs
public import proofs.«01_k».proof.Proof.WriteBack
public import proofs.«01_k».proof.Proof.Gen.Finish.Frame
public import proofs.«01_k».proof.Proof.Gen.FinishIdeal.Frame
public import proofs.«01_k».proof.Proof.Gen.FinishRefIdeal.Read
public import Idealize.ShloMosaic.Lib.Pipeline.ValueKit
public import Idealize.ShloMosaic.Lib.Claim

@[expose] public section

set_option maxRecDepth 16384

noncomputable section

namespace Cert.WriteBack

open Idealize.ShloMosaic Idealize.ShloMosaic.TcCoe Idealize.SL.Sem

/-- A point number as an index: a negative one counts from the end. -/
def wrap (x : BitVec 32) : BitVec 32 := Scalar.select (IntOp.cmpi .slt x 0#32) (IntOp.addi x 50176#32) x

namespace Kernel

open Cert.FinishIdeal Cert.FinishIdeal.Gen

/-- The transposing body on one block. -/
theorem body_apply (v : Vec Ideal S1x56x224x80 .f32) (c : Fin 80) (i : Fin 56) (j : Fin 224) :
    k0_pay1 (F := Ideal) v (ix4 0 c i j) = v (ix4 0 i j c) := by
  pointwise [k0_pay1]

variable (m : (ℓ : Loc nD τ sig) → Buf (Elt Ideal) ℓ) (ρ : Dev nD → PrngReg)

theorem idx : ∀ t : Fin cfg0.N, win0_0.index t = ![t.val / 4, t.val % 4, 0, 0] ∧ win0_1.index t = ![t.val / 4, 0, t.val % 4, 0] :=
  (by decide +kernel : ∀ t : Fin grid0.N, _)

/-- An array with its channels first. -/
def chw (X : S4x224x224x80.Idx → EReal) : S4x80x224x224.Idx → EReal := fun j => X (ix4 (j 0) (j 2) (j 3) (j 1))

/-- The block read at a grid point is the transposed array's block written there. -/
theorem block_chw (X : S4x224x224x80.Idx → EReal) (t : Fin cfg0.N) (o : Fin 80) (i : Fin 56) (j : Fin 224) :
    (((cfg0.win 0).blk t).view.read (Elt Ideal) X : S1x56x224x80.Idx → EReal) (ix4 0 i j o)
      = chw X (((cfg0.win 1).blk t).view.emb (ix4 (0 : Fin 1) o i j)) := by
  unfold chw
  blk_ext [idx t]

/-- The launch leaves the array it reads, channels first. -/
theorem final (c : Dev nD) : (dats m 0 c).arrAt 1 cfg0.N = chw (V m c main_v18) := by
  refine (dats m 0 c).arrAt_eq_of_covers 1 _ (by decide +kernel) fun t _ y => ?_
  blk_simp
  rw [after0_1]
  frame_out
  obtain ⟨o, i, j, rfl⟩ : ∃ (o : Fin 80) (i : Fin 56) (j : Fin 224), y = ix4 (0 : Fin 1) o i j :=
    ⟨y 1, y 2, y 3, by funext a; fin_cases a; exacts [Fin.ext (Nat.lt_one_iff.mp (y 0).isLt), rfl, rfl, rfl]⟩
  exact (body_apply _ o i j).trans (block_chw (V m c main_v18) t o i j)

/-- The index words of the write-back. -/
def words (sel : IVec S4x784 32) : IVec S4x784x2 32 :=
  let row : IVec S4x1 32 := broadcastInDim S4x1 ![0] bcast_S4_S4x1_0 (iotaInDim S4 32 0)
  let row' : IVec S4x1 32 := select (cmpi .slt row (broadcastInDim S4x1 ![] bcast_S_S4x1 (constantI S_ 32 0#32)))
    (addi row (broadcastInDim S4x1 ![] bcast_S_S4x1 (constantI S_ 32 4#32))) row
  let pt : IVec S4x784 32 := select (cmpi .slt sel (broadcastInDim S4x784 ![] bcast_S_S4x784 (constantI S_ 32 0#32)))
    (addi sel (broadcastInDim S4x784 ![] bcast_S_S4x784 (constantI S_ 32 50176#32))) sel
  concatenate S4x784x2 2
    [⟨S4x784x1, broadcastInDim S4x784x1 ![0, 1] bcast_S4x784_S4x784x1_0_1 (broadcastInDim S4x784 ![0, 1] bcast_S4x1_S4x784_0_1 row')⟩,
      ⟨S4x784x1, broadcastInDim S4x784x1 ![0, 1] bcast_S4x784_S4x784x1_0_1 pt⟩] concatenates_S4x784x1_S4x784x1_S4x784x2_d2

theorem words_row (sel : IVec S4x784 32) (r : Fin 4) (k : Fin 784) : (words sel (ix3 r k 0)).toInt = r.val := by
  pointwise [words]
  revert r
  decide

theorem words_point (sel : IVec S4x784 32) (r : Fin 4) (k : Fin 784) : words sel (ix3 r k 1) = wrap (sel (ix2 r k)) := by
  pointwise [words, wrap]

/-- The mask the launch reads. -/
theorem entry (c : Dev nD) : V m c main_v18 = shapeCast S4x224x224x80
    (Host.scatter scatter_S4x50176x80_S4x784x2_S4x784x80_2_01_01_2 (fun _ b => b)
      (shapeCast S4x50176x80 (m ((c : Thread nD τ).loc main_arg0) : S4x224x224x80.Idx → EReal) shapeCasts_S4x224x224x80_S4x50176x80)
      (words (m ((c : Thread nD τ).loc main_arg1))) (m ((c : Thread nD τ).loc main_arg2) : S4x784x80.Idx → EReal))
    shapeCasts_S4x50176x80_S4x224x224x80 := by
  entry_read
  rfl

/-- The run: the result array named, the arguments unchanged. -/
theorem run : θ_run defs (onTc (τ := τ) (main (F := Ideal))) ⟨m, fun _ => 0, ρ⟩ fun r => ∀ c : Dev nD,
      r.2.mem ((c.tc : Thread nD τ).loc main_v19) = (dats m 0 c).arrAt 1 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1 1,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Kernel

namespace Reference

open Cert.FinishRefIdeal Cert.FinishRefIdeal.Read Cert.FinishRefIdeal.Gen

theorem words_row (sel : IVec S4x784 32) (r : Fin 4) (c : Fin 80) (k : Fin 784) :
    (val_main_v29 (F := Ideal) sel (ix4 r c k 0)).toInt = r.val := by
  pointwise [val_main_v29, val_main_v26, val_main_v23, val_main_v12, val_main_v11, val_main_v9, val_main_v8, val_main_v10, val_main_c, val_main_c_0, val_main_v4, val_main_v3]
  revert r
  decide

theorem words_class (sel : IVec S4x784 32) (r : Fin 4) (c : Fin 80) (k : Fin 784) :
    (val_main_v29 (F := Ideal) sel (ix4 r c k 1)).toInt = c.val := by
  pointwise [val_main_v29, val_main_v27, val_main_v24, val_main_v17, val_main_v16, val_main_v14, val_main_v13, val_main_v15, val_main_c_1, val_main_c_2, val_main_v6, val_main_v5]
  revert c
  decide

theorem words_point (sel : IVec S4x784 32) (r : Fin 4) (c : Fin 80) (k : Fin 784) :
    val_main_v29 (F := Ideal) sel (ix4 r c k 2) = wrap (sel (ix2 r k)) := by
  pointwise [val_main_v29, val_main_v28, val_main_v25, val_main_v22, val_main_v21, val_main_v19, val_main_v18, val_main_v20, val_main_c_3, val_main_c_4, val_main_v7, wrap]

end Reference

/-- The two results at an index. -/
theorem finish_apply (x : FinishIdeal.S4x224x224x80.Idx → EReal) (sel : IVec FinishIdeal.S4x784 32)
    (u : FinishIdeal.S4x784x80.Idx → EReal) (n : Fin 4) (o : Fin 80) (i j : Fin 224) :
    FinishRefIdeal.Read.val_main_v31 (F := Ideal) x sel u (ix4 n o i j)
      = Kernel.chw (shapeCast FinishIdeal.S4x224x224x80
          (Host.scatter FinishIdeal.scatter_S4x50176x80_S4x784x2_S4x784x80_2_01_01_2 (fun _ b => b)
            (shapeCast FinishIdeal.S4x50176x80 x FinishIdeal.Gen.shapeCasts_S4x224x224x80_S4x50176x80) (Kernel.words sel) u)
          FinishIdeal.Gen.shapeCasts_S4x50176x80_S4x224x224x80) (ix4 n o i j) := by
  have hp : i.val * 224 + j.val < 50176 := by omega
  unfold Kernel.chw FinishRefIdeal.Read.val_main_v31
  refine (shapeCast_apply _ _ _ (ix3 n o (⟨i.val * 224 + j.val, hp⟩ : Fin 50176)) ?_).trans
    (Eq.trans ?_ (shapeCast_apply _ _ _ (ix3 n (⟨i.val * 224 + j.val, hp⟩ : Fin 50176) o) ?_).symm)
  · rw [Shape.rowMajor_val_three, Shape.rowMajor_val_four]
    show (n.val * 80 + o.val) * 50176 + (i.val * 224 + j.val) = ((n.val * 80 + o.val) * 224 + i.val) * 224 + j.val
    omega
  · unfold FinishRefIdeal.Read.val_main_v30
    refine same (fun r k => wrap (sel (ix2 r k))) _ _ _ _ _ _ (Kernel.words_row sel) (Kernel.words_point sel)
      (Reference.words_row sel) (Reference.words_class sel) (Reference.words_point sel) n _ o ?_ fun k => ?_
    · rw [FinishRefIdeal.Read.val_main_v2]
      refine (shapeCast_apply _ _ _ (ix4 n o i j) ?_).trans (Eq.trans ?_ (shapeCast_apply _ _ _ (ix4 n i j o) ?_).symm)
      · rw [Shape.rowMajor_val_three, Shape.rowMajor_val_four]
        show ((n.val * 80 + o.val) * 224 + i.val) * 224 + j.val = (n.val * 80 + o.val) * 50176 + (i.val * 224 + j.val)
        omega
      · pointwise [FinishRefIdeal.Read.val_main_v0]
      · rw [Shape.rowMajor_val_three, Shape.rowMajor_val_four]
        show ((n.val * 224 + i.val) * 224 + j.val) * 80 + o.val = (n.val * 50176 + (i.val * 224 + j.val)) * 80 + o.val
        omega
    · pointwise [FinishRefIdeal.Read.val_main_v1]
  · rw [Shape.rowMajor_val_three, Shape.rowMajor_val_four]
    show (n.val * 50176 + (i.val * 224 + j.val)) * 80 + o.val = ((n.val * 224 + i.val) * 224 + j.val) * 80 + o.val
    omega

/-- The two finishing programs end with the same array. -/
theorem algebraic : Cert.algebraic_FinishIdeal_FinishRefIdeal (hFinishIdeal := Cert.FinishIdeal.Gen.facts)
    (hFinishRefIdeal := Cert.FinishRefIdeal.Gen.facts) := by
  intro m g m' g' _ hagree
  refine ⟨fun c => (Cert.FinishIdeal.Gen.dats m 0 c).arrAt 1 Cert.FinishIdeal.cfg0.N, Kernel.run m g,
    (θ_run Cert.FinishRefIdeal.defs _ _).mono (fun r h c => ⟨?_, (h c).2⟩) (Cert.FinishRefIdeal.Value.run m' g')⟩
  refine ((h c).1.trans (Cert.FinishRefIdeal.Read.val_main_v31_eq ..)).trans ?_
  obtain ⟨h0, h1, h2⟩ := hagree c
  rw [h0, h1, h2]
  refine Eq.trans ?_ ((Kernel.final m c).trans (congrArg Kernel.chw (Kernel.entry m c))).symm
  funext y
  obtain ⟨n, o, i, j, rfl⟩ : ∃ (n : Fin 4) (o : Fin 80) (i j : Fin 224), y = ix4 n o i j :=
    ⟨y 0, y 1, y 2, y 3, by funext a; fin_cases a <;> rfl⟩
  exact finish_apply _ _ _ n o i j

end Cert.WriteBack

end
-- ==== Proof.Sample.lean ====
/-
  The names for sampling a grid between its cells.
-/
module

public import proofs.«01_k».proof.Proof.Gen.RefineRefIdeal.Read
public import proofs.«01_k».proof.Proof.Gen.RefineIdeal.Frame
public import Idealize.ShloMosaic.Lib.StableHlo.RunRead

@[expose] public section

set_option maxRecDepth 16384

noncomputable section

/-! # Reading a grid between its cells: the arrays both sides compute

The fused program and its specification read a grid at positions that fall between its cells. Each position has four
neighbouring cells. This file names the arrays on the way there, one name per step, and states what the fused program's
host line and the specification hold in these names. -/

namespace Cert.Sample

open Cert.RefineIdeal Cert.RefineIdeal.Facts₀ Idealize.ShloMosaic Idealize.ShloMosaic.TcCoe Idealize.SL.Sem

/-- One number per box and point. -/
abbrev Num := S4x784.Idx → EReal
/-- One word per box and point. -/
abbrev Word := S4x784.Idx → BitVec 32

/-- The same number everywhere. -/
def all (b : BitVec 32) : Num :=
  (broadcastInDim S4x784 ![] bcast_S_S4x784 : FVec Ideal S_ .f32 → FVec Ideal S4x784 .f32) (constant S_ .f32 b)

/-- The same word everywhere. -/
def allW (b : BitVec 32) : Word :=
  (broadcastInDim S4x784 ![] bcast_S_S4x784 : IVec S_ 32 → IVec S4x784 32) (constantI S_ 32 b)

/-- The cell below a position. -/
def low (x : Num) : Num := Host.floor (F := Ideal) (φ := .f32) x

/-- The cell below, moved by a constant. -/
def step (x : Num) (b : BitVec 32) : Num := addf (F := Ideal) (φ := .f32) (low x) (all b)

/-- How far a position is past the cell below it. -/
def past (x : Num) : Num := subf (F := Ideal) (φ := .f32) x (low x)

/-- One less that. -/
def short (x : Num) : Num := subf (F := Ideal) (φ := .f32) (all 0x3F800000#32) (past x)

/-- The product of two arrays. -/
def times (x y : Num) : Num := mulf (F := Ideal) (φ := .f32) x y

/-- One where the cell lies in the grid, zero elsewhere. -/
def inside (b : BitVec 32) (ix iy : Num) : Num :=
  uitofp (F := Ideal) (.f32 : FTy) (andi (andi (andi (cmpf (F := Ideal) (φ := .f32) .oge ix (all 0x00000000#32))
    (cmpf (F := Ideal) (φ := .f32) .ole ix (all b))) (cmpf (F := Ideal) (φ := .f32) .oge iy (all 0x00000000#32)))
    (cmpf (F := Ideal) (φ := .f32) .ole iy (all b)))

/-- A cell's number as a word, moved into the grid. -/
def cell (n : BitVec 32) (x : Num) : Word :=
  fptosi (F := Ideal) (φ := .f32) 32 (minimumf (F := Ideal) (φ := .f32)
    ((broadcastInDim S4x784 ![] bcast_S_S4x784 : FVec Ideal S_ .f32 → FVec Ideal S4x784 .f32)
      (sitofp (F := Ideal) .f32 (constantI S_ 32 n)))
    (maximumf (F := Ideal) (φ := .f32) ((broadcastInDim S4x784 ![] bcast_S_S4x784 : FVec Ideal S_ .f32 → FVec Ideal S4x784 .f32)
      (sitofp (F := Ideal) .f32 (constantI S_ 32 0#32))) x))

/-- A word counted from the other end where it is negative. -/
def wrap (n : BitVec 32) (q : Word) : Word := select (cmpi .slt q (allW 0#32)) (addi q (allW n)) q

/-- A position in a box, as a position on the features' grid. -/
def place (p : Num) (lo hi : S4x1.Idx → EReal) : Num :=
  subf (F := Ideal) (φ := .f32) (mulf (F := Ideal) (φ := .f32) (Host.divf (F := Ideal) (φ := .f32)
    (addf (F := Ideal) (φ := .f32) (mulf (F := Ideal) (φ := .f32) p
      ((broadcastInDim S4x784 ![0, 1] bcast_S4x1_S4x784_0_1 : FVec Ideal S4x1 .f32 → FVec Ideal S4x784 .f32)
        (subf (F := Ideal) (φ := .f32) hi lo)))
      ((broadcastInDim S4x784 ![0, 1] bcast_S4x1_S4x784_0_1 : FVec Ideal S4x1 .f32 → FVec Ideal S4x784 .f32) lo))
    (all 0x44480000#32)) (all 0x43480000#32)) (all 0x3F000000#32)

/-- A position in the unit square, as a position on the coarse grid. -/
def placeCoarse (p : Num) : Num :=
  subf (F := Ideal) (φ := .f32) (mulf (F := Ideal) (φ := .f32) p (all 0x40E00000#32)) (all 0x3F000000#32)

namespace Fused

/-- The features as rows of 256 channels, one row per pixel. -/
abbrev Rows := S80000x256.Idx → EReal

/-- The row of a cell: its image's first row, and its place within the image. -/
def rowOf (ids : S4.Idx → BitVec 32) (ix iy : Word) : Word :=
  addi (addi ((broadcastInDim S4x784 ![0, 1] bcast_S4x1_S4x784_0_1 : IVec S4x1 32 → IVec S4x784 32)
    ((broadcastInDim S4x1 ![0] bcast_S4_S4x1_0 : IVec S4 32 → IVec S4x1 32)
      (muli ids ((broadcastInDim S4 ![] bcast_S_S4 : IVec S_ 32 → IVec S4 32) (constantI S_ 32 40000#32)))))
    (muli iy (allW 200#32))) ix

/-- One neighbour's share of the features. -/
def share (t : Rows) (ids : S4.Idx → BitVec 32) (ix iy w : Num) : S4x784x256.Idx → EReal :=
  mulf (F := Ideal) (φ := .f32)
    (Host.gather gather_S80000x256_S4x784x1_S4x784x256_2_0_n_n_0_2_1256 t
      ((broadcastInDim S4x784x1 ![0, 1] bcast_S4x784_S4x784x1_0_1 : IVec S4x784 32 → IVec S4x784x1 32)
        (wrap 80000#32 (rowOf ids (cell 199#32 ix) (cell 199#32 iy)))))
    ((broadcastInDim S4x784x256 ![0, 1, 2] bcast_S4x784x1_S4x784x256_0_1_2 : FVec Ideal S4x784x1 .f32 → FVec Ideal S4x784x256 .f32)
      ((broadcastInDim S4x784x1 ![0, 1] bcast_S4x784_S4x784x1_0_1 : FVec Ideal S4x784 .f32 → FVec Ideal S4x784x1 .f32)
        (times w (inside 0x43470000#32 ix iy))))

/-- The features read at the positions `x`, `y`: the four neighbours' shares added up from zero. -/
def fine (t : Rows) (ids : S4.Idx → BitVec 32) (x y : Num) : S4x784x256.Idx → EReal :=
  addf (F := Ideal) (φ := .f32) (addf (F := Ideal) (φ := .f32) (addf (F := Ideal) (φ := .f32) (addf (F := Ideal) (φ := .f32)
    ((broadcastInDim S4x784x256 ![] bcast_S_S4x784x256 : FVec Ideal S_ .f32 → FVec Ideal S4x784x256 .f32) (constant S_ .f32 0x00000000#32))
    (share t ids (step x 0x00000000#32) (step y 0x00000000#32) (times (short x) (short y))))
    (share t ids (step x 0x3F800000#32) (step y 0x00000000#32) (times (past x) (short y))))
    (share t ids (step x 0x00000000#32) (step y 0x3F800000#32) (times (short x) (past y))))
    (share t ids (step x 0x3F800000#32) (step y 0x3F800000#32) (times (past x) (past y)))

/-- The coarse masks as rows of 80 channels, one row per cell. -/
abbrev Cells := S4x49x80.Idx → EReal

/-- A cell's row among the coarse masks. -/
def cellOf (ix iy : Word) : S4x784x1.Idx → BitVec 32 :=
  (broadcastInDim S4x784x1 ![0, 1] bcast_S4x784_S4x784x1_0_1 : IVec S4x784 32 → IVec S4x784x1 32)
    (addi (muli iy (allW 7#32)) ix)

/-- That row, counted from the other end where it is negative. -/
def wrapCell (q : S4x784x1.Idx → BitVec 32) : S4x784x1.Idx → BitVec 32 :=
  select (cmpi .slt q ((broadcastInDim S4x784x1 ![] bcast_S_S4x784x1 : IVec S_ 32 → IVec S4x784x1 32) (constantI S_ 32 0#32)))
    (addi q ((broadcastInDim S4x784x1 ![] bcast_S_S4x784x1 : IVec S_ 32 → IVec S4x784x1 32) (constantI S_ 32 49#32))) q

/-- The rows read, and a marker where the row is none of the masks'. -/
def pick (t : Cells) (q : S4x784x1.Idx → BitVec 32) : S4x784x80.Idx → EReal :=
  select
    ((broadcastInDim S4x784x80 ![0, 1] bcast_S4x784_S4x784x80_0_1 : IVec S4x784 1 → IVec S4x784x80 1)
      (Host.reduce IntOp.andi
        (andi (cmpi .sge (wrapCell q) ((broadcastInDim S4x784x1 ![] bcast_S_S4x784x1 : IVec S_ 32 → IVec S4x784x1 32) (constantI S_ 32 0#32)))
          (cmpi .sle (wrapCell q) ((broadcastInDim S4x784x1 ![0, 1, 2] bcast_S1x1x1_S4x784x1_0_1_2 : IVec S1x1x1 32 → IVec S4x784x1 32)
            ((broadcastInDim S1x1x1 ![2] bcast_S1_S1x1x1_2 : IVec S1 32 → IVec S1x1x1 32) (constantI S1 32 48#32)))))
        (constantI S_ 1 1#1) reducesTo_S4x784x1_S4x784_d2 h_S_))
    (Host.gather gather_S4x49x80_S4x784x1_S4x784x80_2_1_0_0_1_2_1180 t (wrapCell q))
    ((broadcastInDim S4x784x80 ![] bcast_S_S4x784x80 : FVec Ideal S_ .f32 → FVec Ideal S4x784x80 .f32) (constant S_ .f32 0x7FC00000#32))

/-- One neighbour's share of the coarse masks. -/
def shareCoarse (t : Cells) (ix iy w : Num) : S4x784x80.Idx → EReal :=
  mulf (F := Ideal) (φ := .f32) (pick t (cellOf (cell 6#32 ix) (cell 6#32 iy)))
    ((broadcastInDim S4x784x80 ![0, 1, 2] bcast_S4x784x1_S4x784x80_0_1_2 : FVec Ideal S4x784x1 .f32 → FVec Ideal S4x784x80 .f32)
      ((broadcastInDim S4x784x1 ![0, 1] bcast_S4x784_S4x784x1_0_1 : FVec Ideal S4x784 .f32 → FVec Ideal S4x784x1 .f32)
        (times w (inside 0x40C00000#32 ix iy))))

/-- The coarse masks read at the positions `x`, `y`. -/
def coarse (t : Cells) (x y : Num) : S4x784x80.Idx → EReal :=
  addf (F := Ideal) (φ := .f32) (addf (F := Ideal) (φ := .f32) (addf (F := Ideal) (φ := .f32) (addf (F := Ideal) (φ := .f32)
    ((broadcastInDim S4x784x80 ![] bcast_S_S4x784x80 : FVec Ideal S_ .f32 → FVec Ideal S4x784x80 .f32) (constant S_ .f32 0x00000000#32))
    (shareCoarse t (step x 0x00000000#32) (step y 0x00000000#32) (times (short x) (short y))))
    (shareCoarse t (step x 0x3F800000#32) (step y 0x00000000#32) (times (past x) (short y))))
    (shareCoarse t (step x 0x00000000#32) (step y 0x3F800000#32) (times (short x) (past y))))
    (shareCoarse t (step x 0x3F800000#32) (step y 0x3F800000#32) (times (past x) (past y)))

end Fused

/-- A column of the boxes. -/
def lowX (b : S4x4.Idx → EReal) : S4x1.Idx → EReal := extractStridedSlice S4x1 ![0, 0] b slices_S4x4_S4x1_0_0
/-- A column of the boxes. -/
def lowY (b : S4x4.Idx → EReal) : S4x1.Idx → EReal := extractStridedSlice S4x1 ![0, 1] b slices_S4x4_S4x1_0_1
/-- A column of the boxes. -/
def highX (b : S4x4.Idx → EReal) : S4x1.Idx → EReal := extractStridedSlice S4x1 ![0, 2] b slices_S4x4_S4x1_0_2
/-- A column of the boxes. -/
def highY (b : S4x4.Idx → EReal) : S4x1.Idx → EReal := extractStridedSlice S4x1 ![0, 3] b slices_S4x4_S4x1_0_3

end Cert.Sample
end
-- ==== Proof.SampleLine.lean ====
/-
  The features' rows as the second launch finds them: the host line read as one expression of the arguments.
-/
module

public import proofs.«01_k».proof.Proof.Sample

@[expose] public section

set_option maxRecDepth 16384

noncomputable section

namespace Cert.Sample.Fused

open Cert.RefineIdeal Cert.RefineIdeal.Facts₀ Cert.RefineIdeal.Gen Idealize.ShloMosaic Idealize.ShloMosaic.TcCoe Idealize.SL.Sem
open Cert.RefineRefIdeal.Read (val_main_v5 val_main_v11)

variable (m : (ℓ : Loc nD τ sig) → Buf (Elt Ideal) ℓ) (ρ : Dev nD → PrngReg)

set_option maxHeartbeats 4000000 in
/-- The features read at the points, as the host line holds them. -/
theorem line_fine (c : Dev nD) : W46 m ρ c (Proc.devRef .tc main_v358)
    = shapeCast S3136x256 (fine (shapeCast S80000x256 (W1 m ρ c (Proc.devRef .tc main_v0) : S2x200x200x256.Idx → EReal) Gen.shapeCasts_S2x200x200x256_S80000x256)
        (m ((c : Thread nD τ).loc main_arg4))
        (place (val_main_v5 (F := Ideal) (m ((c : Thread nD τ).loc main_arg0)))
          (lowX (m ((c : Thread nD τ).loc main_arg3))) (highX (m ((c : Thread nD τ).loc main_arg3))))
        (place (val_main_v11 (F := Ideal) (m ((c : Thread nD τ).loc main_arg0)))
          (lowY (m ((c : Thread nD τ).loc main_arg3))) (highY (m ((c : Thread nD τ).loc main_arg3))))) Gen.shapeCasts_S4x784x256_S3136x256 := by
  after_reads_simp
  rfl

end Cert.Sample.Fused
end
-- ==== Proof.SampleTimes.lean ====
/-
  The positions of the points on the coarse grid and the four neighbours' weights there, as the host line holds them.
-/
module

public import proofs.«01_k».proof.Proof.Sample

@[expose] public section

set_option maxRecDepth 16384

noncomputable section

namespace Cert.Sample.Fused

open Cert.RefineIdeal Cert.RefineIdeal.Facts₀ Cert.RefineIdeal.Gen Idealize.ShloMosaic Idealize.ShloMosaic.TcCoe Idealize.SL.Sem
open Cert.RefineRefIdeal.Read (val_main_v5 val_main_v11)

variable (m : (ℓ : Loc nD τ sig) → Buf (Elt Ideal) ℓ) (ρ : Dev nD → PrngReg)

/-- The points' positions across the coarse grid, -/
def acrossCoarse (c : Dev nD) : Num := placeCoarse (val_main_v5 (F := Ideal) (m ((c : Thread nD τ).loc main_arg0)))
/-- and down it. -/
def downCoarse (c : Dev nD) : Num := placeCoarse (val_main_v11 (F := Ideal) (m ((c : Thread nD τ).loc main_arg0)))

set_option maxHeartbeats 4000000 in
/-- The first neighbour's weight. -/
theorem weightFirst (c : Dev nD) : W39 m ρ c (Proc.devRef .tc main_v258)
    = times (times (short (acrossCoarse m c)) (short (downCoarse m c)))
        (inside 0x40C00000#32 (step (acrossCoarse m c) 0x00000000#32) (step (downCoarse m c) 0x00000000#32)) := by
  after_reads_simp
  rfl

set_option maxHeartbeats 4000000 in
/-- The second neighbour's weight. -/
theorem weightSecond (c : Dev nD) : W41 m ρ c (Proc.devRef .tc main_v279)
    = times (times (past (acrossCoarse m c)) (short (downCoarse m c)))
        (inside 0x40C00000#32 (step (acrossCoarse m c) 0x3F800000#32) (step (downCoarse m c) 0x00000000#32)) := by
  after_reads_simp
  rfl

set_option maxHeartbeats 4000000 in
/-- The third neighbour's weight. -/
theorem weightThird (c : Dev nD) : W43 m ρ c (Proc.devRef .tc main_v300)
    = times (times (short (acrossCoarse m c)) (past (downCoarse m c)))
        (inside 0x40C00000#32 (step (acrossCoarse m c) 0x00000000#32) (step (downCoarse m c) 0x3F800000#32)) := by
  after_reads_simp
  rfl

set_option maxHeartbeats 4000000 in
/-- The fourth neighbour's weight. -/
theorem weightFourth (c : Dev nD) : W45 m ρ c (Proc.devRef .tc main_v321)
    = times (times (past (acrossCoarse m c)) (past (downCoarse m c)))
        (inside 0x40C00000#32 (step (acrossCoarse m c) 0x3F800000#32) (step (downCoarse m c) 0x3F800000#32)) := by
  after_reads_simp
  rfl

end Cert.Sample.Fused
end
-- ==== Proof.SampleCells.lean ====
/-
  The coarse masks' cells of the four neighbours, and the rows taken there, as the host line holds them.
-/
module

public import proofs.«01_k».proof.Proof.SampleTimes

@[expose] public section

set_option maxRecDepth 16384

noncomputable section

namespace Cert.Sample.Fused

open Cert.RefineIdeal Cert.RefineIdeal.Facts₀ Cert.RefineIdeal.Gen Idealize.ShloMosaic Idealize.ShloMosaic.TcCoe Idealize.SL.Sem
open Cert.RefineRefIdeal.Read (val_main_v5 val_main_v11)

variable (m : (ℓ : Loc nD τ sig) → Buf (Elt Ideal) ℓ) (ρ : Dev nD → PrngReg)

/-- The coarse masks, one row a cell. -/
def masks (c : Dev nD) : Cells :=
  shapeCast S4x49x80 (transpose S4x7x7x80 [0, 2, 3, 1] (m ((c : Thread nD τ).loc main_arg2) : S4x80x7x7.Idx → EReal)
    Gen.transposes_S4x80x7x7_S4x7x7x80_0_2_3_1) Gen.shapeCasts_S4x7x7x80_S4x49x80

/-- The rows taken at the first neighbour's cells. -/
theorem takeFirst (U : Valuation τ sig (Elt Ideal)) : StableHlo.after hostOps1_37 U (Proc.devRef .tc main_v326)
    = pick (U (Proc.devRef .tc main_v221)) (U (Proc.devRef .tc main_v325)) := by
  after_reads_simp
  rfl

set_option maxHeartbeats 4000000 in
/-- The first neighbour's cells. -/
theorem cellsFirst (c : Dev nD) : W38 m ρ c (Proc.devRef .tc main_v325)
    = cellOf (cell 6#32 (step (acrossCoarse m c) 0x00000000#32)) (cell 6#32 (step (downCoarse m c) 0x00000000#32)) := by
  after_reads_simp
  rfl

set_option maxHeartbeats 4000000 in
/-- The masks where the first rows are taken. -/
theorem masksFirst (c : Dev nD) : W38 m ρ c (Proc.devRef .tc main_v221) = masks m c := by
  after_reads_simp
  rfl

/-- The rows taken at the second neighbour's cells. -/
theorem takeSecond (U : Valuation τ sig (Elt Ideal)) : StableHlo.after hostOps1_39 U (Proc.devRef .tc main_v335)
    = pick (U (Proc.devRef .tc main_v221)) (U (Proc.devRef .tc main_v334)) := by
  after_reads_simp
  rfl

set_option maxHeartbeats 4000000 in
/-- The second neighbour's cells. -/
theorem cellsSecond (c : Dev nD) : W40 m ρ c (Proc.devRef .tc main_v334)
    = cellOf (cell 6#32 (step (acrossCoarse m c) 0x3F800000#32)) (cell 6#32 (step (downCoarse m c) 0x00000000#32)) := by
  after_reads_simp
  rfl

set_option maxHeartbeats 4000000 in
/-- The masks where the second rows are taken. -/
theorem masksSecond (c : Dev nD) : W40 m ρ c (Proc.devRef .tc main_v221) = masks m c := by
  after_reads_simp
  rfl

/-- The rows taken at the third neighbour's cells. -/
theorem takeThird (U : Valuation τ sig (Elt Ideal)) : StableHlo.after hostOps1_41 U (Proc.devRef .tc main_v344)
    = pick (U (Proc.devRef .tc main_v221)) (U (Proc.devRef .tc main_v343)) := by
  after_reads_simp
  rfl

set_option maxHeartbeats 4000000 in
/-- The third neighbour's cells. -/
theorem cellsThird (c : Dev nD) : W42 m ρ c (Proc.devRef .tc main_v343)
    = cellOf (cell 6#32 (step (acrossCoarse m c) 0x00000000#32)) (cell 6#32 (step (downCoarse m c) 0x3F800000#32)) := by
  after_reads_simp
  rfl

set_option maxHeartbeats 4000000 in
/-- The masks where the third rows are taken. -/
theorem masksThird (c : Dev nD) : W42 m ρ c (Proc.devRef .tc main_v221) = masks m c := by
  after_reads_simp
  rfl

/-- The rows taken at the fourth neighbour's cells. -/
theorem takeFourth (U : Valuation τ sig (Elt Ideal)) : StableHlo.after hostOps1_43 U (Proc.devRef .tc main_v353)
    = pick (U (Proc.devRef .tc main_v221)) (U (Proc.devRef .tc main_v352)) := by
  after_reads_simp
  rfl

set_option maxHeartbeats 4000000 in
/-- The fourth neighbour's cells. -/
theorem cellsFourth (c : Dev nD) : W44 m ρ c (Proc.devRef .tc main_v352)
    = cellOf (cell 6#32 (step (acrossCoarse m c) 0x3F800000#32)) (cell 6#32 (step (downCoarse m c) 0x3F800000#32)) := by
  after_reads_simp
  rfl

set_option maxHeartbeats 4000000 in
/-- The masks where the fourth rows are taken. -/
theorem masksFourth (c : Dev nD) : W44 m ρ c (Proc.devRef .tc main_v221) = masks m c := by
  after_reads_simp
  rfl

end Cert.Sample.Fused
end
-- ==== Proof.SampleCoarse.lean ====
/-
  The coarse masks' rows as the second launch finds them: the four neighbours' shares, added up one after another.
-/
module

public import proofs.«01_k».proof.Proof.SampleCells

@[expose] public section

set_option maxRecDepth 16384

noncomputable section

namespace Cert.Sample.Fused

open Cert.RefineIdeal Cert.RefineIdeal.Facts₀ Cert.RefineIdeal.Gen Idealize.ShloMosaic Idealize.ShloMosaic.TcCoe Idealize.SL.Sem
open Cert.RefineRefIdeal.Read (val_main_v5 val_main_v11)

variable (m : (ℓ : Loc nD τ sig) → Buf (Elt Ideal) ℓ) (ρ : Dev nD → PrngReg)

/-- The share of one neighbour, from the rows taken and the weight. -/
def weigh (g : S4x784x80.Idx → EReal) (w : Num) : S4x784x80.Idx → EReal :=
  mulf (F := Ideal) (φ := .f32) g
    ((broadcastInDim S4x784x80 ![0, 1, 2] Gen.bcast_S4x784x1_S4x784x80_0_1_2 : FVec Ideal S4x784x1 .f32 → FVec Ideal S4x784x80 .f32)
      ((broadcastInDim S4x784x1 ![0, 1] Gen.bcast_S4x784_S4x784x1_0_1 : FVec Ideal S4x784 .f32 → FVec Ideal S4x784x1 .f32) w))

/-- The sum before any share. -/
def start : S4x784x80.Idx → EReal :=
  (broadcastInDim S4x784x80 ![] Gen.bcast_S_S4x784x80 : FVec Ideal S_ .f32 → FVec Ideal S4x784x80 .f32) (constant S_ .f32 0x00000000#32)

set_option maxHeartbeats 4000000 in
/-- The sum begins at zero. -/
theorem sumStart (c : Dev nD) : W39 m ρ c (Proc.devRef .tc main_v220) = start := by
  after_reads_simp
  rfl

/-- The first share is added. -/
theorem addFirst (U : Valuation τ sig (Elt Ideal)) : StableHlo.after hostOps1_38 U (Proc.devRef .tc main_v330)
    = addf (F := Ideal) (φ := .f32) (U (Proc.devRef .tc main_v220)) (weigh (U (Proc.devRef .tc main_v326)) (U (Proc.devRef .tc main_v258))) := by
  after_reads_simp
  rfl

/-- The second share is added. -/
theorem addSecond (U : Valuation τ sig (Elt Ideal)) : StableHlo.after hostOps1_40 U (Proc.devRef .tc main_v339)
    = addf (F := Ideal) (φ := .f32) (U (Proc.devRef .tc main_v330)) (weigh (U (Proc.devRef .tc main_v335)) (U (Proc.devRef .tc main_v279))) := by
  after_reads_simp
  rfl

/-- The third share is added. -/
theorem addThird (U : Valuation τ sig (Elt Ideal)) : StableHlo.after hostOps1_42 U (Proc.devRef .tc main_v348)
    = addf (F := Ideal) (φ := .f32) (U (Proc.devRef .tc main_v339)) (weigh (U (Proc.devRef .tc main_v344)) (U (Proc.devRef .tc main_v300))) := by
  after_reads_simp
  rfl

/-- The fourth share is added. -/
theorem addFourth (U : Valuation τ sig (Elt Ideal)) : StableHlo.after hostOps1_44 U (Proc.devRef .tc main_v357)
    = addf (F := Ideal) (φ := .f32) (U (Proc.devRef .tc main_v348)) (weigh (U (Proc.devRef .tc main_v353)) (U (Proc.devRef .tc main_v321))) := by
  after_reads_simp
  rfl

/-- The rows of the second launch are the sums, laid out one row a point. -/
theorem last_cast (U : Valuation τ sig (Elt Ideal)) : StableHlo.after hostOps1_44 U (Proc.devRef .tc main_v359)
    = shapeCast S3136x80 (StableHlo.after hostOps1_44 U (Proc.devRef .tc main_v357) : S4x784x80.Idx → EReal) Gen.shapeCasts_S4x784x80_S3136x80 := by
  after_reads_simp
  rfl

/-- The coarse masks read at the points, as the host line holds them. -/
theorem line_coarse (c : Dev nD) : W46 m ρ c (Proc.devRef .tc main_v359)
    = shapeCast S3136x80 (coarse (masks m c) (acrossCoarse m c) (downCoarse m c)) Gen.shapeCasts_S4x784x80_S3136x80 := by
  have e1 : W40 m ρ c (Proc.devRef .tc main_v330) = _ := addFirst (W39 m ρ c)
  have e2 : W42 m ρ c (Proc.devRef .tc main_v339) = _ := addSecond (W41 m ρ c)
  have e3 : W44 m ρ c (Proc.devRef .tc main_v348) = _ := addThird (W43 m ρ c)
  have e4 : W46 m ρ c (Proc.devRef .tc main_v357) = _ := addFourth (W45 m ρ c)
  have g1 : W39 m ρ c (Proc.devRef .tc main_v326) = _ := takeFirst (W38 m ρ c)
  have g2 : W41 m ρ c (Proc.devRef .tc main_v335) = _ := takeSecond (W40 m ρ c)
  have g3 : W43 m ρ c (Proc.devRef .tc main_v344) = _ := takeThird (W42 m ρ c)
  have g4 : W45 m ρ c (Proc.devRef .tc main_v353) = _ := takeFourth (W44 m ρ c)
  rw [g1, cellsFirst, masksFirst, sumStart, weightFirst] at e1
  rw [g2, cellsSecond, masksSecond, W41_of m ρ c main_v330 (by decide), e1, weightSecond] at e2
  rw [g3, cellsThird, masksThird, W43_of m ρ c main_v339 (by decide), e2, weightThird] at e3
  rw [g4, cellsFourth, masksFourth, W45_of m ρ c main_v348 (by decide), e3, weightFourth] at e4
  have e5 : W46 m ρ c (Proc.devRef .tc main_v359)
      = shapeCast S3136x80 (W46 m ρ c (Proc.devRef .tc main_v357) : S4x784x80.Idx → EReal) Gen.shapeCasts_S4x784x80_S3136x80 := last_cast (W45 m ρ c)
  rw [e5, e4]
  rfl

end Cert.Sample.Fused
end
-- ==== Proof.SamplePlain.lean ====
/-
  The reference of the refinement's first pass, cut at the sampled features, the sampled coarse masks and the perceptron.
-/
module

public import proofs.«01_k».proof.Proof.Sample
public import proofs.«01_k».proof.Proof.PointMlp

@[expose] public section

set_option maxRecDepth 16384

noncomputable section

/-! # What the specification reads -/

namespace Cert.Sample.Plain

open Cert.RefineRefIdeal Cert.RefineRefIdeal.Facts₀ Idealize.ShloMosaic Idealize.ShloMosaic.TcCoe Idealize.SL.Sem
open Cert.RefineRefIdeal.Read

/-- A row and a column, side by side. -/
def pair (y x : Word) : S4x784x2.Idx → BitVec 32 :=
  concatenate S4x784x2 2
    [⟨S4x784x1, (broadcastInDim S4x784x1 ![0, 1] bcast_S4x784_S4x784x1_0_1 : IVec S4x784 32 → IVec S4x784x1 32) y⟩,
     ⟨S4x784x1, (broadcastInDim S4x784x1 ![0, 1] bcast_S4x784_S4x784x1_0_1 : IVec S4x784 32 → IVec S4x784x1 32) x⟩]
    concatenates_S4x784x1_S4x784x1_S4x784x2_d2

/-- A number per point, for every channel. -/
def spread (w : Num) : S4x256x784.Idx → EReal :=
  (broadcastInDim S4x256x784 ![0, 1, 2] bcast_S4x1x784_S4x256x784_0_1_2 : FVec Ideal S4x1x784 .f32 → FVec Ideal S4x256x784 .f32)
    ((broadcastInDim S4x1x784 ![0, 2] bcast_S4x784_S4x1x784_0_2 : FVec Ideal S4x784 .f32 → FVec Ideal S4x1x784 .f32) w)

/-- A number per point, for every class. -/
def spreadCoarse (w : Num) : S4x80x784.Idx → EReal :=
  (broadcastInDim S4x80x784 ![0, 1, 2] bcast_S4x1x784_S4x80x784_0_1_2 : FVec Ideal S4x1x784 .f32 → FVec Ideal S4x80x784 .f32)
    ((broadcastInDim S4x1x784 ![0, 2] bcast_S4x784_S4x1x784_0_2 : FVec Ideal S4x784 .f32 → FVec Ideal S4x1x784 .f32) w)

/-- One neighbour's share of the features. -/
def share (f : S4x256x200x200.Idx → EReal) (ix iy w : Num) : S4x256x784.Idx → EReal :=
  mulf (F := Ideal) (φ := .f32) (mulf (F := Ideal) (φ := .f32)
    (Host.gather gather_S4x256x200x200_S4x784x2_S4x256x784_1_23_0_0_23_2_125611 f
      (pair (wrap 200#32 (cell 199#32 iy)) (wrap 200#32 (cell 199#32 ix))))
    (spread (inside 0x43470000#32 ix iy))) (spread w)

/-- The features at the positions `x`, `y`: the four neighbours' shares. -/
def fine (f : S4x256x200x200.Idx → EReal) (x y : Num) : S4x256x784.Idx → EReal :=
  addf (F := Ideal) (φ := .f32) (addf (F := Ideal) (φ := .f32) (addf (F := Ideal) (φ := .f32)
    (share f (low x) (low y) (times (short x) (short y)))
    (share f (step x 0x3F800000#32) (low y) (times (past x) (short y))))
    (share f (low x) (step y 0x3F800000#32) (times (short x) (past y))))
    (share f (step x 0x3F800000#32) (step y 0x3F800000#32) (times (past x) (past y)))

/-- One neighbour's share of the coarse masks. -/
def shareCoarse (f : S4x80x7x7.Idx → EReal) (ix iy w : Num) : S4x80x784.Idx → EReal :=
  mulf (F := Ideal) (φ := .f32) (mulf (F := Ideal) (φ := .f32)
    (Host.gather gather_S4x80x7x7_S4x784x2_S4x80x784_1_23_0_0_23_2_18011 f
      (pair (wrap 7#32 (cell 6#32 iy)) (wrap 7#32 (cell 6#32 ix))))
    (spreadCoarse (inside 0x40C00000#32 ix iy))) (spreadCoarse w)

/-- The coarse masks at the positions `x`, `y`. -/
def coarse (f : S4x80x7x7.Idx → EReal) (x y : Num) : S4x80x784.Idx → EReal :=
  addf (F := Ideal) (φ := .f32) (addf (F := Ideal) (φ := .f32) (addf (F := Ideal) (φ := .f32)
    (shareCoarse f (low x) (low y) (times (short x) (short y)))
    (shareCoarse f (step x 0x3F800000#32) (low y) (times (past x) (short y))))
    (shareCoarse f (low x) (step y 0x3F800000#32) (times (short x) (past y))))
    (shareCoarse f (step x 0x3F800000#32) (step y 0x3F800000#32) (times (past x) (past y)))

/-- The reference's sampled features. -/
theorem stage_fine (x0 : IVec S4x784 32) (x1 : FVec Ideal S2x256x200x200 .f32) (x3 : FVec Ideal S4x4 .f32) (x4 : IVec S4 32) :
    val_main_v233 (F := Ideal) x0 x1 x3 x4
      = fine (val_main_v46 (F := Ideal) x1 x4) (val_main_v60 (F := Ideal) x0 x3) (val_main_v70 (F := Ideal) x0 x3) := rfl

/-- The reference's sampled coarse masks. -/
theorem stage_coarse (x0 : IVec S4x784 32) (x2 : FVec Ideal S4x80x7x7 .f32) :
    val_main_v420 (F := Ideal) x0 x2 = coarse x2 (val_main_v247 (F := Ideal) x0) (val_main_v257 (F := Ideal) x0) := rfl

/-- The reference's perceptron on the two sampled arrays. -/
theorem stage_tower (x0 : IVec S4x784 32) (x1 : FVec Ideal S2x256x200x200 .f32) (x2 : FVec Ideal S4x80x7x7 .f32)
    (x3 : FVec Ideal S4x4 .f32) (x4 : IVec S4 32) (w0 : FVec Ideal S256x336 .f32)
    (b0 : FVec Ideal S256 .f32) (w1 : FVec Ideal S256x336 .f32) (b1 : FVec Ideal S256 .f32) (w2 : FVec Ideal S256x336 .f32)
    (b2 : FVec Ideal S256 .f32) (w3 : FVec Ideal S80x336 .f32) (b3 : FVec Ideal S80 .f32) :
    val_main_v447 (F := Ideal) x0 x1 x2 x3 x4 w0 b0 w1 b1 w2 b2 w3 b3
      = Cert.PointMlp.Reference.tower (val_main_v233 (F := Ideal) x0 x1 x3 x4) (val_main_v420 (F := Ideal) x0 x2) w0 b0 w1 b1 w2 b2 w3 b3 := rfl

end Cert.Sample.Plain
end
-- ==== Proof.SampleWeights.lean ====
/-
  The positions and the weights of the four neighbours: the two programs' expressions for them agree.
-/
module

public import proofs.«01_k».proof.Proof.Sample
public import proofs.«01_k».proof.Proof.PointMlp

@[expose] public section

set_option maxRecDepth 16384

noncomputable section

/-! # Positions, cells and weights, at one point -/

namespace Cert.Sample

open Idealize.ShloMosaic Idealize.ShloMosaic.TcCoe Idealize.SL.Sem
open Cert.RefineRefIdeal.Read

/-- The word of one. -/
theorem c_one : Ideal.ofBits .f32 0x3F800000#32 = (1 : ℝ) := by simp [Ideal.ofBits, Ideal.ieee, -EReal.coe_mul]; norm_num
/-- The word of two. -/
theorem c_two : Ideal.ofBits .f32 0x40000000#32 = (2 : ℝ) := by simp [Ideal.ofBits, Ideal.ieee, -EReal.coe_mul]; norm_num
/-- The word of two hundred. -/
theorem c_wide : Ideal.ofBits .f32 0x43480000#32 = (200 : ℝ) := by simp [Ideal.ofBits, Ideal.ieee, -EReal.coe_mul]; norm_num
/-- The word of seven. -/
theorem c_seven : Ideal.ofBits .f32 0x40E00000#32 = (7 : ℝ) := by simp [Ideal.ofBits, Ideal.ieee, -EReal.coe_mul]; norm_num
/-- The word of zero. -/
theorem c_zero : Ideal.ofBits .f32 0x00000000#32 = 0 := by simp [Ideal.ofBits, Ideal.ieee]

/-- Stretching to `[-1, 1]` and back again scales by the width. -/
theorem stretch (s : EReal) (w : ℝ) (hw : 0 < w) :
    Ideal.div ((((2 : ℝ) : EReal) * s - 1 + 1) * (w : EReal)) ((2 : ℝ) : EReal) = s * (w : EReal) := by
  rw [Ideal.div_coe (by norm_num)]
  induction s using EReal.rec with
  | bot =>
    rw [EReal.coe_mul_bot_of_pos (by norm_num : (0 : ℝ) < 2), EReal.bot_sub, EReal.bot_add, EReal.bot_mul_coe_of_pos hw,
      EReal.bot_mul_coe_of_pos (by norm_num)]
  | coe r =>
    rw [← EReal.coe_one]
    norm_cast
    ring
  | top =>
    have e : (⊤ : EReal) - 1 = ⊤ := by rw [← EReal.coe_one]; exact EReal.top_sub_coe 1
    have e' : (⊤ : EReal) + 1 = ⊤ := by rw [← EReal.coe_one]; exact EReal.top_add_coe 1
    rw [EReal.coe_mul_top_of_pos (by norm_num : (0 : ℝ) < 2), e, e', EReal.top_mul_coe_of_pos hw,
      EReal.top_mul_coe_of_pos (by norm_num)]

/-- A number between zero and `N` rounds to a word of at most `N`. -/
theorem word_of_range (N : Nat) (hN : N < 2 ^ 31) (y : EReal) (h0 : 0 ≤ y) (h1 : y ≤ ((N : ℝ) : EReal)) :
    ∃ k : Nat, k ≤ N ∧ Ideal.fptosi 32 y = BitVec.ofNat 32 k := by
  induction y using EReal.rec with
  | bot => exact absurd h0 (by simp)
  | top => exact absurd (top_le_iff.mp h1) (EReal.coe_ne_top _)
  | coe r =>
    have h0' : (0 : ℝ) ≤ r := by exact_mod_cast h0
    have h1' : r ≤ (N : ℝ) := by exact_mod_cast h1
    have f0 : 0 ≤ ⌊r⌋ := Int.floor_nonneg.mpr h0'
    have f1 : ⌊r⌋ ≤ (N : Int) := by exact_mod_cast (Int.floor_le r).trans h1'
    refine ⟨⌊r⌋.toNat, by omega, ?_⟩
    unfold Ideal.fptosi
    rw [Ideal.toIntClamped_coe, if_pos h0']
    have e : max (-((2 ^ (32 - 1) : Nat) : Int)) (min (((2 ^ (32 - 1) : Nat) : Int) - 1) ⌊r⌋) = ((⌊r⌋.toNat : Nat) : Int) := by
      norm_num; omega
    rw [e, BitVec.ofInt_natCast]

/-- A cell number kept within a side is the word of a number below it. -/
theorem cell_range (N : Nat) (hN : N < 2 ^ 31) (x : Num) (n : Fin 4) (p : Fin 784) :
    ∃ k : Nat, k ≤ N ∧ cell (BitVec.ofNat 32 N) x (ix2 n p) = BitVec.ofNat 32 k := by
  have e : cell (BitVec.ofNat 32 N) x (ix2 n p) = Ideal.fptosi 32 (min (((BitVec.ofNat 32 N).toInt : ℝ) : EReal) (max (((0#32).toInt : ℝ) : EReal) (x (ix2 n p)))) := by
    pointwise [cell]
    rfl
  have eN : (BitVec.ofNat 32 N).toInt = (N : Int) := by
    have h1 : (BitVec.ofNat 32 N).toNat = N := by rw [BitVec.toNat_ofNat]; omega
    rw [BitVec.toInt_eq_toNat_of_lt (by omega), h1]
  rw [e, eN]
  refine word_of_range N hN _ (le_min ?_ ?_) (min_le_left _ _)
  · exact_mod_cast Nat.zero_le N
  · simp

/-- Moving a cell by zero leaves it. -/
theorem low_step (x : Num) : step x 0x00000000#32 = low x := by
  funext j
  obtain ⟨n, p, rfl⟩ : ∃ (n : Fin 4) (p : Fin 784), j = ix2 n p := ⟨j 0, j 1, by funext a; fin_cases a <;> rfl⟩
  unfold step
  generalize low x = y
  pointwise [all]

/-- The specification's first coordinate on the features' grid. -/
theorem place_fine_x (x0 : IVec Cert.RefineRefIdeal.S4x784 32) (x3 : FVec Ideal Cert.RefineRefIdeal.S4x4 .f32) :
    val_main_v60 (F := Ideal) x0 x3 = place (val_main_v5 (F := Ideal) x0) (lowX x3) (highX x3) := by
  funext j
  obtain ⟨n, p, rfl⟩ : ∃ (n : Fin 4) (p : Fin 784), j = ix2 n p := ⟨j 0, j 1, by funext a; fin_cases a <;> rfl⟩
  pointwise [place, all, lowX, highX, val_main_v60, val_main_v59, val_main_cst_13, val_main_v58, val_main_v57, val_main_cst_12, val_main_v56, val_main_v55, val_main_cst_11, val_main_v54, val_main_v53, val_main_cst_10, val_main_v52, val_main_v51, val_main_v50, val_main_v49, val_main_cst_9, val_main_v48, val_main_v47, val_main_cst_8, val_main_v39, val_main_v37, val_main_v34, val_main_v33, val_main_cst_4, val_main_v25, val_main_v24, val_main_v23, val_main_v22, val_main_v21, val_main_v20, val_main_v19, val_main_v17, val_main_v15, val_main_v14, val_main_v12]
  rw [c_two, c_wide]
  exact congrArg (· - _) (stretch _ 200 (by norm_num))

/-- The specification's second coordinate on the features' grid. -/
theorem place_fine_y (x0 : IVec Cert.RefineRefIdeal.S4x784 32) (x3 : FVec Ideal Cert.RefineRefIdeal.S4x4 .f32) :
    val_main_v70 (F := Ideal) x0 x3 = place (val_main_v11 (F := Ideal) x0) (lowY x3) (highY x3) := by
  funext j
  obtain ⟨n, p, rfl⟩ : ∃ (n : Fin 4) (p : Fin 784), j = ix2 n p := ⟨j 0, j 1, by funext a; fin_cases a <;> rfl⟩
  pointwise [place, all, lowY, highY, val_main_v70, val_main_v69, val_main_cst_17, val_main_v68, val_main_v67, val_main_cst_16, val_main_v66, val_main_v65, val_main_cst_15, val_main_v64, val_main_v63, val_main_cst_14, val_main_v62, val_main_v61, val_main_v50, val_main_v49, val_main_cst_9, val_main_v48, val_main_v47, val_main_cst_8, val_main_v39, val_main_v38, val_main_v36, val_main_v35, val_main_cst_5, val_main_v32, val_main_v31, val_main_v30, val_main_v29, val_main_v28, val_main_v27, val_main_v26, val_main_v18, val_main_v16, val_main_v14, val_main_v13]
  rw [c_two, c_wide]
  exact congrArg (· - _) (stretch _ 200 (by norm_num))

/-- The specification's first coordinate on the coarse grid. -/
theorem place_coarse_x (x0 : IVec Cert.RefineRefIdeal.S4x784 32) :
    val_main_v247 (F := Ideal) x0 = placeCoarse (val_main_v5 (F := Ideal) x0) := by
  funext j
  obtain ⟨n, p, rfl⟩ : ∃ (n : Fin 4) (p : Fin 784), j = ix2 n p := ⟨j 0, j 1, by funext a; fin_cases a <;> rfl⟩
  pointwise [placeCoarse, all, val_main_v247, val_main_v246, val_main_cst_75, val_main_v245, val_main_v244, val_main_cst_74, val_main_v243, val_main_v242, val_main_cst_73, val_main_v241, val_main_v240, val_main_cst_72, val_main_v239, val_main_v238, val_main_v237, val_main_v236, val_main_cst_71, val_main_v235, val_main_v234, val_main_cst_70, val_main_v14, val_main_v12]
  rw [c_two, c_seven]
  exact congrArg (· - _) (stretch _ 7 (by norm_num))

/-- The specification's second coordinate on the coarse grid. -/
theorem place_coarse_y (x0 : IVec Cert.RefineRefIdeal.S4x784 32) :
    val_main_v257 (F := Ideal) x0 = placeCoarse (val_main_v11 (F := Ideal) x0) := by
  funext j
  obtain ⟨n, p, rfl⟩ : ∃ (n : Fin 4) (p : Fin 784), j = ix2 n p := ⟨j 0, j 1, by funext a; fin_cases a <;> rfl⟩
  pointwise [placeCoarse, all, val_main_v257, val_main_v256, val_main_cst_79, val_main_v255, val_main_v254, val_main_cst_78, val_main_v253, val_main_v252, val_main_cst_77, val_main_v251, val_main_v250, val_main_cst_76, val_main_v249, val_main_v248, val_main_v237, val_main_v236, val_main_cst_71, val_main_v235, val_main_v234, val_main_cst_70, val_main_v14, val_main_v13]
  rw [c_two, c_seven]
  exact congrArg (· - _) (stretch _ 7 (by norm_num))

/-- A small number kept in a word is no negative number. -/
theorem not_negative (k : Nat) (hk : k < 2 ^ 31) : Scalar.cmpi .slt (BitVec.ofNat 32 k) 0#32 = 0#1 := by
  have h1 : (BitVec.ofNat 32 k).toNat = k := by rw [BitVec.toNat_ofNat]; omega
  have h2 : (BitVec.ofNat 32 k).slt 0#32 = false := by
    rw [BitVec.slt, BitVec.toInt_eq_toNat_of_lt (by omega), h1]
    simp
  show BitVec.ofBool _ = _
  exact congrArg BitVec.ofBool h2

/-- A word that is no negative number stays as it is. -/
theorem wrap_same (b : BitVec 32) (q : Word) (n : Fin 4) (p : Fin 784) (k : Nat) (hk : k < 2 ^ 31)
    (h : q (ix2 n p) = BitVec.ofNat 32 k) : wrap b q (ix2 n p) = BitVec.ofNat 32 k := by
  have e : wrap b q (ix2 n p) = Scalar.select (Scalar.cmpi .slt (q (ix2 n p)) 0#32) (q (ix2 n p) + b) (q (ix2 n p)) := rfl
  rw [e, h, show Scalar.cmpi .slt (BitVec.ofNat 32 k) 0#32 = 0#1 from not_negative k hk]
  rfl

end Cert.Sample
end
-- ==== Proof.SampleGather.lean ====
/-
  The reads at an index array: each look-up of the two programs, read at one point, is the table at the named cell.
-/
module

public import proofs.«01_k».proof.Proof.Sample
public import proofs.«01_k».proof.Proof.PointMlp

@[expose] public section

set_option maxRecDepth 16384

noncomputable section

/-! # Reading an array at computed places

The four reads of the two programs, each at an index whose words are given: the element at those numbers. -/

namespace Cert.Sample

open Idealize.ShloMosaic Idealize.ShloMosaic.TcCoe Idealize.SL.Sem

/-- A small number kept in a word is read back. -/
theorem word_toNat (k : Nat) (h : k < 2 ^ 31) : (BitVec.ofNat 32 k).toInt.toNat = k := by
  have h1 : (BitVec.ofNat 32 k).toNat = k := by rw [BitVec.toNat_ofNat]; omega
  rw [BitVec.toInt_eq_toNat_of_lt (by omega), h1]
  rfl

/-- A place kept in a word is read back, and lies within the axis. -/
theorem start_word (q : BitVec 32) (k b : Nat) (h : q = BitVec.ofNat 32 k) (hk : k ≤ b) (hb : b < 2 ^ 31) :
    min q.toInt.toNat b = k := by
  rw [h, word_toNat k (by omega)]; omega

section Fused
open Cert.RefineIdeal

/-- The rows of the features taken at an array of row numbers. -/
theorem rows_read (t : S80000x256.Idx → EReal) (q : S4x784x1.Idx → BitVec 32) (n : Fin 4) (p : Fin 784) (c : Fin 256)
    (k : Fin 80000) (hq : q (ix3 n p 0) = BitVec.ofNat 32 k.val) :
    Host.gather gather_S80000x256_S4x784x1_S4x784x256_2_0_n_n_0_2_1256 t q (ix3 n p c) = t (ix2 k c) := by
  unfold Host.gather
  congr 1
  funext a
  refine Fin.ext ?_
  show GatherDims.start _ _ q a + GatherDims.batchCoord _ _ a + GatherDims.offCoord _ _ a = _
  match a with
  | ⟨0, _⟩ =>
    have e : GatherDims.start gather_S80000x256_S4x784x1_S4x784x256_2_0_n_n_0_2_1256 (ix3 n p c) q ⟨0, by decide⟩ = k.val := by
      refine Eq.trans (b := min (q (ix3 n p 0)).toInt.toNat 79999) ?_ (start_word _ _ _ hq (by omega) (by omega))
      unfold GatherDims.start
      refine (dif_pos (show (0 : Fin 2) ∈ ([0] : List (Fin 2)) from by decide)).trans ?_
      congr 4
      funext b; refine Fin.ext ?_
      match b with
      | ⟨0, _⟩ => rfl
      | ⟨1, _⟩ => rfl
      | ⟨2, _⟩ => rfl
    exact congrArg (fun x => x + 0 + 0) e
  | ⟨1, _⟩ => exact Nat.zero_add _

/-- The coarse masks' cells taken at an array of cell numbers. -/
theorem cells_read (t : S4x49x80.Idx → EReal) (q : S4x784x1.Idx → BitVec 32) (n : Fin 4) (p : Fin 784) (c : Fin 80)
    (k : Fin 49) (hq : q (ix3 n p 0) = BitVec.ofNat 32 k.val) :
    Host.gather gather_S4x49x80_S4x784x1_S4x784x80_2_1_0_0_1_2_1180 t q (ix3 n p c) = t (ix3 n k c) := by
  unfold Host.gather
  congr 1
  funext a
  refine Fin.ext ?_
  show GatherDims.start _ _ q a + GatherDims.batchCoord _ _ a + GatherDims.offCoord _ _ a = _
  match a with
  | ⟨0, _⟩ => exact Nat.zero_add _
  | ⟨1, _⟩ =>
    have e : GatherDims.start gather_S4x49x80_S4x784x1_S4x784x80_2_1_0_0_1_2_1180 (ix3 n p c) q ⟨1, by decide⟩ = k.val := by
      refine Eq.trans (b := min (q (ix3 n p 0)).toInt.toNat 48) ?_ (start_word _ _ _ hq (by omega) (by omega))
      unfold GatherDims.start
      refine (dif_pos (show (1 : Fin 3) ∈ ([1] : List (Fin 3)) from by decide)).trans ?_
      congr 4
      funext b; refine Fin.ext ?_
      match b with
      | ⟨0, _⟩ => rfl
      | ⟨1, _⟩ => rfl
      | ⟨2, _⟩ => rfl
    exact congrArg (fun x => x + 0 + 0) e
  | ⟨2, _⟩ => exact Nat.zero_add _

end Fused

section Plain
open Cert.RefineRefIdeal

/-- The features of the images the instances name. -/
theorem image_read (f : S2x256x200x200.Idx → EReal) (q : S4x1.Idx → BitVec 32) (n : Fin 4) (c : Fin 256) (y x : Fin 200)
    (k : Fin 2) (hq : q (ix2 n 0) = BitVec.ofNat 32 k.val) :
    Host.gather gather_S2x256x200x200_S4x1_S4x256x200x200_123_0_n_n_0_1_1256200200 f q (ix4 n c y x) = f (ix4 k c y x) := by
  unfold Host.gather
  congr 1
  funext a
  refine Fin.ext ?_
  show GatherDims.start _ _ q a + GatherDims.batchCoord _ _ a + GatherDims.offCoord _ _ a = _
  match a with
  | ⟨0, _⟩ =>
    have e : GatherDims.start gather_S2x256x200x200_S4x1_S4x256x200x200_123_0_n_n_0_1_1256200200 (ix4 n c y x) q ⟨0, by decide⟩ = k.val := by
      refine Eq.trans (b := min (q (ix2 n 0)).toInt.toNat 1) ?_ (start_word _ _ _ hq (by omega) (by omega))
      unfold GatherDims.start
      refine (dif_pos (show (0 : Fin 4) ∈ ([0] : List (Fin 4)) from by decide)).trans ?_
      congr 4
      funext b; refine Fin.ext ?_
      match b with
      | ⟨0, _⟩ => rfl
      | ⟨1, _⟩ => rfl
    exact congrArg (fun x => x + 0 + 0) e
  | ⟨1, _⟩ => exact Nat.zero_add _
  | ⟨2, _⟩ => exact Nat.zero_add _
  | ⟨3, _⟩ => exact Nat.zero_add _

/-- The features at an array of positions, one pair a point. -/
theorem pixel_read (f : S4x256x200x200.Idx → EReal) (q : S4x784x2.Idx → BitVec 32) (n : Fin 4) (p : Fin 784) (c : Fin 256)
    (y x : Fin 200) (hy : q (ix3 n p 0) = BitVec.ofNat 32 y.val) (hx : q (ix3 n p 1) = BitVec.ofNat 32 x.val) :
    Host.gather gather_S4x256x200x200_S4x784x2_S4x256x784_1_23_0_0_23_2_125611 f q (ix3 n c p) = f (ix4 n c y x) := by
  unfold Host.gather
  congr 1
  funext a
  refine Fin.ext ?_
  show GatherDims.start _ _ q a + GatherDims.batchCoord _ _ a + GatherDims.offCoord _ _ a = _
  match a with
  | ⟨0, _⟩ => exact Nat.zero_add _
  | ⟨1, _⟩ => exact Nat.zero_add _
  | ⟨2, _⟩ =>
    have e : GatherDims.start gather_S4x256x200x200_S4x784x2_S4x256x784_1_23_0_0_23_2_125611 (ix3 n c p) q ⟨2, by decide⟩ = y.val := by
      refine Eq.trans (b := min (q (ix3 n p 0)).toInt.toNat 199) ?_ (start_word _ _ _ hy (by omega) (by omega))
      unfold GatherDims.start
      refine (dif_pos (show (2 : Fin 4) ∈ ([2, 3] : List (Fin 4)) from by decide)).trans ?_
      congr 4
      funext b; refine Fin.ext ?_
      match b with
      | ⟨0, _⟩ => rfl
      | ⟨1, _⟩ => rfl
      | ⟨2, _⟩ => rfl
    exact congrArg (fun x => x + 0 + 0) e
  | ⟨3, _⟩ =>
    have e : GatherDims.start gather_S4x256x200x200_S4x784x2_S4x256x784_1_23_0_0_23_2_125611 (ix3 n c p) q ⟨3, by decide⟩ = x.val := by
      refine Eq.trans (b := min (q (ix3 n p 1)).toInt.toNat 199) ?_ (start_word _ _ _ hx (by omega) (by omega))
      unfold GatherDims.start
      refine (dif_pos (show (3 : Fin 4) ∈ ([2, 3] : List (Fin 4)) from by decide)).trans ?_
      congr 4
      funext b; refine Fin.ext ?_
      match b with
      | ⟨0, _⟩ => rfl
      | ⟨1, _⟩ => rfl
      | ⟨2, _⟩ => rfl
    exact congrArg (fun x => x + 0 + 0) e

/-- The coarse masks at an array of positions, one pair a point. -/
theorem coarse_read (f : S4x80x7x7.Idx → EReal) (q : S4x784x2.Idx → BitVec 32) (n : Fin 4) (p : Fin 784) (c : Fin 80)
    (y x : Fin 7) (hy : q (ix3 n p 0) = BitVec.ofNat 32 y.val) (hx : q (ix3 n p 1) = BitVec.ofNat 32 x.val) :
    Host.gather gather_S4x80x7x7_S4x784x2_S4x80x784_1_23_0_0_23_2_18011 f q (ix3 n c p) = f (ix4 n c y x) := by
  unfold Host.gather
  congr 1
  funext a
  refine Fin.ext ?_
  show GatherDims.start _ _ q a + GatherDims.batchCoord _ _ a + GatherDims.offCoord _ _ a = _
  match a with
  | ⟨0, _⟩ => exact Nat.zero_add _
  | ⟨1, _⟩ => exact Nat.zero_add _
  | ⟨2, _⟩ =>
    have e : GatherDims.start gather_S4x80x7x7_S4x784x2_S4x80x784_1_23_0_0_23_2_18011 (ix3 n c p) q ⟨2, by decide⟩ = y.val := by
      refine Eq.trans (b := min (q (ix3 n p 0)).toInt.toNat 6) ?_ (start_word _ _ _ hy (by omega) (by omega))
      unfold GatherDims.start
      refine (dif_pos (show (2 : Fin 4) ∈ ([2, 3] : List (Fin 4)) from by decide)).trans ?_
      congr 4
      funext b; refine Fin.ext ?_
      match b with
      | ⟨0, _⟩ => rfl
      | ⟨1, _⟩ => rfl
      | ⟨2, _⟩ => rfl
    exact congrArg (fun x => x + 0 + 0) e
  | ⟨3, _⟩ =>
    have e : GatherDims.start gather_S4x80x7x7_S4x784x2_S4x80x784_1_23_0_0_23_2_18011 (ix3 n c p) q ⟨3, by decide⟩ = x.val := by
      refine Eq.trans (b := min (q (ix3 n p 1)).toInt.toNat 6) ?_ (start_word _ _ _ hx (by omega) (by omega))
      unfold GatherDims.start
      refine (dif_pos (show (3 : Fin 4) ∈ ([2, 3] : List (Fin 4)) from by decide)).trans ?_
      congr 4
      funext b; refine Fin.ext ?_
      match b with
      | ⟨0, _⟩ => rfl
      | ⟨1, _⟩ => rfl
      | ⟨2, _⟩ => rfl
    exact congrArg (fun x => x + 0 + 0) e

end Plain

end Cert.Sample
end
-- ==== Proof.SampleShare.lean ====
/-
  One neighbour's share, on both sides: the kernel's row times its weight is the reference's cell times the same weight,
  and the four shares add up to the same number.
-/
module

public import proofs.«01_k».proof.Proof.SamplePlain
public import proofs.«01_k».proof.Proof.SampleWeights
public import proofs.«01_k».proof.Proof.SampleGather
public import Idealize.ShloMosaic.Lib.ReduceAll

@[expose] public section

set_option maxRecDepth 16384

noncomputable section

/-! # The two readings agree

At every point and channel, a neighbour's share of the fused program is the specification's. -/

namespace Cert.Sample

open Idealize.ShloMosaic Idealize.ShloMosaic.TcCoe Idealize.SL.Sem
open Cert.RefineRefIdeal.Read (val_main_v46 val_main_v45 val_main_v44 val_main_v43 val_main_v42 val_main_v41 val_main_v40 val_main_c_6 val_main_c_7)

/-- The number `k` of an image, kept in a word. -/
def Images (ids : Cert.RefineIdeal.S4.Idx → BitVec 32) : Prop :=
  ∀ n : Fin 4, ∃ k : Fin 2, ids (ix1 n) = BitVec.ofNat 32 k.val

/-- Words of small numbers add and multiply as the numbers do. -/
theorem word_row (k y x : Nat) :
    BitVec.ofNat 32 k * 40000#32 + BitVec.ofNat 32 y * 200#32 + BitVec.ofNat 32 x = BitVec.ofNat 32 (k * 40000 + y * 200 + x) := by
  rw [← BitVec.ofNat_mul, ← BitVec.ofNat_mul, ← BitVec.ofNat_add, ← BitVec.ofNat_add]

/-- The number of a cell, as a word. -/
theorem word_cell (y x : Nat) : BitVec.ofNat 32 y * 7#32 + BitVec.ofNat 32 x = BitVec.ofNat 32 (y * 7 + x) := by
  rw [← BitVec.ofNat_mul, ← BitVec.ofNat_add]

/-- The first word of a pair. -/
theorem pair_zero (y x : Word) (n : Fin 4) (p : Fin 784) : Plain.pair y x (ix3 n p 0) = y (ix2 n p) := by
  pointwise [Plain.pair]
/-- The second word of a pair. -/
theorem pair_one (y x : Word) (n : Fin 4) (p : Fin 784) : Plain.pair y x (ix3 n p 1) = x (ix2 n p) := by
  pointwise [Plain.pair]

/-- The images' features, where every number names an image. -/
theorem images_read (f : Cert.RefineRefIdeal.S2x256x200x200.Idx → EReal) (ids : Cert.RefineRefIdeal.S4.Idx → BitVec 32)
    (n : Fin 4) (c : Fin 256) (y x : Fin 200) (k : Fin 2) (hk : ids (ix1 n) = BitVec.ofNat 32 k.val) :
    val_main_v46 (F := Ideal) f ids (ix4 n c y x) = f (ix4 k c y x) := by
  refine image_read f _ n c y x k ?_
  have e : val_main_v45 (F := Ideal) ids (ix2 n 0)
      = Scalar.select (Scalar.cmpi .slt (ids (ix1 n)) 0#32) (ids (ix1 n) + 2#32) (ids (ix1 n)) := by
    pointwise [val_main_v45, val_main_v44, val_main_v43, val_main_v42, val_main_v41, val_main_v40, val_main_c_6, val_main_c_7]
    rfl
  rw [e, hk, not_negative _ (by omega)]
  rfl

/-- A word per point, with an axis of one entry after it. -/
def up (q : Word) : Cert.RefineIdeal.S4x784x1.Idx → BitVec 32 :=
  (broadcastInDim Cert.RefineIdeal.S4x784x1 ![0, 1] Cert.RefineIdeal.Facts₀.bcast_S4x784_S4x784x1_0_1 :
    IVec Cert.RefineIdeal.S4x784 32 → IVec Cert.RefineIdeal.S4x784x1 32) q

/-- An array of words with one more axis. -/
theorem up_apply (q : Word) (n : Fin 4) (p : Fin 784) : up q (ix3 n p 0) = q (ix2 n p) := by
  pointwise [up]

/-- A neighbour's share of the features is the specification's. -/
theorem share_eq (f : Cert.RefineRefIdeal.S2x256x200x200.Idx → EReal) (t : Fused.Rows)
    (ht : ∀ (k : Fin 2) (y x : Fin 200) (c : Fin 256), t (ix2 ⟨k.val * 40000 + y.val * 200 + x.val, by omega⟩ c) = f (ix4 k c y x))
    (ids : Cert.RefineIdeal.S4.Idx → BitVec 32) (hids : Images ids) (ix iy w : Num) (n : Fin 4) (p : Fin 784) (c : Fin 256) :
    Fused.share t ids ix iy w (ix3 n p c) = Plain.share (val_main_v46 (F := Ideal) f ids) ix iy w (ix3 n c p) := by
  obtain ⟨k, hk⟩ := hids n
  obtain ⟨x, hx, ex⟩ := cell_range 199 (by norm_num) ix n p
  obtain ⟨y, hy, ey⟩ := cell_range 199 (by norm_num) iy n p
  have er : Fused.rowOf ids (cell 199#32 ix) (cell 199#32 iy) (ix2 n p) = BitVec.ofNat 32 (k.val * 40000 + y * 200 + x) := by
    have e : Fused.rowOf ids (cell 199#32 ix) (cell 199#32 iy) (ix2 n p)
        = ids (ix1 n) * 40000#32 + cell 199#32 iy (ix2 n p) * 200#32 + cell 199#32 ix (ix2 n p) := by
      generalize cell 199#32 ix = a
      generalize cell 199#32 iy = b
      pointwise [Fused.rowOf, allW]
      rfl
    rw [e, hk, ← word_row]
    exact congrArg₂ (fun a b => BitVec.ofNat 32 k.val * 40000#32 + a * 200#32 + b) ey ex
  have ef := rows_read t (up (wrap 80000#32 (Fused.rowOf ids (cell 199#32 ix) (cell 199#32 iy)))) n p c
    ⟨k.val * 40000 + y * 200 + x, by omega⟩ ((up_apply _ n p).trans (wrap_same _ _ n p _ (by omega) er))
  have ep := pixel_read (val_main_v46 (F := Ideal) f ids) (Plain.pair (wrap 200#32 (cell 199#32 iy)) (wrap 200#32 (cell 199#32 ix))) n p c
    ⟨y, by omega⟩ ⟨x, by omega⟩ ((pair_zero _ _ n p).trans (wrap_same _ _ n p y (by omega) ey))
    ((pair_one _ _ n p).trans (wrap_same _ _ n p x (by omega) ex))
  rw [images_read f ids n c _ _ k hk] at ep
  have e1 : Fused.share t ids ix iy w (ix3 n p c) = f (ix4 k c ⟨y, by omega⟩ ⟨x, by omega⟩) * (w (ix2 n p) * inside 0x43470000#32 ix iy (ix2 n p)) := by
    rw [← ht k ⟨y, by omega⟩ ⟨x, by omega⟩ c, ← ef]
    unfold Fused.share
    change mulf (F := Ideal) (φ := .f32) (Host.gather _ t (up (wrap 80000#32 (Fused.rowOf ids (cell 199#32 ix) (cell 199#32 iy))))) _ _ = _
    generalize Host.gather _ t _ = G
    generalize inside _ ix iy = v
    pointwise [times]
  have e2 : Plain.share (val_main_v46 (F := Ideal) f ids) ix iy w (ix3 n c p)
      = f (ix4 k c ⟨y, by omega⟩ ⟨x, by omega⟩) * inside 0x43470000#32 ix iy (ix2 n p) * w (ix2 n p) := by
    rw [← ep]
    unfold Plain.share
    generalize Host.gather _ (val_main_v46 (F := Ideal) f ids) _ = G
    generalize inside _ ix iy = v
    pointwise [Plain.spread]
  rw [e1, e2, mul_assoc, mul_comm (w _)]

/-- The cells the kernel takes, read at a point. -/
theorem pick_read (t : Fused.Cells) (q : Word) (n : Fin 4) (p : Fin 784) (c : Fin 80) (k : Fin 49) (hk : ∀ n p, ∃ j : Fin 49, q (ix2 n p) = BitVec.ofNat 32 j.val)
    (h : q (ix2 n p) = BitVec.ofNat 32 k.val) : Fused.pick t (up q) (ix3 n p c) = t (ix3 n k c) := by
  have ew : Fused.wrapCell (up q) = up q := by
    funext j
    obtain ⟨n, p, o, rfl⟩ : ∃ (n : Fin 4) (p : Fin 784) (o : Fin 1), j = ix3 n p o := ⟨j 0, j 1, j 2, by funext a; fin_cases a <;> rfl⟩
    obtain rfl : o = 0 := Subsingleton.elim _ _
    obtain ⟨j, hj⟩ := hk n p
    have e : Fused.wrapCell (up q) (ix3 n p 0)
        = Scalar.select (Scalar.cmpi .slt (up q (ix3 n p 0)) 0#32) (up q (ix3 n p 0) + 49#32) (up q (ix3 n p 0)) := rfl
    rw [e, up_apply, hj, not_negative _ (by omega)]
    rfl
  unfold Fused.pick
  rw [ew]
  have em : Host.reduce IntOp.andi
        (andi (cmpi .sge (up q) ((broadcastInDim Cert.RefineIdeal.S4x784x1 ![] Cert.RefineIdeal.Facts₀.bcast_S_S4x784x1 : IVec Cert.RefineIdeal.S_ 32 → IVec Cert.RefineIdeal.S4x784x1 32) (constantI Cert.RefineIdeal.S_ 32 0#32)))
          (cmpi .sle (up q) ((broadcastInDim Cert.RefineIdeal.S4x784x1 ![0, 1, 2] Cert.RefineIdeal.Facts₀.bcast_S1x1x1_S4x784x1_0_1_2 : IVec Cert.RefineIdeal.S1x1x1 32 → IVec Cert.RefineIdeal.S4x784x1 32)
            ((broadcastInDim Cert.RefineIdeal.S1x1x1 ![2] Cert.RefineIdeal.Facts₀.bcast_S1_S1x1x1_2 : IVec Cert.RefineIdeal.S1 32 → IVec Cert.RefineIdeal.S1x1x1 32) (constantI Cert.RefineIdeal.S1 32 48#32)))))
        (constantI Cert.RefineIdeal.S_ 1 1#1) Cert.RefineIdeal.Facts₀.reducesTo_S4x784x1_S4x784_d2 Cert.RefineIdeal.Facts₀.h_S_ (ix2 n p) = 1#1 := by
    refine Host.reduce_andi_one _ _ _ _ _ rfl fun j => ?_
    obtain ⟨n, p, o, rfl⟩ : ∃ (n : Fin 4) (p : Fin 784) (o : Fin 1), j = ix3 n p o := ⟨j 0, j 1, j 2, by funext a; fin_cases a <;> rfl⟩
    obtain rfl : o = 0 := Subsingleton.elim _ _
    obtain ⟨j, hj⟩ := hk n p
    show IntOp.andi (Scalar.cmpi .sge (up q (ix3 n p 0)) 0#32) (Scalar.cmpi .sle (up q (ix3 n p 0)) 48#32) = 1#1
    rw [up_apply, hj]
    exact (by decide +kernel : ∀ j : Fin 49, IntOp.andi (Scalar.cmpi .sge (BitVec.ofNat 32 j.val) 0#32) (Scalar.cmpi .sle (BitVec.ofNat 32 j.val) 48#32) = 1#1) j
  have eg := cells_read t (up q) n p c k ((up_apply q n p).trans h)
  refine Eq.trans ?_ eg
  generalize Host.gather _ t (up q) = G
  generalize Host.reduce IntOp.andi _ _ _ _ = R at em
  pointwise
  rw [em]
  rfl

/-- A neighbour's share of the coarse masks is the specification's. -/
theorem shareCoarse_eq (f : Cert.RefineRefIdeal.S4x80x7x7.Idx → EReal) (t : Fused.Cells)
    (ht : ∀ (n : Fin 4) (y x : Fin 7) (c : Fin 80), t (ix3 n ⟨y.val * 7 + x.val, by omega⟩ c) = f (ix4 n c y x))
    (ix iy w : Num) (n : Fin 4) (p : Fin 784) (c : Fin 80) :
    Fused.shareCoarse t ix iy w (ix3 n p c) = Plain.shareCoarse f ix iy w (ix3 n c p) := by
  have eq : ∀ n p, addi (muli (cell 6#32 iy) (allW 7#32)) (cell 6#32 ix) (ix2 n p) = cell 6#32 iy (ix2 n p) * 7#32 + cell 6#32 ix (ix2 n p) :=
    fun _ _ => rfl
  have hq : ∀ n p, ∃ j : Fin 49, addi (muli (cell 6#32 iy) (allW 7#32)) (cell 6#32 ix) (ix2 n p) = BitVec.ofNat 32 j.val := by
    intro n p
    obtain ⟨x, hx, ex⟩ := cell_range 6 (by norm_num) ix n p
    obtain ⟨y, hy, ey⟩ := cell_range 6 (by norm_num) iy n p
    refine ⟨⟨y * 7 + x, by omega⟩, ?_⟩
    rw [eq, ← word_cell]
    exact congrArg₂ (fun a b => a * 7#32 + b) ey ex
  obtain ⟨x, hx, ex⟩ := cell_range 6 (by norm_num) ix n p
  obtain ⟨y, hy, ey⟩ := cell_range 6 (by norm_num) iy n p
  have ef := pick_read t (addi (muli (cell 6#32 iy) (allW 7#32)) (cell 6#32 ix)) n p c ⟨y * 7 + x, by omega⟩ hq
    (by rw [eq, ← word_cell]; exact congrArg₂ (fun a b => a * 7#32 + b) ey ex)
  have ep := coarse_read f (Plain.pair (wrap 7#32 (cell 6#32 iy)) (wrap 7#32 (cell 6#32 ix))) n p c
    ⟨y, by omega⟩ ⟨x, by omega⟩ ((pair_zero _ _ n p).trans (wrap_same _ _ n p y (by omega) ey))
    ((pair_one _ _ n p).trans (wrap_same _ _ n p x (by omega) ex))
  have e1 : Fused.shareCoarse t ix iy w (ix3 n p c) = f (ix4 n c ⟨y, by omega⟩ ⟨x, by omega⟩) * (w (ix2 n p) * inside 0x40C00000#32 ix iy (ix2 n p)) := by
    rw [← ht n ⟨y, by omega⟩ ⟨x, by omega⟩ c, ← ef]
    unfold Fused.shareCoarse
    change mulf (F := Ideal) (φ := .f32) (Fused.pick t (up (addi (muli (cell 6#32 iy) (allW 7#32)) (cell 6#32 ix)))) _ _ = _
    generalize Fused.pick t _ = G
    generalize inside _ ix iy = v
    pointwise [times]
  have e2 : Plain.shareCoarse f ix iy w (ix3 n c p)
      = f (ix4 n c ⟨y, by omega⟩ ⟨x, by omega⟩) * inside 0x40C00000#32 ix iy (ix2 n p) * w (ix2 n p) := by
    rw [← ep]
    unfold Plain.shareCoarse
    generalize Host.gather _ f _ = G
    generalize inside _ ix iy = v
    pointwise [Plain.spreadCoarse]
  rw [e1, e2, mul_assoc, mul_comm (w _)]

/-- The features the fused program reads are the specification's. -/
theorem fine_eq (f : Cert.RefineRefIdeal.S2x256x200x200.Idx → EReal) (t : Fused.Rows)
    (ht : ∀ (k : Fin 2) (y x : Fin 200) (c : Fin 256), t (ix2 ⟨k.val * 40000 + y.val * 200 + x.val, by omega⟩ c) = f (ix4 k c y x))
    (ids : Cert.RefineIdeal.S4.Idx → BitVec 32) (hids : Images ids) (x y : Num) (n : Fin 4) (p : Fin 784) (c : Fin 256) :
    Fused.fine t ids x y (ix3 n p c) = Plain.fine (val_main_v46 (F := Ideal) f ids) x y (ix3 n c p) := by
  unfold Fused.fine Plain.fine
  rw [low_step, low_step]
  show Ideal.ofBits .f32 0x00000000#32 + _ + _ + _ + _ = _ + _ + _ + _
  rw [c_zero, zero_add, share_eq f t ht ids hids, share_eq f t ht ids hids, share_eq f t ht ids hids, share_eq f t ht ids hids]

/-- The coarse masks the fused program reads are the specification's. -/
theorem coarse_eq (f : Cert.RefineRefIdeal.S4x80x7x7.Idx → EReal) (t : Fused.Cells)
    (ht : ∀ (n : Fin 4) (y x : Fin 7) (c : Fin 80), t (ix3 n ⟨y.val * 7 + x.val, by omega⟩ c) = f (ix4 n c y x))
    (x y : Num) (n : Fin 4) (p : Fin 784) (c : Fin 80) :
    Fused.coarse t x y (ix3 n p c) = Plain.coarse f x y (ix3 n c p) := by
  unfold Fused.coarse Plain.coarse
  rw [low_step, low_step]
  show Ideal.ofBits .f32 0x00000000#32 + _ + _ + _ + _ = _ + _ + _ + _
  rw [c_zero, zero_add, shareCoarse_eq f t ht, shareCoarse_eq f t ht, shareCoarse_eq f t ht, shareCoarse_eq f t ht]

end Cert.Sample
end
-- ==== Proof.SampleLaunch.lean ====
/-
  The two launches of the refinement's first pass: the first leaves the features with their channels last, the second
  runs the perceptron over the rows the host line prepared.
-/
module

public import proofs.«01_k».proof.Proof.Sample
public import proofs.«01_k».proof.Proof.MlpValue
public import Idealize.ShloMosaic.Lib.Pipeline.ValueKit

@[expose] public section

set_option maxRecDepth 16384

noncomputable section

namespace Cert.Sample.Launch

open Cert.RefineIdeal Cert.RefineIdeal.Gen Idealize.ShloMosaic Idealize.ShloMosaic.TcCoe Idealize.SL.Sem
open Cert.PointMlp (point mat vec row)

/-- The transposing body on one block. -/
theorem body_apply (v : Vec Ideal S1x256x8x200 .f32) (i : Fin 8) (j : Fin 200) (c : Fin 256) :
    k0_pay1 (F := Ideal) v (ix4 0 i j c) = v (ix4 0 c i j) := by
  pointwise [k0_pay1]

/-- The first launch's blocks: at each step the same band of rows, of one image. -/
theorem idx0 : ∀ t : Fin cfg0.N, win0_0.index t = ![t.val / 25, 0, t.val % 25, 0] ∧ win0_1.index t = ![t.val / 25, t.val % 25, 0, 0] :=
  (by decide +kernel : ∀ t : Fin grid0.N, _)

/-- An array with its channels last. -/
def hwc (X : S2x256x200x200.Idx → EReal) : S2x200x200x256.Idx → EReal := fun j => X (ix4 (j 0) (j 3) (j 1) (j 2))

/-- The block read at a grid point is the transposed array's block written there. -/
theorem block_hwc (X : S2x256x200x200.Idx → EReal) (t : Fin cfg0.N) (i : Fin 8) (j : Fin 200) (o : Fin 256) :
    (((cfg0.win 0).blk t).view.read (Elt Ideal) X : S1x256x8x200.Idx → EReal) (ix4 0 o i j)
      = hwc X (((cfg0.win 1).blk t).view.emb (ix4 (0 : Fin 1) i j o)) := by
  unfold hwc
  blk_ext [idx0 t]

variable (V : (c : Dev nD) → (b : Ref sig .tc) → Buf (Elt Ideal) ((c : Thread nD τ).loc b))

/-- The first launch leaves the features, channels last. -/
theorem features (c : Dev nD) : (dat0 V c).arrAt 1 cfg0.N = hwc (V c main_arg1) := by
  refine (dat0 V c).arrAt_eq_of_covers 1 _ (by decide +kernel) fun t _ y => ?_
  blk_simp
  rw [after0_1]
  frame_out
  obtain ⟨i, j, o, rfl⟩ : ∃ (i : Fin 8) (j : Fin 200) (o : Fin 256), y = ix4 (0 : Fin 1) i j o :=
    ⟨y 1, y 2, y 3, by funext a; fin_cases a; exacts [Fin.ext (Nat.lt_one_iff.mp (y 0).isLt), rfl, rfl, rfl]⟩
  exact (body_apply _ i j o).trans (block_hwc (V c main_arg1) t i j o)

/-- Every window of the second launch stays at the origin. -/
theorem idx1 : ∀ t : Fin cfg1.N, win1_0.index t = ![0, 0] ∧ win1_1.index t = ![0, 0] ∧ win1_2.index t = ![0, 0] ∧ win1_3.index t = ![0, 0] ∧ win1_4.index t = ![0, 0] ∧ win1_5.index t = ![0, 0] ∧ win1_6.index t = ![0, 0] ∧ win1_7.index t = ![0, 0] ∧ win1_8.index t = ![0, 0] ∧ win1_9.index t = ![0, 0] :=
  (by decide +kernel : ∀ t : Fin grid1.N, _)

set_option maxHeartbeats 2000000 in
/-- The second launch's array: the perceptron's value of the arrays at the launch's entry. -/
theorem layers (c : Dev nD) : (dat1 V c).arrAt 10 cfg1.N
    = k1_pay1 (k1_pay2 (V c main_v358) (V c main_v359) (V c main_arg5) (V c main_v360) (V c main_arg7)
        (V c main_v361) (V c main_arg9) (V c main_v362) (V c main_arg11)) (V c main_v363) := by
  refine (dat1 V c).arrAt_eq_of_after_last 10 t1_0 (by decide +kernel) _ fun j => ?_
  blk_simp
  rw [after1_10]
  frame_out
  have e0 : (iblk1 V c 0 t1_0 : Vec Ideal S3136x256 .f32) = V c main_v358 := by blk_ext! [iblk1, idx1 t1_0]
  have e1 : (iblk1 V c 1 t1_0 : Vec Ideal S3136x80 .f32) = V c main_v359 := by blk_ext! [iblk1, idx1 t1_0]
  have e2 : (iblk1 V c 2 t1_0 : Vec Ideal S256x336 .f32) = V c main_arg5 := by blk_ext! [iblk1, idx1 t1_0]
  have e3 : (iblk1 V c 3 t1_0 : Vec Ideal S1x256 .f32) = V c main_v360 := by blk_ext! [iblk1, idx1 t1_0]
  have e4 : (iblk1 V c 4 t1_0 : Vec Ideal S256x336 .f32) = V c main_arg7 := by blk_ext! [iblk1, idx1 t1_0]
  have e5 : (iblk1 V c 5 t1_0 : Vec Ideal S1x256 .f32) = V c main_v361 := by blk_ext! [iblk1, idx1 t1_0]
  have e6 : (iblk1 V c 6 t1_0 : Vec Ideal S256x336 .f32) = V c main_arg9 := by blk_ext! [iblk1, idx1 t1_0]
  have e7 : (iblk1 V c 7 t1_0 : Vec Ideal S1x256 .f32) = V c main_v362 := by blk_ext! [iblk1, idx1 t1_0]
  have e8 : (iblk1 V c 8 t1_0 : Vec Ideal S80x336 .f32) = V c main_arg11 := by blk_ext! [iblk1, idx1 t1_0]
  have e9 : (iblk1 V c 9 t1_0 : Vec Ideal S1x80 .f32) = V c main_v363 := by blk_ext! [iblk1, idx1 t1_0]
  rw [e0, e1, e2, e3, e4, e5, e6, e7, e8, e9]

/-- The two programs contract the same axes in a hidden layer, -/
theorem hidden_dims : dot_S3136x336_S256x336_S3136x256_1_1_0_0_n_n = Cert.MlpIdeal.dot_S3136x336_S256x336_S3136x256_1_1_0_0_n_n := rfl
/-- and in the last one. -/
theorem last_dims : dot_S3136x336_S80x336_S3136x80_1_1_0_0_n_n = Cert.MlpIdeal.dot_S3136x336_S80x336_S3136x80_1_1_0_0_n_n := rfl

/-- The product of the last layer is the one of the perceptron's own program. -/
theorem product_same (P0 : Vec Ideal S3136x256 .f32) (P1 : Vec Ideal S3136x80 .f32) (P2 : Vec Ideal S256x336 .f32)
    (P3 : Vec Ideal S1x256 .f32) (P4 : Vec Ideal S256x336 .f32) (P5 : Vec Ideal S1x256 .f32) (P6 : Vec Ideal S256x336 .f32)
    (P7 : Vec Ideal S1x256 .f32) (P8 : Vec Ideal S80x336 .f32) :
    k1_pay2 P0 P1 P2 P3 P4 P5 P6 P7 P8 = Cert.MlpIdeal.Gen.k0_pay2 P0 P1 P2 P3 P4 P5 P6 P7 P8 := by
  rw [Cert.PointMlp.Kernel.pay2_eq]
  unfold k1_pay2 Cert.PointMlp.Kernel.layer Cert.PointMlp.Kernel.cat
  dsimp only
  rw [hidden_dims, last_dims, shapeCast_id P0, shapeCast_id P1]

/-- So is the addition of the last bias. -/
theorem sum_same (z : FVec Ideal S3136x80 .f32) (P9 : Vec Ideal S1x80 .f32) : k1_pay1 z P9 = Cert.MlpIdeal.Gen.k0_pay1 z P9 := by
  unfold k1_pay1 Cert.MlpIdeal.Gen.k0_pay1
  rfl

/-- The body of the second launch is the perceptron of one point on every row. -/
theorem layers_apply (P0 : Vec Ideal S3136x256 .f32) (P1 : Vec Ideal S3136x80 .f32) (P2 : Vec Ideal S256x336 .f32)
    (P3 : Vec Ideal S1x256 .f32) (P4 : Vec Ideal S256x336 .f32) (P5 : Vec Ideal S1x256 .f32) (P6 : Vec Ideal S256x336 .f32)
    (P7 : Vec Ideal S1x256 .f32) (P8 : Vec Ideal S80x336 .f32) (P9 : Vec Ideal S1x80 .f32) (r : Fin 3136) (o : Fin 80) :
    k1_pay1 (k1_pay2 P0 P1 P2 P3 P4 P5 P6 P7 P8) P9 (ix2 r o)
      = point (mat P2) (row P3) (mat P4) (row P5) (mat P6) (row P7) (mat P8) (row P9)
          (fun i => P0 (ix2 r i)) (fun i => P1 (ix2 r i)) o := by
  rw [product_same, sum_same]
  exact Cert.PointMlp.Kernel.block_apply P0 P1 P2 P3 P4 P5 P6 P7 P8 P9 r o

variable (m : (ℓ : Loc nD τ sig) → Buf (Elt Ideal) ℓ) (ρ : Dev nD → PrngReg)

/-- The features as the host line finds them. -/
theorem features_line (c : Dev nD) : W1 m ρ c (Proc.devRef .tc main_v0) = hwc (m ((c : Thread nD τ).loc main_arg1)) :=
  (W1_arr m ρ c 1).trans (features (V0 m ρ) c)

set_option maxHeartbeats 4000000 in
/-- The first layer's bias as the second launch finds it. -/
theorem bias0 (c : Dev nD) : W46 m ρ c (Proc.devRef .tc main_v360) = shapeCast S1x256 (m ((c : Thread nD τ).loc main_arg6)) shapeCasts_S256_S1x256 := by
  after_reads_simp
  rfl

set_option maxHeartbeats 4000000 in
/-- The second layer's. -/
theorem bias1 (c : Dev nD) : W46 m ρ c (Proc.devRef .tc main_v361) = shapeCast S1x256 (m ((c : Thread nD τ).loc main_arg8)) shapeCasts_S256_S1x256 := by
  after_reads_simp
  rfl

set_option maxHeartbeats 4000000 in
/-- The third layer's. -/
theorem bias2 (c : Dev nD) : W46 m ρ c (Proc.devRef .tc main_v362) = shapeCast S1x256 (m ((c : Thread nD τ).loc main_arg10)) shapeCasts_S256_S1x256 := by
  after_reads_simp
  rfl

set_option maxHeartbeats 4000000 in
/-- The last layer's. -/
theorem bias3 (c : Dev nD) : W46 m ρ c (Proc.devRef .tc main_v363) = shapeCast S1x80 (m ((c : Thread nD τ).loc main_arg12)) shapeCasts_S80_S1x80 := by
  after_reads_simp
  rfl

end Cert.Sample.Launch

end
-- ==== Proof.SampleRun.lean ====
/-
  The run of the refinement's first pass: every execution ends with the second launch's rows as the result, and with the
  arguments as they were.
-/
module

public import proofs.«01_k».proof.Proof.Sample
public import Idealize.ShloMosaic.Lib.Pipeline.ValueKit

@[expose] public section

set_option maxRecDepth 16384

noncomputable section

namespace Cert.Sample.Run

open Cert.RefineIdeal Cert.RefineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The result: the second launch's rows, the rows of an instance together. -/
def result (c : Dev nD) : Buf (Elt Ideal) ((c : Thread nD τ).loc main_v365) :=
  shapeCast S4x784x80 ((dat1 (V46 m ρ) c).arrAt 10 cfg1.N : S3136x80.Idx → EReal) shapeCasts_S3136x80_S4x784x80

/-- The last array is the second launch's rows, one table an instance. -/
theorem last (c : Dev nD) : W48 m ρ c (Proc.devRef .tc main_v365) = result m ρ c := by
  show StableHlo.after hostOps2 (W47 m ρ c) (Proc.devRef .tc main_v365) = _
  after_results
  rw [show W47 m ρ c (Proc.devRef .tc main_v364) = (dat1 (V46 m ρ) c).arrAt 10 cfg1.N from W47_arr m ρ c 10]
  rfl

set_option backward.isDefEq.respectTransparency.types false in
/-- Every execution ends with the result and the arguments unchanged. -/
theorem run : θ_run defs (onTc (τ := τ) (main (F := Ideal))) ⟨m, fun _ => 0, ρ⟩ fun r => ∀ c : Dev nD,
      r.2.mem ((c.tc : Thread nD τ).loc main_v365) = result m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W48 m ρ c b)
    (hfin := fun c s' => by
      iintro ⟨⟨Hh, -⟩, HSI⟩
      unfold StableHlo.held
      imodintro
      iapply (pointsTo_read_all (Pipeline.ucRefs τ sig) (fun b => (((c : Thread nD τ)).1, b)) (W48 m ρ c) s')
      isplitl [Hh] <;> iassumption)
    (hQ := fun s h _ c =>
      ⟨(h c _ (mem_uc main_v365 (by decide))).trans (last m ρ c),
       (h c _ (mem_uc main_arg0 (by decide))).trans (W48_main_arg0 m ρ c),
       (h c _ (mem_uc main_arg1 (by decide))).trans (W48_main_arg1 m ρ c),
       (h c _ (mem_uc main_arg2 (by decide))).trans (W48_main_arg2 m ρ c),
       (h c _ (mem_uc main_arg3 (by decide))).trans (W48_main_arg3 m ρ c),
       (h c _ (mem_uc main_arg4 (by decide))).trans (W48_main_arg4 m ρ c),
       (h c _ (mem_uc main_arg5 (by decide))).trans (W48_main_arg5 m ρ c),
       (h c _ (mem_uc main_arg6 (by decide))).trans (W48_main_arg6 m ρ c),
       (h c _ (mem_uc main_arg7 (by decide))).trans (W48_main_arg7 m ρ c),
       (h c _ (mem_uc main_arg8 (by decide))).trans (W48_main_arg8 m ρ c),
       (h c _ (mem_uc main_arg9 (by decide))).trans (W48_main_arg9 m ρ c),
       (h c _ (mem_uc main_arg10 (by decide))).trans (W48_main_arg10 m ρ c),
       (h c _ (mem_uc main_arg11 (by decide))).trans (W48_main_arg11 m ρ c),
       (h c _ (mem_uc main_arg12 (by decide))).trans (W48_main_arg12 m ρ c)⟩)

end Cert.Sample.Run

end
-- ==== Proof.SampleValue.lean ====
/-
  The refinement's first pass and its reference end with the same array.

  The rows the second launch takes are the features and the coarse masks at the points of an instance, one point a row;
  the reference holds the same numbers with the points last. Both then run one perceptron on every point.
-/
module

public import proofs.«01_k».proof.Defs
public import proofs.«01_k».proof.Proof.SampleLine
public import proofs.«01_k».proof.Proof.SampleCoarse
public import proofs.«01_k».proof.Proof.SampleShare
public import proofs.«01_k».proof.Proof.SampleLaunch
public import proofs.«01_k».proof.Proof.SampleRun
public import proofs.«01_k».proof.Proof.Gen.RefineRefIdeal.Run
public import proofs.«01_k».proof.Proof.Gen.Pre_images_exist
public import Idealize.ShloMosaic.Lib.Claim

@[expose] public section

set_option maxRecDepth 16384

noncomputable section

namespace Cert.Sample

open Idealize.ShloMosaic Idealize.ShloMosaic.TcCoe Idealize.SL.Sem
open Cert.PointMlp (point mat vec row)
open Cert.PointMlp.Kernel (row_cast)

/-- A word between zero and two, as signed numbers, is zero or one. -/
theorem word_image (w : BitVec 32) (h : IntOp.cmpi .sge w 0#32 &&& IntOp.cmpi .slt w 2#32 = 1#1) : ∃ k : Fin 2, w = BitVec.ofNat 32 k.val := by
  have e : (0#32).sle w = true ∧ w.slt 2#32 = true := by
    revert h
    simp only [IntOp.cmpi]
    cases (0#32).sle w <;> cases w.slt 2#32 <;> decide
  have h0 : 0 ≤ w.toInt := by simpa [BitVec.sle] using e.1
  have h2 : w.toInt < 2 := by simpa [BitVec.slt] using e.2
  refine ⟨⟨w.toInt.toNat, by omega⟩, ?_⟩
  show w = BitVec.ofNat 32 w.toInt.toNat
  rw [← BitVec.ofInt_natCast, Int.toNat_of_nonneg h0, BitVec.ofInt_toInt]

/-- The precondition read: every image number names an image. -/
theorem images_of_pre [Cert.Pre_images_exist.Facts] (a0 : IVec Cert.Pre_images_exist.S4x784 32) (a1 a2 a3 a5 a6 a7 a8 a9 a10 a11 a12) (ids : IVec Cert.Pre_images_exist.S4 32)
    (h : Cert.Pre_images_exist.fn (F := Ideal) a0 a1 a2 a3 ids a5 a6 a7 a8 a9 a10 a11 a12 = fun _ => 1#1) : Images ids :=
  fun n => word_image _ (congrFun h (ix1 n))

/-- The features as one table of rows, read at a row. -/
theorem rows_features (X : Cert.RefineIdeal.S2x256x200x200.Idx → EReal) (k : Fin 2) (y x : Fin 200) (c : Fin 256) :
    shapeCast Cert.RefineIdeal.S80000x256 (Launch.hwc X) Cert.RefineIdeal.Gen.shapeCasts_S2x200x200x256_S80000x256
      (ix2 ⟨k.val * 40000 + y.val * 200 + x.val, by omega⟩ c) = X (ix4 k c y x) := by
  refine shapeCast_apply _ _ _ (ix4 k y x c) ?_
  rw [Shape.rowMajor_val_two, Shape.rowMajor_val_four]
  show ((k.val * 200 + y.val) * 200 + x.val) * 256 + c.val = (k.val * 40000 + y.val * 200 + x.val) * 256 + c.val
  omega

/-- The coarse masks as tables of cells, read at a cell. -/
theorem cells_masks (X : Cert.RefineIdeal.S4x80x7x7.Idx → EReal) (n : Fin 4) (y x : Fin 7) (c : Fin 80) :
    shapeCast Cert.RefineIdeal.S4x49x80 (transpose Cert.RefineIdeal.S4x7x7x80 [0, 2, 3, 1] X
        Cert.RefineIdeal.Gen.transposes_S4x80x7x7_S4x7x7x80_0_2_3_1) Cert.RefineIdeal.Gen.shapeCasts_S4x7x7x80_S4x49x80
      (ix3 n ⟨y.val * 7 + x.val, by omega⟩ c) = X (ix4 n c y x) := by
  refine (shapeCast_apply _ _ _ (ix4 n y x c) ?_).trans ?_
  · rw [Shape.rowMajor_val_three, Shape.rowMajor_val_four]
    show ((n.val * 7 + y.val) * 7 + x.val) * 80 + c.val = (n.val * 49 + (y.val * 7 + x.val)) * 80 + c.val
    omega
  · pointwise

/-- Arrays of one row a point, read at the row of point `p` of instance `n`. -/
theorem row_of_point {w : Nat} (X : (⟨3, ![4, 784, w]⟩ : Shape).Idx → EReal) (h : (⟨3, ![4, 784, w]⟩ : Shape).ShapeCasts ⟨2, ![3136, w]⟩)
    (n : Fin 4) (p : Fin 784) (c : Fin w) :
    shapeCast ⟨2, ![3136, w]⟩ X h (ix2 ⟨n.val * 784 + p.val, by omega⟩ c) = X (ix3 n p c) := by
  refine shapeCast_apply _ _ _ (ix3 n p c) ?_
  rw [Shape.rowMajor_val_two, Shape.rowMajor_val_three]
  rfl

section Fused
open Cert.RefineIdeal Cert.RefineIdeal.Gen Cert.RefineRefIdeal.Read

variable (m : (ℓ : Loc nD τ sig) → Buf (Elt Ideal) ℓ) (ρ : Dev nD → PrngReg)

/-- The features in the row of a point are the reference's. -/
theorem fine_row (c : Dev nD) (hids : Images (m ((c : Thread nD τ).loc main_arg4))) (n : Fin 4) (p : Fin 784) (i : Fin 256) :
    (W46 m ρ c (Proc.devRef .tc main_v358) : S3136x256.Idx → EReal) (ix2 ⟨n.val * 784 + p.val, by omega⟩ i)
      = val_main_v233 (F := Ideal) (m ((c : Thread nD τ).loc main_arg0)) (m ((c : Thread nD τ).loc main_arg1))
          (m ((c : Thread nD τ).loc main_arg3)) (m ((c : Thread nD τ).loc main_arg4)) (ix3 n i p) := by
  rw [Fused.line_fine, Launch.features_line, Plain.stage_fine, place_fine_x, place_fine_y]
  refine (row_of_point _ _ n p i).trans ?_
  exact fine_eq _ _ (rows_features _) _ hids _ _ n p i

/-- The coarse masks in the row of a point are the reference's. -/
theorem coarse_row (c : Dev nD) (n : Fin 4) (p : Fin 784) (i : Fin 80) :
    (W46 m ρ c (Proc.devRef .tc main_v359) : S3136x80.Idx → EReal) (ix2 ⟨n.val * 784 + p.val, by omega⟩ i)
      = val_main_v420 (F := Ideal) (m ((c : Thread nD τ).loc main_arg0)) (m ((c : Thread nD τ).loc main_arg2)) (ix3 n i p) := by
  rw [Fused.line_coarse, Plain.stage_coarse, place_coarse_x, place_coarse_y]
  refine (row_of_point _ _ n p i).trans ?_
  exact coarse_eq _ _ (cells_masks _) _ _ n p i

/-- The second launch's entry: an argument is as it was. -/
theorem entry (c : Dev nD) (a : Ref sig .tc) (h : a ∈ argRefs) : V46 m ρ c a = m ((c : Thread nD τ).loc a) := W46_args m ρ c a h

/-- The result at a point and a class: the perceptron on the reference's features and coarse masks there. -/
theorem result_apply (c : Dev nD) (hids : Images (m ((c : Thread nD τ).loc main_arg4))) (n : Fin 4) (p : Fin 784) (o : Fin 80) :
    (Run.result m ρ c : S4x784x80.Idx → EReal) (ix3 n p o)
      = point (mat (m ((c : Thread nD τ).loc main_arg5))) (vec (m ((c : Thread nD τ).loc main_arg6)))
          (mat (m ((c : Thread nD τ).loc main_arg7))) (vec (m ((c : Thread nD τ).loc main_arg8)))
          (mat (m ((c : Thread nD τ).loc main_arg9))) (vec (m ((c : Thread nD τ).loc main_arg10)))
          (mat (m ((c : Thread nD τ).loc main_arg11))) (vec (m ((c : Thread nD τ).loc main_arg12)))
          (fun i => val_main_v233 (F := Ideal) (m ((c : Thread nD τ).loc main_arg0)) (m ((c : Thread nD τ).loc main_arg1))
            (m ((c : Thread nD τ).loc main_arg3)) (m ((c : Thread nD τ).loc main_arg4)) (ix3 n i p))
          (fun i => val_main_v420 (F := Ideal) (m ((c : Thread nD τ).loc main_arg0)) (m ((c : Thread nD τ).loc main_arg2)) (ix3 n i p)) o := by
  have hf := fun i => fine_row m ρ c hids n p i
  have hc := fun i => coarse_row m ρ c n p i
  simp only [← hf, ← hc]
  unfold Run.result
  refine (shapeCast_apply _ _ _ (ix2 (⟨n.val * 784 + p.val, by omega⟩ : Fin 3136) o) ?_).trans ?_
  · rw [Shape.rowMajor_val_two, Shape.rowMajor_val_three]
    rfl
  rw [Launch.layers, Launch.layers_apply]
  rw [entry m ρ c main_arg5 (by decide), entry m ρ c main_arg7 (by decide), entry m ρ c main_arg9 (by decide), entry m ρ c main_arg11 (by decide)]
  rw [show V46 m ρ c main_v360 = _ from Launch.bias0 m ρ c, show V46 m ρ c main_v361 = _ from Launch.bias1 m ρ c,
    show V46 m ρ c main_v362 = _ from Launch.bias2 m ρ c, show V46 m ρ c main_v363 = _ from Launch.bias3 m ρ c]
  rw [row_cast, row_cast, row_cast, row_cast]

end Fused

/-- The two programs of the refinement's first pass end with the same array. -/
theorem algebraic : Cert.algebraic_RefineIdeal_RefineRefIdeal_pre_images_exist (hRefineIdeal := Cert.RefineIdeal.Gen.facts)
    (hRefineRefIdeal := Cert.RefineRefIdeal.Gen.facts) (hPre_images_exist := Cert.Pre_images_exist.Gen.facts) := by
  intro m g m' g' hpre hagree
  refine ⟨fun c => Run.result m g c, Run.run m g,
    (θ_run Cert.RefineRefIdeal.defs _ _).mono (fun r h c => ⟨?_, (h c).2⟩) (Cert.RefineRefIdeal.Value.run m' g')⟩
  refine ((h c).1.trans (Cert.RefineRefIdeal.Read.val_main_v448_eq ..)).trans ?_
  obtain ⟨h0, h1, h2, h3, h4, h5, h6, h7, h8, h9, h10, h11, h12⟩ := hagree c
  show Cert.RefineRefIdeal.Read.val_main_v448 (F := Ideal)
      (m' (c.tc.loc Cert.RefineRefIdeal.main_arg0)) (m' (c.tc.loc Cert.RefineRefIdeal.main_arg1))
      (m' (c.tc.loc Cert.RefineRefIdeal.main_arg2)) (m' (c.tc.loc Cert.RefineRefIdeal.main_arg3))
      (m' (c.tc.loc Cert.RefineRefIdeal.main_arg4)) (m' (c.tc.loc Cert.RefineRefIdeal.main_arg5))
      (m' (c.tc.loc Cert.RefineRefIdeal.main_arg6)) (m' (c.tc.loc Cert.RefineRefIdeal.main_arg7))
      (m' (c.tc.loc Cert.RefineRefIdeal.main_arg8)) (m' (c.tc.loc Cert.RefineRefIdeal.main_arg9))
      (m' (c.tc.loc Cert.RefineRefIdeal.main_arg10)) (m' (c.tc.loc Cert.RefineRefIdeal.main_arg11))
      (m' (c.tc.loc Cert.RefineRefIdeal.main_arg12)) = _
  rw [h0, h1, h2, h3, h4, h5, h6, h7, h8, h9, h10, h11, h12]
  funext j
  obtain ⟨n, p, o, rfl⟩ : ∃ (n : Fin 4) (p : Fin 784) (o : Fin 80), j = ix3 n p o :=
    ⟨j 0, j 1, j 2, by funext a; fin_cases a <;> rfl⟩
  refine Eq.trans ?_ (result_apply m g c (images_of_pre _ _ _ _ _ _ _ _ _ _ _ _ _ (hpre c)) n p o).symm
  refine Eq.trans ?_ (Cert.PointMlp.Reference.tower_apply ..)
  rw [← Plain.stage_tower]
  pointwise [Cert.RefineRefIdeal.Read.val_main_v448]

end Cert.Sample

end
-- ==== Proof.lean ====
/-
  The certificate: the frames are the generated ones, the ideal pass rewrote nothing, and the value claims are
  `Cert.PointMlp.algebraic` for the perceptron, `Cert.Sample.algebraic` for the refinement's first pass, `Cert.Taps.algebraic` and `Cert.Halves.algebraic` for the resizings and
  `Cert.WriteBack.algebraic` for the write-back.
-/
module

public import proofs.«01_k».proof.Defs
public import proofs.«01_k».proof.Proof.Gen.Mlp.Frame
public import proofs.«01_k».proof.Proof.Gen.MlpIdeal.Frame
public import proofs.«01_k».proof.Proof.Gen.MlpRefIdeal.Run
public import proofs.«01_k».proof.Proof.Gen.Refine.Frame
public import proofs.«01_k».proof.Proof.Gen.RefineIdeal.Frame
public import proofs.«01_k».proof.Proof.Gen.RefineRefIdeal.Run
public import proofs.«01_k».proof.Proof.MlpValue
public import proofs.«01_k».proof.Proof.Upsample
public import proofs.«01_k».proof.Proof.Middle
public import proofs.«01_k».proof.Proof.Finish
public import proofs.«01_k».proof.Proof.SampleValue
public import Idealize.ShloMosaic.Lib.Quiescent

@[expose] public section

theorem Cert.Proof.claim : Cert.Claim :=
  ⟨Cert.Mlp.Gen.facts, Cert.MlpIdeal.Gen.facts, Cert.MlpRefIdeal.Gen.facts, Cert.Refine.Gen.facts, Cert.RefineIdeal.Gen.facts,
    Cert.RefineRefIdeal.Gen.facts, Cert.Upsample.Gen.facts, Cert.UpsampleIdeal.Gen.facts, Cert.UpsampleRefIdeal.Gen.facts,
    Cert.Middle.Gen.facts, Cert.MiddleIdeal.Gen.facts, Cert.MiddleRefIdeal.Gen.facts,
    Cert.Finish.Gen.facts, Cert.FinishIdeal.Gen.facts, Cert.FinishRefIdeal.Gen.facts, Cert.Pre_images_exist.Gen.facts,
    fun m ρ _ => Cert.Mlp.Gen.frame m ρ, fun m ρ _ => Cert.MlpIdeal.Gen.frame m ρ,
    fun m ρ _ => (Idealize.ShloMosaic.θ_run Cert.MlpRefIdeal.defs _ _).mono
      (fun r h => ⟨fun c => (h c).2, Idealize.ShloMosaic.sem_eq_zero_of_no_sems (by decide) r.2⟩) (Cert.MlpRefIdeal.Value.run m ρ),
    fun m ρ _ => Cert.Refine.Gen.frame m ρ, fun m ρ _ => Cert.RefineIdeal.Gen.frame m ρ, fun m ρ _ => Cert.RefineIdeal.Gen.frame m ρ,
    fun m ρ _ => (Idealize.ShloMosaic.θ_run Cert.RefineRefIdeal.defs _ _).mono
      (fun r h => ⟨fun c => (h c).2, Idealize.ShloMosaic.sem_eq_zero_of_no_sems (by decide) r.2⟩) (Cert.RefineRefIdeal.Value.run m ρ),
    fun m ρ _ => (Idealize.ShloMosaic.θ_run Cert.RefineRefIdeal.defs _ _).mono
      (fun r h => ⟨fun c => (h c).2, Idealize.ShloMosaic.sem_eq_zero_of_no_sems (by decide) r.2⟩) (Cert.RefineRefIdeal.Value.run m ρ),
    fun m ρ _ => Cert.Upsample.Gen.frame m ρ, fun m ρ _ => Cert.UpsampleIdeal.Gen.frame m ρ,
    fun m ρ _ => (Idealize.ShloMosaic.θ_run Cert.UpsampleRefIdeal.defs _ _).mono
      (fun r h => ⟨fun c => (h c).2, Idealize.ShloMosaic.sem_eq_zero_of_no_sems (by decide) r.2⟩) (Cert.UpsampleRefIdeal.Value.run m ρ),
    fun m ρ _ => Cert.Middle.Gen.frame m ρ, fun m ρ _ => Cert.MiddleIdeal.Gen.frame m ρ,
    fun m ρ _ => (Idealize.ShloMosaic.θ_run Cert.MiddleRefIdeal.defs _ _).mono
      (fun r h => ⟨fun c => (h c).2, Idealize.ShloMosaic.sem_eq_zero_of_no_sems (by decide) r.2⟩) (Cert.MiddleRefIdeal.Value.run m ρ),
    fun m ρ _ => Cert.Finish.Gen.frame m ρ, fun m ρ _ => Cert.FinishIdeal.Gen.frame m ρ,
    fun m ρ _ => (Idealize.ShloMosaic.θ_run Cert.FinishRefIdeal.defs _ _).mono
      (fun r h => ⟨fun c => (h c).2, Idealize.ShloMosaic.sem_eq_zero_of_no_sems (by decide) r.2⟩) (Cert.FinishRefIdeal.Value.run m ρ),
    trivial, Cert.PointMlp.algebraic, trivial, Cert.Sample.algebraic, trivial, Cert.Taps.algebraic, trivial, Cert.Halves.algebraic, trivial,
    Cert.WriteBack.algebraic⟩
